-- ==== Defs.lean ====
def Pre_FfnOne (m : (ℓ : Loc Cert.FfnOne.nD Cert.FfnOne.τ Cert.FfnOne.sig) → Buf (Elt Bits) ℓ) : Prop :=
  True

def Pre_FfnOneIdeal (m : (ℓ : Loc Cert.FfnOneIdeal.nD Cert.FfnOneIdeal.τ Cert.FfnOneIdeal.sig) → Buf (Elt Ideal) ℓ) : Prop :=
  True

def Pre_FfnOneRefIdeal (m : (ℓ : Loc Cert.FfnOneRefIdeal.nD Cert.FfnOneRefIdeal.τ Cert.FfnOneRefIdeal.sig) → Buf (Elt Ideal) ℓ) : Prop :=
  True

def Pre_FfnTwo (m : (ℓ : Loc Cert.FfnTwo.nD Cert.FfnTwo.τ Cert.FfnTwo.sig) → Buf (Elt Bits) ℓ) : Prop :=
  True

def Pre_FfnTwoIdeal (m : (ℓ : Loc Cert.FfnTwoIdeal.nD Cert.FfnTwoIdeal.τ Cert.FfnTwoIdeal.sig) → Buf (Elt Ideal) ℓ) : Prop :=
  True

def Pre_FfnTwoRefIdeal (m : (ℓ : Loc Cert.FfnTwoRefIdeal.nD Cert.FfnTwoRefIdeal.τ Cert.FfnTwoRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite_inputs [hPre_finite_inputs : Cert.Pre_finite_inputs.Facts] (m : (ℓ : Loc Cert.MixerIdeal.nD Cert.MixerIdeal.τ Cert.MixerIdeal.sig) → Buf (Elt Ideal) ℓ) : Prop :=
  ∀ c : Dev Cert.MixerIdeal.nD,
    (Cert.Pre_finite_inputs.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15)) (m ((c.tc : Thread Cert.MixerIdeal.nD Cert.MixerIdeal.τ).loc Cert.MixerIdeal.main_arg16)) (m ((c.tc : Thread Cert.MixerIdeal.nD Cert.MixerIdeal.τ).loc Cert.MixerIdeal.main_arg17)) (m ((c.tc : Thread Cert.MixerIdeal.nD Cert.MixerIdeal.τ).loc Cert.MixerIdeal.main_arg18)) (m ((c.tc : Thread Cert.MixerIdeal.nD Cert.MixerIdeal.τ).loc Cert.MixerIdeal.main_arg19)) (m ((c.tc : Thread Cert.MixerIdeal.nD Cert.MixerIdeal.τ).loc Cert.MixerIdeal.main_arg20)) (m ((c.tc : Thread Cert.MixerIdeal.nD Cert.MixerIdeal.τ).loc Cert.MixerIdeal.main_arg21)) (m ((c.tc : Thread Cert.MixerIdeal.nD Cert.MixerIdeal.τ).loc Cert.MixerIdeal.main_arg22))).1 = (fun _ => 1#1)
    ∧ (Cert.Pre_finite_inputs.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15)) (m ((c.tc : Thread Cert.MixerIdeal.nD Cert.MixerIdeal.τ).loc Cert.MixerIdeal.main_arg16)) (m ((c.tc : Thread Cert.MixerIdeal.nD Cert.MixerIdeal.τ).loc Cert.MixerIdeal.main_arg17)) (m ((c.tc : Thread Cert.MixerIdeal.nD Cert.MixerIdeal.τ).loc Cert.MixerIdeal.main_arg18)) (m ((c.tc : Thread Cert.MixerIdeal.nD Cert.MixerIdeal.τ).loc Cert.MixerIdeal.main_arg19)) (m ((c.tc : Thread Cert.MixerIdeal.nD Cert.MixerIdeal.τ).loc Cert.MixerIdeal.main_arg20)) (m ((c.tc : Thread Cert.MixerIdeal.nD Cert.MixerIdeal.τ).loc Cert.MixerIdeal.main_arg21)) (m ((c.tc : Thread Cert.MixerIdeal.nD Cert.MixerIdeal.τ).loc Cert.MixerIdeal.main_arg22))).2.1 = (fun _ => 1#1)
    ∧ (Cert.Pre_finite_inputs.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15)) (m ((c.tc : Thread Cert.MixerIdeal.nD Cert.MixerIdeal.τ).loc Cert.MixerIdeal.main_arg16)) (m ((c.tc : Thread Cert.MixerIdeal.nD Cert.MixerIdeal.τ).loc Cert.MixerIdeal.main_arg17)) (m ((c.tc : Thread Cert.MixerIdeal.nD Cert.MixerIdeal.τ).loc Cert.MixerIdeal.main_arg18)) (m ((c.tc : Thread Cert.MixerIdeal.nD Cert.MixerIdeal.τ).loc Cert.MixerIdeal.main_arg19)) (m ((c.tc : Thread Cert.MixerIdeal.nD Cert.MixerIdeal.τ).loc Cert.MixerIdeal.main_arg20)) (m ((c.tc : Thread Cert.MixerIdeal.nD Cert.MixerIdeal.τ).loc Cert.MixerIdeal.main_arg21)) (m ((c.tc : Thread Cert.MixerIdeal.nD Cert.MixerIdeal.τ).loc Cert.MixerIdeal.main_arg22))).2.2.1 = (fun _ => 1#1)
    ∧ (Cert.Pre_finite_inputs.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15)) (m ((c.tc : Thread Cert.MixerIdeal.nD Cert.MixerIdeal.τ).loc Cert.MixerIdeal.main_arg16)) (m ((c.tc : Thread Cert.MixerIdeal.nD Cert.MixerIdeal.τ).loc Cert.MixerIdeal.main_arg17)) (m ((c.tc : Thread Cert.MixerIdeal.nD Cert.MixerIdeal.τ).loc Cert.MixerIdeal.main_arg18)) (m ((c.tc : Thread Cert.MixerIdeal.nD Cert.MixerIdeal.τ).loc Cert.MixerIdeal.main_arg19)) (m ((c.tc : Thread Cert.MixerIdeal.nD Cert.MixerIdeal.τ).loc Cert.MixerIdeal.main_arg20)) (m ((c.tc : Thread Cert.MixerIdeal.nD Cert.MixerIdeal.τ).loc Cert.MixerIdeal.main_arg21)) (m ((c.tc : Thread Cert.MixerIdeal.nD Cert.MixerIdeal.τ).loc Cert.MixerIdeal.main_arg22))).2.2.2 = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite_inputs [hPre_finite_inputs : Cert.Pre_finite_inputs.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite_inputs.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13)) (m ((c.tc : Thread Cert.MixerRefIdeal.nD Cert.MixerRefIdeal.τ).loc Cert.MixerRefIdeal.main_arg14)) (m ((c.tc : Thread Cert.MixerRefIdeal.nD Cert.MixerRefIdeal.τ).loc Cert.MixerRefIdeal.main_arg15)) (m ((c.tc : Thread Cert.MixerRefIdeal.nD Cert.MixerRefIdeal.τ).loc Cert.MixerRefIdeal.main_arg16)) (m ((c.tc : Thread Cert.MixerRefIdeal.nD Cert.MixerRefIdeal.τ).loc Cert.MixerRefIdeal.main_arg17)) (m ((c.tc : Thread Cert.MixerRefIdeal.nD Cert.MixerRefIdeal.τ).loc Cert.MixerRefIdeal.main_arg18)) (m ((c.tc : Thread Cert.MixerRefIdeal.nD Cert.MixerRefIdeal.τ).loc Cert.MixerRefIdeal.main_arg19)) (m ((c.tc : Thread Cert.MixerRefIdeal.nD Cert.MixerRefIdeal.τ).loc Cert.MixerRefIdeal.main_arg20)) (m ((c.tc : Thread Cert.MixerRefIdeal.nD Cert.MixerRefIdeal.τ).loc Cert.MixerRefIdeal.main_arg21)) (m ((c.tc : Thread Cert.MixerRefIdeal.nD Cert.MixerRefIdeal.τ).loc Cert.MixerRefIdeal.main_arg22))).1 = (fun _ => 1#1)
    ∧ (Cert.Pre_finite_inputs.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13)) (m ((c.tc : Thread Cert.MixerRefIdeal.nD Cert.MixerRefIdeal.τ).loc Cert.MixerRefIdeal.main_arg14)) (m ((c.tc : Thread Cert.MixerRefIdeal.nD Cert.MixerRefIdeal.τ).loc Cert.MixerRefIdeal.main_arg15)) (m ((c.tc : Thread Cert.MixerRefIdeal.nD Cert.MixerRefIdeal.τ).loc Cert.MixerRefIdeal.main_arg16)) (m ((c.tc : Thread Cert.MixerRefIdeal.nD Cert.MixerRefIdeal.τ).loc Cert.MixerRefIdeal.main_arg17)) (m ((c.tc : Thread Cert.MixerRefIdeal.nD Cert.MixerRefIdeal.τ).loc Cert.MixerRefIdeal.main_arg18)) (m ((c.tc : Thread Cert.MixerRefIdeal.nD Cert.MixerRefIdeal.τ).loc Cert.MixerRefIdeal.main_arg19)) (m ((c.tc : Thread Cert.MixerRefIdeal.nD Cert.MixerRefIdeal.τ).loc Cert.MixerRefIdeal.main_arg20)) (m ((c.tc : Thread Cert.MixerRefIdeal.nD Cert.MixerRefIdeal.τ).loc Cert.MixerRefIdeal.main_arg21)) (m ((c.tc : Thread Cert.MixerRefIdeal.nD Cert.MixerRefIdeal.τ).loc Cert.MixerRefIdeal.main_arg22))).2.1 = (fun _ => 1#1)
    ∧ (Cert.Pre_finite_inputs.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13)) (m ((c.tc : Thread Cert.MixerRefIdeal.nD Cert.MixerRefIdeal.τ).loc Cert.MixerRefIdeal.main_arg14)) (m ((c.tc : Thread Cert.MixerRefIdeal.nD Cert.MixerRefIdeal.τ).loc Cert.MixerRefIdeal.main_arg15)) (m ((c.tc : Thread Cert.MixerRefIdeal.nD Cert.MixerRefIdeal.τ).loc Cert.MixerRefIdeal.main_arg16)) (m ((c.tc : Thread Cert.MixerRefIdeal.nD Cert.MixerRefIdeal.τ).loc Cert.MixerRefIdeal.main_arg17)) (m ((c.tc : Thread Cert.MixerRefIdeal.nD Cert.MixerRefIdeal.τ).loc Cert.MixerRefIdeal.main_arg18)) (m ((c.tc : Thread Cert.MixerRefIdeal.nD Cert.MixerRefIdeal.τ).loc Cert.MixerRefIdeal.main_arg19)) (m ((c.tc : Thread Cert.MixerRefIdeal.nD Cert.MixerRefIdeal.τ).loc Cert.MixerRefIdeal.main_arg20)) (m ((c.tc : Thread Cert.MixerRefIdeal.nD Cert.MixerRefIdeal.τ).loc Cert.MixerRefIdeal.main_arg21)) (m ((c.tc : Thread Cert.MixerRefIdeal.nD Cert.MixerRefIdeal.τ).loc Cert.MixerRefIdeal.main_arg22))).2.2.1 = (fun _ => 1#1)
    ∧ (Cert.Pre_finite_inputs.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13)) (m ((c.tc : Thread Cert.MixerRefIdeal.nD Cert.MixerRefIdeal.τ).loc Cert.MixerRefIdeal.main_arg14)) (m ((c.tc : Thread Cert.MixerRefIdeal.nD Cert.MixerRefIdeal.τ).loc Cert.MixerRefIdeal.main_arg15)) (m ((c.tc : Thread Cert.MixerRefIdeal.nD Cert.MixerRefIdeal.τ).loc Cert.MixerRefIdeal.main_arg16)) (m ((c.tc : Thread Cert.MixerRefIdeal.nD Cert.MixerRefIdeal.τ).loc Cert.MixerRefIdeal.main_arg17)) (m ((c.tc : Thread Cert.MixerRefIdeal.nD Cert.MixerRefIdeal.τ).loc Cert.MixerRefIdeal.main_arg18)) (m ((c.tc : Thread Cert.MixerRefIdeal.nD Cert.MixerRefIdeal.τ).loc Cert.MixerRefIdeal.main_arg19)) (m ((c.tc : Thread Cert.MixerRefIdeal.nD Cert.MixerRefIdeal.τ).loc Cert.MixerRefIdeal.main_arg20)) (m ((c.tc : Thread Cert.MixerRefIdeal.nD Cert.MixerRefIdeal.τ).loc Cert.MixerRefIdeal.main_arg21)) (m ((c.tc : Thread Cert.MixerRefIdeal.nD Cert.MixerRefIdeal.τ).loc Cert.MixerRefIdeal.main_arg22))).2.2.2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_FfnSampleOne (m : (ℓ : Loc Cert.FfnSampleOne.nD Cert.FfnSampleOne.τ Cert.FfnSampleOne.sig) → Buf (Elt Bits) ℓ) : Prop :=
  True

def Pre_FfnSampleOneIdeal (m : (ℓ : Loc Cert.FfnSampleOneIdeal.nD Cert.FfnSampleOneIdeal.τ Cert.FfnSampleOneIdeal.sig) → Buf (Elt Ideal) ℓ) : Prop :=
  True

def Pre_FfnSampleOneRefIdeal (m : (ℓ : Loc Cert.FfnSampleOneRefIdeal.nD Cert.FfnSampleOneRefIdeal.τ Cert.FfnSampleOneRefIdeal.sig) → Buf (Elt Ideal) ℓ) : Prop :=
  True

def quiescent_FfnOne [hFfnOne : Cert.FfnOne.Facts] : Prop :=
  ∀ (m : (ℓ : Loc Cert.FfnOne.nD Cert.FfnOne.τ Cert.FfnOne.sig) → Buf (Elt Bits) ℓ) (g : Dev Cert.FfnOne.nD → PrngReg), Pre_FfnOne m →
    θ_run (Cert.FfnOne.defs (F := Bits)) (onTc (τ := Cert.FfnOne.τ) (Cert.FfnOne.main (F := Bits))) ⟨m, fun _ => 0, g⟩ (fun r => (∀ c : Dev Cert.FfnOne.nD,
      r.2.mem ((c.tc : Thread Cert.FfnOne.nD Cert.FfnOne.τ).loc Cert.FfnOne.main_arg0) = m ((c.tc : Thread Cert.FfnOne.nD Cert.FfnOne.τ).loc Cert.FfnOne.main_arg0)
      ∧ r.2.mem ((c.tc : Thread Cert.FfnOne.nD Cert.FfnOne.τ).loc Cert.FfnOne.main_arg1) = m ((c.tc : Thread Cert.FfnOne.nD Cert.FfnOne.τ).loc Cert.FfnOne.main_arg1)
      ∧ r.2.mem ((c.tc : Thread Cert.FfnOne.nD Cert.FfnOne.τ).loc Cert.FfnOne.main_arg2) = m ((c.tc : Thread Cert.FfnOne.nD Cert.FfnOne.τ).loc Cert.FfnOne.main_arg2)
      ∧ r.2.mem ((c.tc : Thread Cert.FfnOne.nD Cert.FfnOne.τ).loc Cert.FfnOne.main_arg3) = m ((c.tc : Thread Cert.FfnOne.nD Cert.FfnOne.τ).loc Cert.FfnOne.main_arg3)
      ∧ r.2.mem ((c.tc : Thread Cert.FfnOne.nD Cert.FfnOne.τ).loc Cert.FfnOne.main_arg4) = m ((c.tc : Thread Cert.FfnOne.nD Cert.FfnOne.τ).loc Cert.FfnOne.main_arg4))
      ∧ r.2.sem = fun _ => 0)

def quiescent_FfnOneIdeal [hFfnOneIdeal : Cert.FfnOneIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg), Pre_FfnOneIdeal m →
    θ_run (Cert.FfnOneIdeal.defs (F := Ideal)) (onTc (τ := Cert.FfnOneIdeal.τ) (Cert.FfnOneIdeal.main (F := Ideal))) ⟨m, fun _ => 0, g⟩ (fun r => (∀ c : Dev Cert.FfnOneIdeal.nD,
      r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
      ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
      ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
      ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
      ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4))
      ∧ r.2.sem = fun _ => 0)

def quiescent_FfnOneRefIdeal [hFfnOneRefIdeal : Cert.FfnOneRefIdeal.Facts] : Prop :=
  ∀ (m : (ℓ : Loc Cert.FfnOneRefIdeal.nD Cert.FfnOneRefIdeal.τ Cert.FfnOneRefIdeal.sig) → Buf (Elt Ideal) ℓ) (g : Dev Cert.FfnOneRefIdeal.nD → PrngReg), Pre_FfnOneRefIdeal m →
    θ_run (Cert.FfnOneRefIdeal.defs (F := Ideal)) (onTc (τ := Cert.FfnOneRefIdeal.τ) (Cert.FfnOneRefIdeal.main (F := Ideal))) ⟨m, fun _ => 0, g⟩ (fun r => (∀ c : Dev Cert.FfnOneRefIdeal.nD,
      r.2.mem ((c.tc : Thread Cert.FfnOneRefIdeal.nD Cert.FfnOneRefIdeal.τ).loc Cert.FfnOneRefIdeal.main_arg0) = m ((c.tc : Thread Cert.FfnOneRefIdeal.nD Cert.FfnOneRefIdeal.τ).loc Cert.FfnOneRefIdeal.main_arg0)
      ∧ r.2.mem ((c.tc : Thread Cert.FfnOneRefIdeal.nD Cert.FfnOneRefIdeal.τ).loc Cert.FfnOneRefIdeal.main_arg1) = m ((c.tc : Thread Cert.FfnOneRefIdeal.nD Cert.FfnOneRefIdeal.τ).loc Cert.FfnOneRefIdeal.main_arg1)
      ∧ r.2.mem ((c.tc : Thread Cert.FfnOneRefIdeal.nD Cert.FfnOneRefIdeal.τ).loc Cert.FfnOneRefIdeal.main_arg2) = m ((c.tc : Thread Cert.FfnOneRefIdeal.nD Cert.FfnOneRefIdeal.τ).loc Cert.FfnOneRefIdeal.main_arg2)
      ∧ r.2.mem ((c.tc : Thread Cert.FfnOneRefIdeal.nD Cert.FfnOneRefIdeal.τ).loc Cert.FfnOneRefIdeal.main_arg3) = m ((c.tc : Thread Cert.FfnOneRefIdeal.nD Cert.FfnOneRefIdeal.τ).loc Cert.FfnOneRefIdeal.main_arg3)
      ∧ r.2.mem ((c.tc : Thread Cert.FfnOneRefIdeal.nD Cert.FfnOneRefIdeal.τ).loc Cert.FfnOneRefIdeal.main_arg4) = m ((c.tc : Thread Cert.FfnOneRefIdeal.nD Cert.FfnOneRefIdeal.τ).loc Cert.FfnOneRefIdeal.main_arg4))
      ∧ r.2.sem = fun _ => 0)

def quiescent_FfnTwo [hFfnTwo : Cert.FfnTwo.Facts] : Prop :=
  ∀ (m : (ℓ : Loc Cert.FfnTwo.nD Cert.FfnTwo.τ Cert.FfnTwo.sig) → Buf (Elt Bits) ℓ) (g : Dev Cert.FfnTwo.nD → PrngReg), Pre_FfnTwo m →
    θ_run (Cert.FfnTwo.defs (F := Bits)) (onTc (τ := Cert.FfnTwo.τ) (Cert.FfnTwo.main (F := Bits))) ⟨m, fun _ => 0, g⟩ (fun r => (∀ c : Dev Cert.FfnTwo.nD,
      r.2.mem ((c.tc : Thread Cert.FfnTwo.nD Cert.FfnTwo.τ).loc Cert.FfnTwo.main_arg0) = m ((c.tc : Thread Cert.FfnTwo.nD Cert.FfnTwo.τ).loc Cert.FfnTwo.main_arg0)
      ∧ r.2.mem ((c.tc : Thread Cert.FfnTwo.nD Cert.FfnTwo.τ).loc Cert.FfnTwo.main_arg1) = m ((c.tc : Thread Cert.FfnTwo.nD Cert.FfnTwo.τ).loc Cert.FfnTwo.main_arg1)
      ∧ r.2.mem ((c.tc : Thread Cert.FfnTwo.nD Cert.FfnTwo.τ).loc Cert.FfnTwo.main_arg2) = m ((c.tc : Thread Cert.FfnTwo.nD Cert.FfnTwo.τ).loc Cert.FfnTwo.main_arg2)
      ∧ r.2.mem ((c.tc : Thread Cert.FfnTwo.nD Cert.FfnTwo.τ).loc Cert.FfnTwo.main_arg3) = m ((c.tc : Thread Cert.FfnTwo.nD Cert.FfnTwo.τ).loc Cert.FfnTwo.main_arg3)
      ∧ r.2.mem ((c.tc : Thread Cert.FfnTwo.nD Cert.FfnTwo.τ).loc Cert.FfnTwo.main_arg4) = m ((c.tc : Thread Cert.FfnTwo.nD Cert.FfnTwo.τ).loc Cert.FfnTwo.main_arg4)
      ∧ r.2.mem ((c.tc : Thread Cert.FfnTwo.nD Cert.FfnTwo.τ).loc Cert.FfnTwo.main_arg5) = m ((c.tc : Thread Cert.FfnTwo.nD Cert.FfnTwo.τ).loc Cert.FfnTwo.main_arg5))
      ∧ r.2.sem = fun _ => 0)

def quiescent_FfnTwoIdeal [hFfnTwoIdeal : Cert.FfnTwoIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg), Pre_FfnTwoIdeal m →
    θ_run (Cert.FfnTwoIdeal.defs (F := Ideal)) (onTc (τ := Cert.FfnTwoIdeal.τ) (Cert.FfnTwoIdeal.main (F := Ideal))) ⟨m, fun _ => 0, g⟩ (fun r => (∀ c : Dev Cert.FfnTwoIdeal.nD,
      r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
      ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
      ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
      ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
      ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4)
      ∧ r.2.mem ((c.tc : Thread Cert.FfnTwoIdeal.nD Cert.FfnTwoIdeal.τ).loc Cert.FfnTwoIdeal.main_arg5) = m ((c.tc : Thread Cert.FfnTwoIdeal.nD Cert.FfnTwoIdeal.τ).loc Cert.FfnTwoIdeal.main_arg5))
      ∧ r.2.sem = fun _ => 0)

def quiescent_FfnTwoRefIdeal [hFfnTwoRefIdeal : Cert.FfnTwoRefIdeal.Facts] : Prop :=
  ∀ (m : (ℓ : Loc Cert.FfnTwoRefIdeal.nD Cert.FfnTwoRefIdeal.τ Cert.FfnTwoRefIdeal.sig) → Buf (Elt Ideal) ℓ) (g : Dev Cert.FfnTwoRefIdeal.nD → PrngReg), Pre_FfnTwoRefIdeal m →
    θ_run (Cert.FfnTwoRefIdeal.defs (F := Ideal)) (onTc (τ := Cert.FfnTwoRefIdeal.τ) (Cert.FfnTwoRefIdeal.main (F := Ideal))) ⟨m, fun _ => 0, g⟩ (fun r => (∀ c : Dev Cert.FfnTwoRefIdeal.nD,
      r.2.mem ((c.tc : Thread Cert.FfnTwoRefIdeal.nD Cert.FfnTwoRefIdeal.τ).loc Cert.FfnTwoRefIdeal.main_arg0) = m ((c.tc : Thread Cert.FfnTwoRefIdeal.nD Cert.FfnTwoRefIdeal.τ).loc Cert.FfnTwoRefIdeal.main_arg0)
      ∧ r.2.mem ((c.tc : Thread Cert.FfnTwoRefIdeal.nD Cert.FfnTwoRefIdeal.τ).loc Cert.FfnTwoRefIdeal.main_arg1) = m ((c.tc : Thread Cert.FfnTwoRefIdeal.nD Cert.FfnTwoRefIdeal.τ).loc Cert.FfnTwoRefIdeal.main_arg1)
      ∧ r.2.mem ((c.tc : Thread Cert.FfnTwoRefIdeal.nD Cert.FfnTwoRefIdeal.τ).loc Cert.FfnTwoRefIdeal.main_arg2) = m ((c.tc : Thread Cert.FfnTwoRefIdeal.nD Cert.FfnTwoRefIdeal.τ).loc Cert.FfnTwoRefIdeal.main_arg2)
      ∧ r.2.mem ((c.tc : Thread Cert.FfnTwoRefIdeal.nD Cert.FfnTwoRefIdeal.τ).loc Cert.FfnTwoRefIdeal.main_arg3) = m ((c.tc : Thread Cert.FfnTwoRefIdeal.nD Cert.FfnTwoRefIdeal.τ).loc Cert.FfnTwoRefIdeal.main_arg3)
      ∧ r.2.mem ((c.tc : Thread Cert.FfnTwoRefIdeal.nD Cert.FfnTwoRefIdeal.τ).loc Cert.FfnTwoRefIdeal.main_arg4) = m ((c.tc : Thread Cert.FfnTwoRefIdeal.nD Cert.FfnTwoRefIdeal.τ).loc Cert.FfnTwoRefIdeal.main_arg4)
      ∧ r.2.mem ((c.tc : Thread Cert.FfnTwoRefIdeal.nD Cert.FfnTwoRefIdeal.τ).loc Cert.FfnTwoRefIdeal.main_arg5) = m ((c.tc : Thread Cert.FfnTwoRefIdeal.nD Cert.FfnTwoRefIdeal.τ).loc Cert.FfnTwoRefIdeal.main_arg5))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16)
      ∧ r.2.mem ((c.tc : Thread Cert.Mixer.nD Cert.Mixer.τ).loc Cert.Mixer.main_arg17) = m ((c.tc : Thread Cert.Mixer.nD Cert.Mixer.τ).loc Cert.Mixer.main_arg17)
      ∧ r.2.mem ((c.tc : Thread Cert.Mixer.nD Cert.Mixer.τ).loc Cert.Mixer.main_arg18) = m ((c.tc : Thread Cert.Mixer.nD Cert.Mixer.τ).loc Cert.Mixer.main_arg18)
      ∧ r.2.mem ((c.tc : Thread Cert.Mixer.nD Cert.Mixer.τ).loc Cert.Mixer.main_arg19) = m ((c.tc : Thread Cert.Mixer.nD Cert.Mixer.τ).loc Cert.Mixer.main_arg19)
      ∧ r.2.mem ((c.tc : Thread Cert.Mixer.nD Cert.Mixer.τ).loc Cert.Mixer.main_arg20) = m ((c.tc : Thread Cert.Mixer.nD Cert.Mixer.τ).loc Cert.Mixer.main_arg20)
      ∧ r.2.mem ((c.tc : Thread Cert.Mixer.nD Cert.Mixer.τ).loc Cert.Mixer.main_arg21) = m ((c.tc : Thread Cert.Mixer.nD Cert.Mixer.τ).loc Cert.Mixer.main_arg21)
      ∧ r.2.mem ((c.tc : Thread Cert.Mixer.nD Cert.Mixer.τ).loc Cert.Mixer.main_arg22) = m ((c.tc : Thread Cert.Mixer.nD Cert.Mixer.τ).loc Cert.Mixer.main_arg22))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
      ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
      ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18)
      ∧ r.2.mem ((c.tc : Thread Cert.MixerIdeal.nD Cert.MixerIdeal.τ).loc Cert.MixerIdeal.main_arg19) = m ((c.tc : Thread Cert.MixerIdeal.nD Cert.MixerIdeal.τ).loc Cert.MixerIdeal.main_arg19)
      ∧ r.2.mem ((c.tc : Thread Cert.MixerIdeal.nD Cert.MixerIdeal.τ).loc Cert.MixerIdeal.main_arg20) = m ((c.tc : Thread Cert.MixerIdeal.nD Cert.MixerIdeal.τ).loc Cert.MixerIdeal.main_arg20)
      ∧ r.2.mem ((c.tc : Thread Cert.MixerIdeal.nD Cert.MixerIdeal.τ).loc Cert.MixerIdeal.main_arg21) = m ((c.tc : Thread Cert.MixerIdeal.nD Cert.MixerIdeal.τ).loc Cert.MixerIdeal.main_arg21)
      ∧ r.2.mem ((c.tc : Thread Cert.MixerIdeal.nD Cert.MixerIdeal.τ).loc Cert.MixerIdeal.main_arg22) = m ((c.tc : Thread Cert.MixerIdeal.nD Cert.MixerIdeal.τ).loc Cert.MixerIdeal.main_arg22))
      ∧ r.2.sem = fun _ => 0)

def quiescent_MixerIdeal_pre_finite_inputs [hMixerIdeal : Cert.MixerIdeal.Facts] [hPre_finite_inputs : Cert.Pre_finite_inputs.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite_inputs m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
      ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
      ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18)
      ∧ r.2.mem ((c.tc : Thread Cert.MixerIdeal.nD Cert.MixerIdeal.τ).loc Cert.MixerIdeal.main_arg19) = m ((c.tc : Thread Cert.MixerIdeal.nD Cert.MixerIdeal.τ).loc Cert.MixerIdeal.main_arg19)
      ∧ r.2.mem ((c.tc : Thread Cert.MixerIdeal.nD Cert.MixerIdeal.τ).loc Cert.MixerIdeal.main_arg20) = m ((c.tc : Thread Cert.MixerIdeal.nD Cert.MixerIdeal.τ).loc Cert.MixerIdeal.main_arg20)
      ∧ r.2.mem ((c.tc : Thread Cert.MixerIdeal.nD Cert.MixerIdeal.τ).loc Cert.MixerIdeal.main_arg21) = m ((c.tc : Thread Cert.MixerIdeal.nD Cert.MixerIdeal.τ).loc Cert.MixerIdeal.main_arg21)
      ∧ r.2.mem ((c.tc : Thread Cert.MixerIdeal.nD Cert.MixerIdeal.τ).loc Cert.MixerIdeal.main_arg22) = m ((c.tc : Thread Cert.MixerIdeal.nD Cert.MixerIdeal.τ).loc Cert.MixerIdeal.main_arg22))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15)
      ∧ r.2.mem ((c.tc : Thread Cert.MixerRefIdeal.nD Cert.MixerRefIdeal.τ).loc Cert.MixerRefIdeal.main_arg16) = m ((c.tc : Thread Cert.MixerRefIdeal.nD Cert.MixerRefIdeal.τ).loc Cert.MixerRefIdeal.main_arg16)
      ∧ r.2.mem ((c.tc : Thread Cert.MixerRefIdeal.nD Cert.MixerRefIdeal.τ).loc Cert.MixerRefIdeal.main_arg17) = m ((c.tc : Thread Cert.MixerRefIdeal.nD Cert.MixerRefIdeal.τ).loc Cert.MixerRefIdeal.main_arg17)
      ∧ r.2.mem ((c.tc : Thread Cert.MixerRefIdeal.nD Cert.MixerRefIdeal.τ).loc Cert.MixerRefIdeal.main_arg18) = m ((c.tc : Thread Cert.MixerRefIdeal.nD Cert.MixerRefIdeal.τ).loc Cert.MixerRefIdeal.main_arg18)
      ∧ r.2.mem ((c.tc : Thread Cert.MixerRefIdeal.nD Cert.MixerRefIdeal.τ).loc Cert.MixerRefIdeal.main_arg19) = m ((c.tc : Thread Cert.MixerRefIdeal.nD Cert.MixerRefIdeal.τ).loc Cert.MixerRefIdeal.main_arg19)
      ∧ r.2.mem ((c.tc : Thread Cert.MixerRefIdeal.nD Cert.MixerRefIdeal.τ).loc Cert.MixerRefIdeal.main_arg20) = m ((c.tc : Thread Cert.MixerRefIdeal.nD Cert.MixerRefIdeal.τ).loc Cert.MixerRefIdeal.main_arg20)
      ∧ r.2.mem ((c.tc : Thread Cert.MixerRefIdeal.nD Cert.MixerRefIdeal.τ).loc Cert.MixerRefIdeal.main_arg21) = m ((c.tc : Thread Cert.MixerRefIdeal.nD Cert.MixerRefIdeal.τ).loc Cert.MixerRefIdeal.main_arg21)
      ∧ r.2.mem ((c.tc : Thread Cert.MixerRefIdeal.nD Cert.MixerRefIdeal.τ).loc Cert.MixerRefIdeal.main_arg22) = m ((c.tc : Thread Cert.MixerRefIdeal.nD Cert.MixerRefIdeal.τ).loc Cert.MixerRefIdeal.main_arg22))
      ∧ r.2.sem = fun _ => 0)

def quiescent_MixerRefIdeal_pre_finite_inputs [hMixerRefIdeal : Cert.MixerRefIdeal.Facts] [hPre_finite_inputs : Cert.Pre_finite_inputs.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite_inputs m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15)
      ∧ r.2.mem ((c.tc : Thread Cert.MixerRefIdeal.nD Cert.MixerRefIdeal.τ).loc Cert.MixerRefIdeal.main_arg16) = m ((c.tc : Thread Cert.MixerRefIdeal.nD Cert.MixerRefIdeal.τ).loc Cert.MixerRefIdeal.main_arg16)
      ∧ r.2.mem ((c.tc : Thread Cert.MixerRefIdeal.nD Cert.MixerRefIdeal.τ).loc Cert.MixerRefIdeal.main_arg17) = m ((c.tc : Thread Cert.MixerRefIdeal.nD Cert.MixerRefIdeal.τ).loc Cert.MixerRefIdeal.main_arg17)
      ∧ r.2.mem ((c.tc : Thread Cert.MixerRefIdeal.nD Cert.MixerRefIdeal.τ).loc Cert.MixerRefIdeal.main_arg18) = m ((c.tc : Thread Cert.MixerRefIdeal.nD Cert.MixerRefIdeal.τ).loc Cert.MixerRefIdeal.main_arg18)
      ∧ r.2.mem ((c.tc : Thread Cert.MixerRefIdeal.nD Cert.MixerRefIdeal.τ).loc Cert.MixerRefIdeal.main_arg19) = m ((c.tc : Thread Cert.MixerRefIdeal.nD Cert.MixerRefIdeal.τ).loc Cert.MixerRefIdeal.main_arg19)
      ∧ r.2.mem ((c.tc : Thread Cert.MixerRefIdeal.nD Cert.MixerRefIdeal.τ).loc Cert.MixerRefIdeal.main_arg20) = m ((c.tc : Thread Cert.MixerRefIdeal.nD Cert.MixerRefIdeal.τ).loc Cert.MixerRefIdeal.main_arg20)
      ∧ r.2.mem ((c.tc : Thread Cert.MixerRefIdeal.nD Cert.MixerRefIdeal.τ).loc Cert.MixerRefIdeal.main_arg21) = m ((c.tc : Thread Cert.MixerRefIdeal.nD Cert.MixerRefIdeal.τ).loc Cert.MixerRefIdeal.main_arg21)
      ∧ r.2.mem ((c.tc : Thread Cert.MixerRefIdeal.nD Cert.MixerRefIdeal.τ).loc Cert.MixerRefIdeal.main_arg22) = m ((c.tc : Thread Cert.MixerRefIdeal.nD Cert.MixerRefIdeal.τ).loc Cert.MixerRefIdeal.main_arg22))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_FfnSampleOne [hFfnSampleOne : Cert.FfnSampleOne.Facts] : Prop :=
  ∀ (m : (ℓ : Loc Cert.FfnSampleOne.nD Cert.FfnSampleOne.τ Cert.FfnSampleOne.sig) → Buf (Elt Bits) ℓ) (g : Dev Cert.FfnSampleOne.nD → PrngReg), Pre_FfnSampleOne m →
    θ_run (Cert.FfnSampleOne.defs (F := Bits)) (onTc (τ := Cert.FfnSampleOne.τ) (Cert.FfnSampleOne.main (F := Bits))) ⟨m, fun _ => 0, g⟩ (fun r => (∀ c : Dev Cert.FfnSampleOne.nD,
      r.2.mem ((c.tc : Thread Cert.FfnSampleOne.nD Cert.FfnSampleOne.τ).loc Cert.FfnSampleOne.main_arg0) = m ((c.tc : Thread Cert.FfnSampleOne.nD Cert.FfnSampleOne.τ).loc Cert.FfnSampleOne.main_arg0)
      ∧ r.2.mem ((c.tc : Thread Cert.FfnSampleOne.nD Cert.FfnSampleOne.τ).loc Cert.FfnSampleOne.main_arg1) = m ((c.tc : Thread Cert.FfnSampleOne.nD Cert.FfnSampleOne.τ).loc Cert.FfnSampleOne.main_arg1)
      ∧ r.2.mem ((c.tc : Thread Cert.FfnSampleOne.nD Cert.FfnSampleOne.τ).loc Cert.FfnSampleOne.main_arg2) = m ((c.tc : Thread Cert.FfnSampleOne.nD Cert.FfnSampleOne.τ).loc Cert.FfnSampleOne.main_arg2)
      ∧ r.2.mem ((c.tc : Thread Cert.FfnSampleOne.nD Cert.FfnSampleOne.τ).loc Cert.FfnSampleOne.main_arg3) = m ((c.tc : Thread Cert.FfnSampleOne.nD Cert.FfnSampleOne.τ).loc Cert.FfnSampleOne.main_arg3)
      ∧ r.2.mem ((c.tc : Thread Cert.FfnSampleOne.nD Cert.FfnSampleOne.τ).loc Cert.FfnSampleOne.main_arg4) = m ((c.tc : Thread Cert.FfnSampleOne.nD Cert.FfnSampleOne.τ).loc Cert.FfnSampleOne.main_arg4))
      ∧ r.2.sem = fun _ => 0)

def quiescent_FfnSampleOneIdeal [hFfnSampleOneIdeal : Cert.FfnSampleOneIdeal.Facts] : Prop :=
  ∀ (m : (ℓ : Loc Cert.FfnSampleOneIdeal.nD Cert.FfnSampleOneIdeal.τ Cert.FfnSampleOneIdeal.sig) → Buf (Elt Ideal) ℓ) (g : Dev Cert.FfnSampleOneIdeal.nD → PrngReg), Pre_FfnSampleOneIdeal m →
    θ_run (Cert.FfnSampleOneIdeal.defs (F := Ideal)) (onTc (τ := Cert.FfnSampleOneIdeal.τ) (Cert.FfnSampleOneIdeal.main (F := Ideal))) ⟨m, fun _ => 0, g⟩ (fun r => (∀ c : Dev Cert.FfnSampleOneIdeal.nD,
      r.2.mem ((c.tc : Thread Cert.FfnSampleOneIdeal.nD Cert.FfnSampleOneIdeal.τ).loc Cert.FfnSampleOneIdeal.main_arg0) = m ((c.tc : Thread Cert.FfnSampleOneIdeal.nD Cert.FfnSampleOneIdeal.τ).loc Cert.FfnSampleOneIdeal.main_arg0)
      ∧ r.2.mem ((c.tc : Thread Cert.FfnSampleOneIdeal.nD Cert.FfnSampleOneIdeal.τ).loc Cert.FfnSampleOneIdeal.main_arg1) = m ((c.tc : Thread Cert.FfnSampleOneIdeal.nD Cert.FfnSampleOneIdeal.τ).loc Cert.FfnSampleOneIdeal.main_arg1)
      ∧ r.2.mem ((c.tc : Thread Cert.FfnSampleOneIdeal.nD Cert.FfnSampleOneIdeal.τ).loc Cert.FfnSampleOneIdeal.main_arg2) = m ((c.tc : Thread Cert.FfnSampleOneIdeal.nD Cert.FfnSampleOneIdeal.τ).loc Cert.FfnSampleOneIdeal.main_arg2)
      ∧ r.2.mem ((c.tc : Thread Cert.FfnSampleOneIdeal.nD Cert.FfnSampleOneIdeal.τ).loc Cert.FfnSampleOneIdeal.main_arg3) = m ((c.tc : Thread Cert.FfnSampleOneIdeal.nD Cert.FfnSampleOneIdeal.τ).loc Cert.FfnSampleOneIdeal.main_arg3)
      ∧ r.2.mem ((c.tc : Thread Cert.FfnSampleOneIdeal.nD Cert.FfnSampleOneIdeal.τ).loc Cert.FfnSampleOneIdeal.main_arg4) = m ((c.tc : Thread Cert.FfnSampleOneIdeal.nD Cert.FfnSampleOneIdeal.τ).loc Cert.FfnSampleOneIdeal.main_arg4))
      ∧ r.2.sem = fun _ => 0)

def quiescent_FfnSampleOneRefIdeal [hFfnSampleOneRefIdeal : Cert.FfnSampleOneRefIdeal.Facts] : Prop :=
  ∀ (m : (ℓ : Loc Cert.FfnSampleOneRefIdeal.nD Cert.FfnSampleOneRefIdeal.τ Cert.FfnSampleOneRefIdeal.sig) → Buf (Elt Ideal) ℓ) (g : Dev Cert.FfnSampleOneRefIdeal.nD → PrngReg), Pre_FfnSampleOneRefIdeal m →
    θ_run (Cert.FfnSampleOneRefIdeal.defs (F := Ideal)) (onTc (τ := Cert.FfnSampleOneRefIdeal.τ) (Cert.FfnSampleOneRefIdeal.main (F := Ideal))) ⟨m, fun _ => 0, g⟩ (fun r => (∀ c : Dev Cert.FfnSampleOneRefIdeal.nD,
      r.2.mem ((c.tc : Thread Cert.FfnSampleOneRefIdeal.nD Cert.FfnSampleOneRefIdeal.τ).loc Cert.FfnSampleOneRefIdeal.main_arg0) = m ((c.tc : Thread Cert.FfnSampleOneRefIdeal.nD Cert.FfnSampleOneRefIdeal.τ).loc Cert.FfnSampleOneRefIdeal.main_arg0)
      ∧ r.2.mem ((c.tc : Thread Cert.FfnSampleOneRefIdeal.nD Cert.FfnSampleOneRefIdeal.τ).loc Cert.FfnSampleOneRefIdeal.main_arg1) = m ((c.tc : Thread Cert.FfnSampleOneRefIdeal.nD Cert.FfnSampleOneRefIdeal.τ).loc Cert.FfnSampleOneRefIdeal.main_arg1)
      ∧ r.2.mem ((c.tc : Thread Cert.FfnSampleOneRefIdeal.nD Cert.FfnSampleOneRefIdeal.τ).loc Cert.FfnSampleOneRefIdeal.main_arg2) = m ((c.tc : Thread Cert.FfnSampleOneRefIdeal.nD Cert.FfnSampleOneRefIdeal.τ).loc Cert.FfnSampleOneRefIdeal.main_arg2)
      ∧ r.2.mem ((c.tc : Thread Cert.FfnSampleOneRefIdeal.nD Cert.FfnSampleOneRefIdeal.τ).loc Cert.FfnSampleOneRefIdeal.main_arg3) = m ((c.tc : Thread Cert.FfnSampleOneRefIdeal.nD Cert.FfnSampleOneRefIdeal.τ).loc Cert.FfnSampleOneRefIdeal.main_arg3)
      ∧ r.2.mem ((c.tc : Thread Cert.FfnSampleOneRefIdeal.nD Cert.FfnSampleOneRefIdeal.τ).loc Cert.FfnSampleOneRefIdeal.main_arg4) = m ((c.tc : Thread Cert.FfnSampleOneRefIdeal.nD Cert.FfnSampleOneRefIdeal.τ).loc Cert.FfnSampleOneRefIdeal.main_arg4))
      ∧ r.2.sem = fun _ => 0)

def preserves_FfnOne_FfnOneIdeal : Prop :=
  True

def algebraic_FfnOneIdeal_FfnOneRefIdeal [hFfnOneIdeal : Cert.FfnOneIdeal.Facts] [hFfnOneRefIdeal : Cert.FfnOneRefIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg)
    (m' : (ℓ : Loc Cert.FfnOneRefIdeal.nD Cert.FfnOneRefIdeal.τ Cert.FfnOneRefIdeal.sig) → Buf (Elt Ideal) ℓ) (g' : Dev Cert.FfnOneRefIdeal.nD → PrngReg), Pre_FfnOneIdeal m →
    (∀ c : Dev Cert.FfnOneIdeal.nD,
      m' ((c.tc : Thread Cert.FfnOneRefIdeal.nD Cert.FfnOneRefIdeal.τ).loc Cert.FfnOneRefIdeal.main_arg0) = m ((c.tc : Thread Cert.FfnOneIdeal.nD Cert.FfnOneIdeal.τ).loc Cert.FfnOneIdeal.main_arg0)
      ∧ m' ((c.tc : Thread Cert.FfnOneRefIdeal.nD Cert.FfnOneRefIdeal.τ).loc Cert.FfnOneRefIdeal.main_arg1) = m ((c.tc : Thread Cert.FfnOneIdeal.nD Cert.FfnOneIdeal.τ).loc Cert.FfnOneIdeal.main_arg1)
      ∧ m' ((c.tc : Thread Cert.FfnOneRefIdeal.nD Cert.FfnOneRefIdeal.τ).loc Cert.FfnOneRefIdeal.main_arg2) = m ((c.tc : Thread Cert.FfnOneIdeal.nD Cert.FfnOneIdeal.τ).loc Cert.FfnOneIdeal.main_arg2)
      ∧ m' ((c.tc : Thread Cert.FfnOneRefIdeal.nD Cert.FfnOneRefIdeal.τ).loc Cert.FfnOneRefIdeal.main_arg3) = m ((c.tc : Thread Cert.FfnOneIdeal.nD Cert.FfnOneIdeal.τ).loc Cert.FfnOneIdeal.main_arg3)
      ∧ m' ((c.tc : Thread Cert.FfnOneRefIdeal.nD Cert.FfnOneRefIdeal.τ).loc Cert.FfnOneRefIdeal.main_arg4) = m ((c.tc : Thread Cert.FfnOneIdeal.nD Cert.FfnOneIdeal.τ).loc Cert.FfnOneIdeal.main_arg4)) →
    ∃ (v0 : (c : Dev Cert.FfnOneIdeal.nD) → Buf (Elt Ideal) ((c.tc : Thread Cert.FfnOneIdeal.nD Cert.FfnOneIdeal.τ).loc Cert.FfnOneIdeal.main_v7)),
      θ_run (Cert.FfnOneIdeal.defs (F := Ideal)) (onTc (τ := Cert.FfnOneIdeal.τ) (Cert.FfnOneIdeal.main (F := Ideal))) ⟨m, fun _ => 0, g⟩ (fun r => ∀ c : Dev Cert.FfnOneIdeal.nD,
          r.2.mem ((c.tc : Thread Cert.FfnOneIdeal.nD Cert.FfnOneIdeal.τ).loc Cert.FfnOneIdeal.main_v7) = v0 c
          ∧ r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
          ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
          ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
          ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
          ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4))
      ∧ θ_run (Cert.FfnOneRefIdeal.defs (F := Ideal)) (onTc (τ := Cert.FfnOneRefIdeal.τ) (Cert.FfnOneRefIdeal.main (F := Ideal))) ⟨m', fun _ => 0, g'⟩ (fun r => ∀ c : Dev Cert.FfnOneRefIdeal.nD,
          r.2.mem ((c.tc : Thread Cert.FfnOneRefIdeal.nD Cert.FfnOneRefIdeal.τ).loc Cert.FfnOneRefIdeal.main_v40) = v0 c
          ∧ r.2.mem ((c.tc : Thread Cert.FfnOneRefIdeal.nD Cert.FfnOneRefIdeal.τ).loc Cert.FfnOneRefIdeal.main_arg0) = m' ((c.tc : Thread Cert.FfnOneRefIdeal.nD Cert.FfnOneRefIdeal.τ).loc Cert.FfnOneRefIdeal.main_arg0)
          ∧ r.2.mem ((c.tc : Thread Cert.FfnOneRefIdeal.nD Cert.FfnOneRefIdeal.τ).loc Cert.FfnOneRefIdeal.main_arg1) = m' ((c.tc : Thread Cert.FfnOneRefIdeal.nD Cert.FfnOneRefIdeal.τ).loc Cert.FfnOneRefIdeal.main_arg1)
          ∧ r.2.mem ((c.tc : Thread Cert.FfnOneRefIdeal.nD Cert.FfnOneRefIdeal.τ).loc Cert.FfnOneRefIdeal.main_arg2) = m' ((c.tc : Thread Cert.FfnOneRefIdeal.nD Cert.FfnOneRefIdeal.τ).loc Cert.FfnOneRefIdeal.main_arg2)
          ∧ r.2.mem ((c.tc : Thread Cert.FfnOneRefIdeal.nD Cert.FfnOneRefIdeal.τ).loc Cert.FfnOneRefIdeal.main_arg3) = m' ((c.tc : Thread Cert.FfnOneRefIdeal.nD Cert.FfnOneRefIdeal.τ).loc Cert.FfnOneRefIdeal.main_arg3)
          ∧ r.2.mem ((c.tc : Thread Cert.FfnOneRefIdeal.nD Cert.FfnOneRefIdeal.τ).loc Cert.FfnOneRefIdeal.main_arg4) = m' ((c.tc : Thread Cert.FfnOneRefIdeal.nD Cert.FfnOneRefIdeal.τ).loc Cert.FfnOneRefIdeal.main_arg4))

def preserves_FfnTwo_FfnTwoIdeal : Prop :=
  True

def algebraic_FfnTwoIdeal_FfnTwoRefIdeal [hFfnTwoIdeal : Cert.FfnTwoIdeal.Facts] [hFfnTwoRefIdeal : Cert.FfnTwoRefIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg)
    (m' : (ℓ : Loc Cert.FfnTwoRefIdeal.nD Cert.FfnTwoRefIdeal.τ Cert.FfnTwoRefIdeal.sig) → Buf (Elt Ideal) ℓ) (g' : Dev Cert.FfnTwoRefIdeal.nD → PrngReg), Pre_FfnTwoIdeal m →
    (∀ c : Dev Cert.FfnTwoIdeal.nD,
      m' ((c.tc : Thread Cert.FfnTwoRefIdeal.nD Cert.FfnTwoRefIdeal.τ).loc Cert.FfnTwoRefIdeal.main_arg0) = m ((c.tc : Thread Cert.FfnTwoIdeal.nD Cert.FfnTwoIdeal.τ).loc Cert.FfnTwoIdeal.main_arg0)
      ∧ m' ((c.tc : Thread Cert.FfnTwoRefIdeal.nD Cert.FfnTwoRefIdeal.τ).loc Cert.FfnTwoRefIdeal.main_arg1) = m ((c.tc : Thread Cert.FfnTwoIdeal.nD Cert.FfnTwoIdeal.τ).loc Cert.FfnTwoIdeal.main_arg1)
      ∧ m' ((c.tc : Thread Cert.FfnTwoRefIdeal.nD Cert.FfnTwoRefIdeal.τ).loc Cert.FfnTwoRefIdeal.main_arg2) = m ((c.tc : Thread Cert.FfnTwoIdeal.nD Cert.FfnTwoIdeal.τ).loc Cert.FfnTwoIdeal.main_arg2)
      ∧ m' ((c.tc : Thread Cert.FfnTwoRefIdeal.nD Cert.FfnTwoRefIdeal.τ).loc Cert.FfnTwoRefIdeal.main_arg3) = m ((c.tc : Thread Cert.FfnTwoIdeal.nD Cert.FfnTwoIdeal.τ).loc Cert.FfnTwoIdeal.main_arg3)
      ∧ m' ((c.tc : Thread Cert.FfnTwoRefIdeal.nD Cert.FfnTwoRefIdeal.τ).loc Cert.FfnTwoRefIdeal.main_arg4) = m ((c.tc : Thread Cert.FfnTwoIdeal.nD Cert.FfnTwoIdeal.τ).loc Cert.FfnTwoIdeal.main_arg4)
      ∧ m' ((c.tc : Thread Cert.FfnTwoRefIdeal.nD Cert.FfnTwoRefIdeal.τ).loc Cert.FfnTwoRefIdeal.main_arg5) = m ((c.tc : Thread Cert.FfnTwoIdeal.nD Cert.FfnTwoIdeal.τ).loc Cert.FfnTwoIdeal.main_arg5)) →
    ∃ (v0 : (c : Dev Cert.FfnTwoIdeal.nD) → Buf (Elt Ideal) ((c.tc : Thread Cert.FfnTwoIdeal.nD Cert.FfnTwoIdeal.τ).loc Cert.FfnTwoIdeal.main_v8)),
      θ_run (Cert.FfnTwoIdeal.defs (F := Ideal)) (onTc (τ := Cert.FfnTwoIdeal.τ) (Cert.FfnTwoIdeal.main (F := Ideal))) ⟨m, fun _ => 0, g⟩ (fun r => ∀ c : Dev Cert.FfnTwoIdeal.nD,
          r.2.mem ((c.tc : Thread Cert.FfnTwoIdeal.nD Cert.FfnTwoIdeal.τ).loc Cert.FfnTwoIdeal.main_v8) = v0 c
          ∧ r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
          ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
          ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
          ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
          ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4)
          ∧ r.2.mem ((c.tc : Thread Cert.FfnTwoIdeal.nD Cert.FfnTwoIdeal.τ).loc Cert.FfnTwoIdeal.main_arg5) = m ((c.tc : Thread Cert.FfnTwoIdeal.nD Cert.FfnTwoIdeal.τ).loc Cert.FfnTwoIdeal.main_arg5))
      ∧ θ_run (Cert.FfnTwoRefIdeal.defs (F := Ideal)) (onTc (τ := Cert.FfnTwoRefIdeal.τ) (Cert.FfnTwoRefIdeal.main (F := Ideal))) ⟨m', fun _ => 0, g'⟩ (fun r => ∀ c : Dev Cert.FfnTwoRefIdeal.nD,
          r.2.mem ((c.tc : Thread Cert.FfnTwoRefIdeal.nD Cert.FfnTwoRefIdeal.τ).loc Cert.FfnTwoRefIdeal.main_v55) = v0 c
          ∧ r.2.mem ((c.tc : Thread Cert.FfnTwoRefIdeal.nD Cert.FfnTwoRefIdeal.τ).loc Cert.FfnTwoRefIdeal.main_arg0) = m' ((c.tc : Thread Cert.FfnTwoRefIdeal.nD Cert.FfnTwoRefIdeal.τ).loc Cert.FfnTwoRefIdeal.main_arg0)
          ∧ r.2.mem ((c.tc : Thread Cert.FfnTwoRefIdeal.nD Cert.FfnTwoRefIdeal.τ).loc Cert.FfnTwoRefIdeal.main_arg1) = m' ((c.tc : Thread Cert.FfnTwoRefIdeal.nD Cert.FfnTwoRefIdeal.τ).loc Cert.FfnTwoRefIdeal.main_arg1)
          ∧ r.2.mem ((c.tc : Thread Cert.FfnTwoRefIdeal.nD Cert.FfnTwoRefIdeal.τ).loc Cert.FfnTwoRefIdeal.main_arg2) = m' ((c.tc : Thread Cert.FfnTwoRefIdeal.nD Cert.FfnTwoRefIdeal.τ).loc Cert.FfnTwoRefIdeal.main_arg2)
          ∧ r.2.mem ((c.tc : Thread Cert.FfnTwoRefIdeal.nD Cert.FfnTwoRefIdeal.τ).loc Cert.FfnTwoRefIdeal.main_arg3) = m' ((c.tc : Thread Cert.FfnTwoRefIdeal.nD Cert.FfnTwoRefIdeal.τ).loc Cert.FfnTwoRefIdeal.main_arg3)
          ∧ r.2.mem ((c.tc : Thread Cert.FfnTwoRefIdeal.nD Cert.FfnTwoRefIdeal.τ).loc Cert.FfnTwoRefIdeal.main_arg4) = m' ((c.tc : Thread Cert.FfnTwoRefIdeal.nD Cert.FfnTwoRefIdeal.τ).loc Cert.FfnTwoRefIdeal.main_arg4)
          ∧ r.2.mem ((c.tc : Thread Cert.FfnTwoRefIdeal.nD Cert.FfnTwoRefIdeal.τ).loc Cert.FfnTwoRefIdeal.main_arg5) = m' ((c.tc : Thread Cert.FfnTwoRefIdeal.nD Cert.FfnTwoRefIdeal.τ).loc Cert.FfnTwoRefIdeal.main_arg5))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v8)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v8) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v55) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5))

def preserves_Mixer_MixerIdeal : Prop :=
  True

def algebraic_MixerIdeal_MixerRefIdeal_pre_finite_inputs [hMixerIdeal : Cert.MixerIdeal.Facts] [hMixerRefIdeal : Cert.MixerRefIdeal.Facts] [hPre_finite_inputs : Cert.Pre_finite_inputs.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite_inputs m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)
      ∧ m' ((c.tc : Thread Cert.MixerRefIdeal.nD Cert.MixerRefIdeal.τ).loc Cert.MixerRefIdeal.main_arg13) = m ((c.tc : Thread Cert.MixerIdeal.nD Cert.MixerIdeal.τ).loc Cert.MixerIdeal.main_arg13)
      ∧ m' ((c.tc : Thread Cert.MixerRefIdeal.nD Cert.MixerRefIdeal.τ).loc Cert.MixerRefIdeal.main_arg14) = m ((c.tc : Thread Cert.MixerIdeal.nD Cert.MixerIdeal.τ).loc Cert.MixerIdeal.main_arg14)
      ∧ m' ((c.tc : Thread Cert.MixerRefIdeal.nD Cert.MixerRefIdeal.τ).loc Cert.MixerRefIdeal.main_arg15) = m ((c.tc : Thread Cert.MixerIdeal.nD Cert.MixerIdeal.τ).loc Cert.MixerIdeal.main_arg15)
      ∧ m' ((c.tc : Thread Cert.MixerRefIdeal.nD Cert.MixerRefIdeal.τ).loc Cert.MixerRefIdeal.main_arg16) = m ((c.tc : Thread Cert.MixerIdeal.nD Cert.MixerIdeal.τ).loc Cert.MixerIdeal.main_arg16)
      ∧ m' ((c.tc : Thread Cert.MixerRefIdeal.nD Cert.MixerRefIdeal.τ).loc Cert.MixerRefIdeal.main_arg17) = m ((c.tc : Thread Cert.MixerIdeal.nD Cert.MixerIdeal.τ).loc Cert.MixerIdeal.main_arg17)
      ∧ m' ((c.tc : Thread Cert.MixerRefIdeal.nD Cert.MixerRefIdeal.τ).loc Cert.MixerRefIdeal.main_arg18) = m ((c.tc : Thread Cert.MixerIdeal.nD Cert.MixerIdeal.τ).loc Cert.MixerIdeal.main_arg18)
      ∧ m' ((c.tc : Thread Cert.MixerRefIdeal.nD Cert.MixerRefIdeal.τ).loc Cert.MixerRefIdeal.main_arg19) = m ((c.tc : Thread Cert.MixerIdeal.nD Cert.MixerIdeal.τ).loc Cert.MixerIdeal.main_arg19)
      ∧ m' ((c.tc : Thread Cert.MixerRefIdeal.nD Cert.MixerRefIdeal.τ).loc Cert.MixerRefIdeal.main_arg20) = m ((c.tc : Thread Cert.MixerIdeal.nD Cert.MixerIdeal.τ).loc Cert.MixerIdeal.main_arg20)
      ∧ m' ((c.tc : Thread Cert.MixerRefIdeal.nD Cert.MixerRefIdeal.τ).loc Cert.MixerRefIdeal.main_arg21) = m ((c.tc : Thread Cert.MixerIdeal.nD Cert.MixerIdeal.τ).loc Cert.MixerIdeal.main_arg21)
      ∧ m' ((c.tc : Thread Cert.MixerRefIdeal.nD Cert.MixerRefIdeal.τ).loc Cert.MixerRefIdeal.main_arg22) = m ((c.tc : Thread Cert.MixerIdeal.nD Cert.MixerIdeal.τ).loc Cert.MixerIdeal.main_arg22)) →
    ∃ (v0 : (c : Dev Cert.MixerIdeal.nD) → Buf (Elt Ideal) ((c.tc : Thread Cert.MixerIdeal.nD Cert.MixerIdeal.τ).loc Cert.MixerIdeal.main_v155)) (v1 : (c : Dev Cert.MixerIdeal.nD) → Buf (Elt Ideal) ((c.tc : Thread Cert.MixerIdeal.nD Cert.MixerIdeal.τ).loc Cert.MixerIdeal.main_v160)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v155) = v0 c
          ∧ r.2.mem ((c.tc : Thread Cert.MixerIdeal.nD Cert.MixerIdeal.τ).loc Cert.MixerIdeal.main_v160) = v1 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
          ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
          ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
          ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
          ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
          ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18)
          ∧ r.2.mem ((c.tc : Thread Cert.MixerIdeal.nD Cert.MixerIdeal.τ).loc Cert.MixerIdeal.main_arg19) = m ((c.tc : Thread Cert.MixerIdeal.nD Cert.MixerIdeal.τ).loc Cert.MixerIdeal.main_arg19)
          ∧ r.2.mem ((c.tc : Thread Cert.MixerIdeal.nD Cert.MixerIdeal.τ).loc Cert.MixerIdeal.main_arg20) = m ((c.tc : Thread Cert.MixerIdeal.nD Cert.MixerIdeal.τ).loc Cert.MixerIdeal.main_arg20)
          ∧ r.2.mem ((c.tc : Thread Cert.MixerIdeal.nD Cert.MixerIdeal.τ).loc Cert.MixerIdeal.main_arg21) = m ((c.tc : Thread Cert.MixerIdeal.nD Cert.MixerIdeal.τ).loc Cert.MixerIdeal.main_arg21)
          ∧ r.2.mem ((c.tc : Thread Cert.MixerIdeal.nD Cert.MixerIdeal.τ).loc Cert.MixerIdeal.main_arg22) = m ((c.tc : Thread Cert.MixerIdeal.nD Cert.MixerIdeal.τ).loc Cert.MixerIdeal.main_arg22))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v86) = v0 c
          ∧ r.2.mem ((c.tc : Thread Cert.MixerRefIdeal.nD Cert.MixerRefIdeal.τ).loc Cert.MixerRefIdeal.main_v88) = v1 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13)
          ∧ r.2.mem ((c.tc : Thread Cert.MixerRefIdeal.nD Cert.MixerRefIdeal.τ).loc Cert.MixerRefIdeal.main_arg14) = m' ((c.tc : Thread Cert.MixerRefIdeal.nD Cert.MixerRefIdeal.τ).loc Cert.MixerRefIdeal.main_arg14)
          ∧ r.2.mem ((c.tc : Thread Cert.MixerRefIdeal.nD Cert.MixerRefIdeal.τ).loc Cert.MixerRefIdeal.main_arg15) = m' ((c.tc : Thread Cert.MixerRefIdeal.nD Cert.MixerRefIdeal.τ).loc Cert.MixerRefIdeal.main_arg15)
          ∧ r.2.mem ((c.tc : Thread Cert.MixerRefIdeal.nD Cert.MixerRefIdeal.τ).loc Cert.MixerRefIdeal.main_arg16) = m' ((c.tc : Thread Cert.MixerRefIdeal.nD Cert.MixerRefIdeal.τ).loc Cert.MixerRefIdeal.main_arg16)
          ∧ r.2.mem ((c.tc : Thread Cert.MixerRefIdeal.nD Cert.MixerRefIdeal.τ).loc Cert.MixerRefIdeal.main_arg17) = m' ((c.tc : Thread Cert.MixerRefIdeal.nD Cert.MixerRefIdeal.τ).loc Cert.MixerRefIdeal.main_arg17)
          ∧ r.2.mem ((c.tc : Thread Cert.MixerRefIdeal.nD Cert.MixerRefIdeal.τ).loc Cert.MixerRefIdeal.main_arg18) = m' ((c.tc : Thread Cert.MixerRefIdeal.nD Cert.MixerRefIdeal.τ).loc Cert.MixerRefIdeal.main_arg18)
          ∧ r.2.mem ((c.tc : Thread Cert.MixerRefIdeal.nD Cert.MixerRefIdeal.τ).loc Cert.MixerRefIdeal.main_arg19) = m' ((c.tc : Thread Cert.MixerRefIdeal.nD Cert.MixerRefIdeal.τ).loc Cert.MixerRefIdeal.main_arg19)
          ∧ r.2.mem ((c.tc : Thread Cert.MixerRefIdeal.nD Cert.MixerRefIdeal.τ).loc Cert.MixerRefIdeal.main_arg20) = m' ((c.tc : Thread Cert.MixerRefIdeal.nD Cert.MixerRefIdeal.τ).loc Cert.MixerRefIdeal.main_arg20)
          ∧ r.2.mem ((c.tc : Thread Cert.MixerRefIdeal.nD Cert.MixerRefIdeal.τ).loc Cert.MixerRefIdeal.main_arg21) = m' ((c.tc : Thread Cert.MixerRefIdeal.nD Cert.MixerRefIdeal.τ).loc Cert.MixerRefIdeal.main_arg21)
          ∧ r.2.mem ((c.tc : Thread Cert.MixerRefIdeal.nD Cert.MixerRefIdeal.τ).loc Cert.MixerRefIdeal.main_arg22) = m' ((c.tc : Thread Cert.MixerRefIdeal.nD Cert.MixerRefIdeal.τ).loc Cert.MixerRefIdeal.main_arg22))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v7)) (v1 : (c : Dev Cert.AdaIdeal.nD) → Buf (Elt Ideal) ((c.tc : Thread Cert.AdaIdeal.nD Cert.AdaIdeal.τ).loc Cert.AdaIdeal.main_v8)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v7) = v0 c
          ∧ r.2.mem ((c.tc : Thread Cert.AdaIdeal.nD Cert.AdaIdeal.τ).loc Cert.AdaIdeal.main_v8) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v14) = v0 c
          ∧ r.2.mem ((c.tc : Thread Cert.AdaRefIdeal.nD Cert.AdaRefIdeal.τ).loc Cert.AdaRefIdeal.main_v15) = v1 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_FfnSampleOne_FfnSampleOneIdeal : Prop :=
  True

def algebraic_FfnSampleOneIdeal_FfnSampleOneRefIdeal [hFfnSampleOneIdeal : Cert.FfnSampleOneIdeal.Facts] [hFfnSampleOneRefIdeal : Cert.FfnSampleOneRefIdeal.Facts] : Prop :=
  ∀ (m : (ℓ : Loc Cert.FfnSampleOneIdeal.nD Cert.FfnSampleOneIdeal.τ Cert.FfnSampleOneIdeal.sig) → Buf (Elt Ideal) ℓ) (g : Dev Cert.FfnSampleOneIdeal.nD → PrngReg)
    (m' : (ℓ : Loc Cert.FfnSampleOneRefIdeal.nD Cert.FfnSampleOneRefIdeal.τ Cert.FfnSampleOneRefIdeal.sig) → Buf (Elt Ideal) ℓ) (g' : Dev Cert.FfnSampleOneRefIdeal.nD → PrngReg), Pre_FfnSampleOneIdeal m →
    (∀ c : Dev Cert.FfnSampleOneIdeal.nD,
      m' ((c.tc : Thread Cert.FfnSampleOneRefIdeal.nD Cert.FfnSampleOneRefIdeal.τ).loc Cert.FfnSampleOneRefIdeal.main_arg0) = m ((c.tc : Thread Cert.FfnSampleOneIdeal.nD Cert.FfnSampleOneIdeal.τ).loc Cert.FfnSampleOneIdeal.main_arg0)
      ∧ m' ((c.tc : Thread Cert.FfnSampleOneRefIdeal.nD Cert.FfnSampleOneRefIdeal.τ).loc Cert.FfnSampleOneRefIdeal.main_arg1) = m ((c.tc : Thread Cert.FfnSampleOneIdeal.nD Cert.FfnSampleOneIdeal.τ).loc Cert.FfnSampleOneIdeal.main_arg1)
      ∧ m' ((c.tc : Thread Cert.FfnSampleOneRefIdeal.nD Cert.FfnSampleOneRefIdeal.τ).loc Cert.FfnSampleOneRefIdeal.main_arg2) = m ((c.tc : Thread Cert.FfnSampleOneIdeal.nD Cert.FfnSampleOneIdeal.τ).loc Cert.FfnSampleOneIdeal.main_arg2)
      ∧ m' ((c.tc : Thread Cert.FfnSampleOneRefIdeal.nD Cert.FfnSampleOneRefIdeal.τ).loc Cert.FfnSampleOneRefIdeal.main_arg3) = m ((c.tc : Thread Cert.FfnSampleOneIdeal.nD Cert.FfnSampleOneIdeal.τ).loc Cert.FfnSampleOneIdeal.main_arg3)
      ∧ m' ((c.tc : Thread Cert.FfnSampleOneRefIdeal.nD Cert.FfnSampleOneRefIdeal.τ).loc Cert.FfnSampleOneRefIdeal.main_arg4) = m ((c.tc : Thread Cert.FfnSampleOneIdeal.nD Cert.FfnSampleOneIdeal.τ).loc Cert.FfnSampleOneIdeal.main_arg4)) →
    ∃ (v0 : (c : Dev Cert.FfnSampleOneIdeal.nD) → Buf (Elt Ideal) ((c.tc : Thread Cert.FfnSampleOneIdeal.nD Cert.FfnSampleOneIdeal.τ).loc Cert.FfnSampleOneIdeal.main_v7)),
      θ_run (Cert.FfnSampleOneIdeal.defs (F := Ideal)) (onTc (τ := Cert.FfnSampleOneIdeal.τ) (Cert.FfnSampleOneIdeal.main (F := Ideal))) ⟨m, fun _ => 0, g⟩ (fun r => ∀ c : Dev Cert.FfnSampleOneIdeal.nD,
          r.2.mem ((c.tc : Thread Cert.FfnSampleOneIdeal.nD Cert.FfnSampleOneIdeal.τ).loc Cert.FfnSampleOneIdeal.main_v7) = v0 c
          ∧ r.2.mem ((c.tc : Thread Cert.FfnSampleOneIdeal.nD Cert.FfnSampleOneIdeal.τ).loc Cert.FfnSampleOneIdeal.main_arg0) = m ((c.tc : Thread Cert.FfnSampleOneIdeal.nD Cert.FfnSampleOneIdeal.τ).loc Cert.FfnSampleOneIdeal.main_arg0)
          ∧ r.2.mem ((c.tc : Thread Cert.FfnSampleOneIdeal.nD Cert.FfnSampleOneIdeal.τ).loc Cert.FfnSampleOneIdeal.main_arg1) = m ((c.tc : Thread Cert.FfnSampleOneIdeal.nD Cert.FfnSampleOneIdeal.τ).loc Cert.FfnSampleOneIdeal.main_arg1)
          ∧ r.2.mem ((c.tc : Thread Cert.FfnSampleOneIdeal.nD Cert.FfnSampleOneIdeal.τ).loc Cert.FfnSampleOneIdeal.main_arg2) = m ((c.tc : Thread Cert.FfnSampleOneIdeal.nD Cert.FfnSampleOneIdeal.τ).loc Cert.FfnSampleOneIdeal.main_arg2)
          ∧ r.2.mem ((c.tc : Thread Cert.FfnSampleOneIdeal.nD Cert.FfnSampleOneIdeal.τ).loc Cert.FfnSampleOneIdeal.main_arg3) = m ((c.tc : Thread Cert.FfnSampleOneIdeal.nD Cert.FfnSampleOneIdeal.τ).loc Cert.FfnSampleOneIdeal.main_arg3)
          ∧ r.2.mem ((c.tc : Thread Cert.FfnSampleOneIdeal.nD Cert.FfnSampleOneIdeal.τ).loc Cert.FfnSampleOneIdeal.main_arg4) = m ((c.tc : Thread Cert.FfnSampleOneIdeal.nD Cert.FfnSampleOneIdeal.τ).loc Cert.FfnSampleOneIdeal.main_arg4))
      ∧ θ_run (Cert.FfnSampleOneRefIdeal.defs (F := Ideal)) (onTc (τ := Cert.FfnSampleOneRefIdeal.τ) (Cert.FfnSampleOneRefIdeal.main (F := Ideal))) ⟨m', fun _ => 0, g'⟩ (fun r => ∀ c : Dev Cert.FfnSampleOneRefIdeal.nD,
          r.2.mem ((c.tc : Thread Cert.FfnSampleOneRefIdeal.nD Cert.FfnSampleOneRefIdeal.τ).loc Cert.FfnSampleOneRefIdeal.main_v40) = v0 c
          ∧ r.2.mem ((c.tc : Thread Cert.FfnSampleOneRefIdeal.nD Cert.FfnSampleOneRefIdeal.τ).loc Cert.FfnSampleOneRefIdeal.main_arg0) = m' ((c.tc : Thread Cert.FfnSampleOneRefIdeal.nD Cert.FfnSampleOneRefIdeal.τ).loc Cert.FfnSampleOneRefIdeal.main_arg0)
          ∧ r.2.mem ((c.tc : Thread Cert.FfnSampleOneRefIdeal.nD Cert.FfnSampleOneRefIdeal.τ).loc Cert.FfnSampleOneRefIdeal.main_arg1) = m' ((c.tc : Thread Cert.FfnSampleOneRefIdeal.nD Cert.FfnSampleOneRefIdeal.τ).loc Cert.FfnSampleOneRefIdeal.main_arg1)
          ∧ r.2.mem ((c.tc : Thread Cert.FfnSampleOneRefIdeal.nD Cert.FfnSampleOneRefIdeal.τ).loc Cert.FfnSampleOneRefIdeal.main_arg2) = m' ((c.tc : Thread Cert.FfnSampleOneRefIdeal.nD Cert.FfnSampleOneRefIdeal.τ).loc Cert.FfnSampleOneRefIdeal.main_arg2)
          ∧ r.2.mem ((c.tc : Thread Cert.FfnSampleOneRefIdeal.nD Cert.FfnSampleOneRefIdeal.τ).loc Cert.FfnSampleOneRefIdeal.main_arg3) = m' ((c.tc : Thread Cert.FfnSampleOneRefIdeal.nD Cert.FfnSampleOneRefIdeal.τ).loc Cert.FfnSampleOneRefIdeal.main_arg3)
          ∧ r.2.mem ((c.tc : Thread Cert.FfnSampleOneRefIdeal.nD Cert.FfnSampleOneRefIdeal.τ).loc Cert.FfnSampleOneRefIdeal.main_arg4) = m' ((c.tc : Thread Cert.FfnSampleOneRefIdeal.nD Cert.FfnSampleOneRefIdeal.τ).loc Cert.FfnSampleOneRefIdeal.main_arg4))

def Claim : Prop :=
  ∃ (hFfnOne : Cert.FfnOne.Facts) (hFfnOneIdeal : Cert.FfnOneIdeal.Facts) (hFfnOneRefIdeal : Cert.FfnOneRefIdeal.Facts) (hFfnTwo : Cert.FfnTwo.Facts) (hFfnTwoIdeal : Cert.FfnTwoIdeal.Facts) (hFfnTwoRefIdeal : Cert.FfnTwoRefIdeal.Facts) (hFfnSample : Cert.FfnSample.Facts) (hFfnSampleIdeal : Cert.FfnSampleIdeal.Facts) (hFfnSampleRefIdeal : Cert.FfnSampleRefIdeal.Facts) (hMixer : Cert.Mixer.Facts) (hMixerIdeal : Cert.MixerIdeal.Facts) (hMixerRefIdeal : Cert.MixerRefIdeal.Facts) (hAda : Cert.Ada.Facts) (hAdaIdeal : Cert.AdaIdeal.Facts) (hAdaRefIdeal : Cert.AdaRefIdeal.Facts) (hFfnSampleOne : Cert.FfnSampleOne.Facts) (hFfnSampleOneIdeal : Cert.FfnSampleOneIdeal.Facts) (hFfnSampleOneRefIdeal : Cert.FfnSampleOneRefIdeal.Facts) (hPre_finite_inputs : Cert.Pre_finite_inputs.Facts),
    quiescent_FfnOne (hFfnOne := hFfnOne)
    ∧ quiescent_FfnOneIdeal (hFfnOneIdeal := hFfnOneIdeal)
    ∧ quiescent_FfnOneRefIdeal (hFfnOneRefIdeal := hFfnOneRefIdeal)
    ∧ quiescent_FfnTwo (hFfnTwo := hFfnTwo)
    ∧ quiescent_FfnTwoIdeal (hFfnTwoIdeal := hFfnTwoIdeal)
    ∧ quiescent_FfnTwoRefIdeal (hFfnTwoRefIdeal := hFfnTwoRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_Mixer (hMixer := hMixer)
    ∧ quiescent_MixerIdeal (hMixerIdeal := hMixerIdeal)
    ∧ quiescent_MixerIdeal_pre_finite_inputs (hMixerIdeal := hMixerIdeal) (hPre_finite_inputs := hPre_finite_inputs)
    ∧ quiescent_MixerRefIdeal (hMixerRefIdeal := hMixerRefIdeal)
    ∧ quiescent_MixerRefIdeal_pre_finite_inputs (hMixerRefIdeal := hMixerRefIdeal) (hPre_finite_inputs := hPre_finite_inputs)
    ∧ quiescent_Ada (hAda := hAda)
    ∧ quiescent_AdaIdeal (hAdaIdeal := hAdaIdeal)
    ∧ quiescent_AdaRefIdeal (hAdaRefIdeal := hAdaRefIdeal)
    ∧ quiescent_FfnSampleOne (hFfnSampleOne := hFfnSampleOne)
    ∧ quiescent_FfnSampleOneIdeal (hFfnSampleOneIdeal := hFfnSampleOneIdeal)
    ∧ quiescent_FfnSampleOneRefIdeal (hFfnSampleOneRefIdeal := hFfnSampleOneRefIdeal)
    ∧ preserves_FfnOne_FfnOneIdeal
    ∧ algebraic_FfnOneIdeal_FfnOneRefIdeal (hFfnOneIdeal := hFfnOneIdeal) (hFfnOneRefIdeal := hFfnOneRefIdeal)
    ∧ preserves_FfnTwo_FfnTwoIdeal
    ∧ algebraic_FfnTwoIdeal_FfnTwoRefIdeal (hFfnTwoIdeal := hFfnTwoIdeal) (hFfnTwoRefIdeal := hFfnTwoRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_Mixer_MixerIdeal
    ∧ algebraic_MixerIdeal_MixerRefIdeal_pre_finite_inputs (hMixerIdeal := hMixerIdeal) (hMixerRefIdeal := hMixerRefIdeal) (hPre_finite_inputs := hPre_finite_inputs)
    ∧ preserves_Ada_AdaIdeal
    ∧ algebraic_AdaIdeal_AdaRefIdeal (hAdaIdeal := hAdaIdeal) (hAdaRefIdeal := hAdaRefIdeal)
    ∧ preserves_FfnSampleOne_FfnSampleOneIdeal
    ∧ algebraic_FfnSampleOneIdeal_FfnSampleOneRefIdeal (hFfnSampleOneIdeal := hFfnSampleOneIdeal) (hFfnSampleOneRefIdeal := hFfnSampleOneRefIdeal)
-- ==== Pre_finite_inputs.lean ====
abbrev S512x1024 : Shape := ⟨2, ![512, 1024]⟩
abbrev S8x9x1024 : Shape := ⟨3, ![8, 9, 1024]⟩
abbrev S1x8x128x2x64 : Shape := ⟨5, ![1, 8, 128, 2, 64]⟩
abbrev S1x8x32x64 : Shape := ⟨4, ![1, 8, 32, 64]⟩
abbrev S1x1024 : Shape := ⟨2, ![1, 1024]⟩
abbrev S1x1024x3328 : Shape := ⟨3, ![1, 1024, 3328]⟩
abbrev S32x16x64 : Shape := ⟨3, ![32, 16, 64]⟩
abbrev S64x32x64 : Shape := ⟨3, ![64, 32, 64]⟩
abbrev S1x32x16x64 : Shape := ⟨4, ![1, 32, 16, 64]⟩
abbrev S1x32x16 : Shape := ⟨3, ![1, 32, 16]⟩
abbrev S1x512x512 : Shape := ⟨3, ![1, 512, 512]⟩
abbrev S1x512 : Shape := ⟨2, ![1, 512]⟩
abbrev S1x512x1024 : Shape := ⟨3, ![1, 512, 1024]⟩
abbrev S1x64 : Shape := ⟨2, ![1, 64]⟩
abbrev S1x8 : Shape := ⟨2, ![1, 8]⟩
abbrev S1x1024x1024 : Shape := ⟨3, ![1, 1024, 1024]⟩
abbrev S_ : Shape := ⟨0, ![]⟩

class Facts : Prop where
  bcast_S_S512x1024 : S_.BroadcastsInDim S512x1024 (![] : Fin 0 → Fin S512x1024.rank)
  bcast_S_S8x9x1024 : S_.BroadcastsInDim S8x9x1024 (![] : Fin 0 → Fin S8x9x1024.rank)
  bcast_S_S1x1024 : S_.BroadcastsInDim S1x1024 (![] : Fin 0 → Fin S1x1024.rank)
  bcast_S_S1x1024x3328 : S_.BroadcastsInDim S1x1024x3328 (![] : Fin 0 → Fin S1x1024x3328.rank)

variable [Facts]

def fn {F : FTy → Type} [FloatOps F] (main_arg0 : FVec F S512x1024 .f32) (main_arg1 : FVec F S8x9x1024 .f32) (main_arg2 : FVec F S1x8x128x2x64 .f32) (main_arg3 : FVec F S1x8x128x2x64 .f32) (main_arg4 : FVec F S1x8x32x64 .f32) (main_arg5 : FVec F S1x8x32x64 .f32) (main_arg6 : FVec F S1x1024 .f32) (main_arg7 : FVec F S1x1024x3328 .f32) (main_arg8 : FVec F S32x16x64 .f32) (main_arg9 : FVec F S32x16x64 .f32) (main_arg10 : FVec F S64x32x64 .f32) (main_arg11 : FVec F S64x32x64 .f32) (main_arg12 : FVec F S1x32x16x64 .f32) (main_arg13 : FVec F S1x32x16x64 .f32) (main_arg14 : FVec F S1x32x16 .f32) (main_arg15 : FVec F S1x512x512 .f32) (main_arg16 : FVec F S1x512 .f32) (main_arg17 : FVec F S1x512x1024 .f32) (main_arg18 : FVec F S1x64 .f32) (main_arg19 : FVec F S1x64 .f32) (main_arg20 : FVec F S1x8 .f32) (main_arg21 : FVec F S1x512x1024 .f32) (main_arg22 : FVec F S1x1024x1024 .f32) : IVec S512x1024 1 × IVec S8x9x1024 1 × IVec S1x1024 1 × IVec S1x1024x3328 1 :=
  let main_v0 : FVec F S512x1024 .f32 := Host.absf main_arg0
  let main_cst : FVec F S_ .f32 := constant S_ .f32 0x7F7FFFFF#32
  let main_v1 : FVec F S512x1024 .f32 := broadcastInDim S512x1024 ![] bcast_S_S512x1024 main_cst
  let main_v2 : IVec S512x1024 1 := cmpf .ole main_v0 main_v1
  let main_v3 : FVec F S8x9x1024 .f32 := Host.absf main_arg1
  let main_cst_0 : FVec F S_ .f32 := constant S_ .f32 0x7F7FFFFF#32
  let main_v4 : FVec F S8x9x1024 .f32 := broadcastInDim S8x9x1024 ![] bcast_S_S8x9x1024 main_cst_0
  let main_v5 : IVec S8x9x1024 1 := cmpf .ole main_v3 main_v4
  let main_v6 : FVec F S1x1024 .f32 := Host.absf main_arg6
  let main_cst_1 : FVec F S_ .f32 := constant S_ .f32 0x7F7FFFFF#32
  let main_v7 : FVec F S1x1024 .f32 := broadcastInDim S1x1024 ![] bcast_S_S1x1024 main_cst_1
  let main_v8 : IVec S1x1024 1 := cmpf .ole main_v6 main_v7
  let main_v9 : FVec F S1x1024x3328 .f32 := Host.absf main_arg7
  let main_cst_2 : FVec F S_ .f32 := constant S_ .f32 0x7F7FFFFF#32
  let main_v10 : FVec F S1x1024x3328 .f32 := broadcastInDim S1x1024x3328 ![] bcast_S_S1x1024x3328 main_cst_2
  let main_v11 : IVec S1x1024x3328 1 := cmpf .ole main_v9 main_v10
  (main_v2, main_v5, main_v8, main_v11)
-- ==== FfnOne.lean ====
abbrev S2x8192x1024 : Shape := ⟨3, ![2, 8192, 1024]⟩
abbrev S2x9x1024 : Shape := ⟨3, ![2, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S2816x1024 : Shape := ⟨2, ![2816, 1024]⟩
abbrev S1024 : Shape := ⟨1, ![1024]⟩
abbrev S16384x1024 : Shape := ⟨2, ![16384, 1024]⟩
abbrev S512x1024 : Shape := ⟨2, ![512, 1024]⟩
abbrev S1x9x1024 : Shape := ⟨3, ![1, 9, 1024]⟩
abbrev S512x2816 : Shape := ⟨2, ![512, 2816]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 13
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024x5632, .f32⟩
  | .hbm, ⟨6, _⟩ => ⟨S1024x5632, .bf16⟩
  | .hbm, ⟨7, _⟩ => ⟨S2816x1024, .f32⟩
  | .hbm, ⟨8, _⟩ => ⟨S2816x1024, .bf16⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnOneRefIdeal.lean ====
abbrev S2x8192x1024 : Shape := ⟨3, ![2, 8192, 1024]⟩
abbrev S2x9x1024 : Shape := ⟨3, ![2, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S2x3x3x1x1024 : Shape := ⟨5, ![2, 3, 3, 1, 1024]⟩
abbrev S2x1x1x1x1024 : Shape := ⟨5, ![2, 1, 1, 1, 1024]⟩
abbrev S2x1x1024 : Shape := ⟨3, ![2, 1, 1024]⟩
abbrev S_ : Shape := ⟨0, ![]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S2x3x3x1x1024, .f32⟩
  | .hbm, ⟨6, _⟩ => ⟨S2x1x1x1x1024, .f32⟩
  | .hbm, ⟨7, _⟩ => ⟨S2x1x1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S1024, .f32⟩
  | .hbm, ⟨12, _⟩ => ⟨S2x1x1x1x1024, .f32⟩
  | .hbm, ⟨13, _⟩ => ⟨S2x1x1024, .f32⟩
  | .hbm, ⟨14, _⟩ => ⟨S2x1x1x1x1024, .f32⟩
  | .hbm, ⟨15, _⟩ => ⟨S2x1x1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x1024, .f32⟩
  | .hbm, ⟨28, _⟩ => ⟨S2x8192x1024, .f32⟩
  | .hbm, ⟨29, _⟩ => ⟨S1x1x1024, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S1024x5632, .f32⟩
  | .hbm, ⟨40, _⟩ => ⟨S2816x1024, .f32⟩
  | .hbm, ⟨41, _⟩ => ⟨S2x8192x5632, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S_, .f32⟩
  | .hbm, ⟨47, _⟩ => ⟨S2x8192x2816, .f32⟩
  | .hbm, ⟨48, _⟩ => ⟨S2x8192x2816, .f32⟩
  | .hbm, ⟨49, _⟩ => ⟨S_, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== FfnTwo.lean ====
abbrev S16384x1024 : Shape := ⟨2, ![16384, 1024]⟩
abbrev S2x9x1024 : Shape := ⟨3, ![2, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S2816x1024 : Shape := ⟨2, ![2816, 1024]⟩
abbrev S1024 : Shape := ⟨1, ![1024]⟩
abbrev S512x1024 : Shape := ⟨2, ![512, 1024]⟩
abbrev S1x9x1024 : Shape := ⟨3, ![1, 9, 1024]⟩
abbrev S512x2816 : Shape := ⟨2, ![512, 2816]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 15
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1x1024, .f32⟩
  | .hbm, ⟨6, _⟩ => ⟨S1024x5632, .f32⟩
  | .hbm, ⟨7, _⟩ => ⟨S1024x5632, .bf16⟩
  | .hbm, ⟨8, _⟩ => ⟨S2816x1024, .f32⟩
  | .hbm, ⟨9, _⟩ => ⟨S2816x1024, .bf16⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnTwoRefIdeal.lean ====
abbrev S16384x1024 : Shape := ⟨2, ![16384, 1024]⟩
abbrev S2x9x1024 : Shape := ⟨3, ![2, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S2x8192x1024 : Shape := ⟨3, ![2, 8192, 1024]⟩
abbrev S2x3x3x1x1024 : Shape := ⟨5, ![2, 3, 3, 1, 1024]⟩
abbrev S2x1x1x1x1024 : Shape := ⟨5, ![2, 1, 1, 1, 1024]⟩
abbrev S2x1x1024 : Shape := ⟨3, ![2, 1, 1024]⟩
abbrev S_ : Shape := ⟨0, ![]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2816x1024 : Shape := ⟨2, ![2816, 1024]⟩
abbrev S2x8192x5632 : Shape := ⟨3, ![2, 8192, 5632]⟩
abbrev S2x8192x2816 : Shape := ⟨3, ![2, 8192, 2816]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1x1024, .f32⟩
  | .hbm, ⟨6, _⟩ => ⟨S2x8192x1024, .f32⟩
  | .hbm, ⟨7, _⟩ => ⟨S2x3x3x1x1024, .f32⟩
  | .hbm, ⟨8, _⟩ => ⟨S2x1x1x1x1024, .f32⟩
  | .hbm, ⟨9, _⟩ => ⟨S2x1x1024, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S1024, .f32⟩
  | .hbm, ⟨14, _⟩ => ⟨S2x1x1x1x1024, .f32⟩
  | .hbm, ⟨15, _⟩ => ⟨S2x1x1024, .f32⟩
  | .hbm, ⟨16, _⟩ => ⟨S2x1x1x1x1024, .f32⟩
  | .hbm, ⟨17, _⟩ => ⟨S2x1x1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S1024x5632, .f32⟩
  | .hbm, ⟨42, _⟩ => ⟨S2816x1024, .f32⟩
  | .hbm, ⟨43, _⟩ => ⟨S2x8192x5632, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S2x8192x2816, .f32⟩
  | .hbm, ⟨48, _⟩ => ⟨S_, .f32⟩
  | .hbm, ⟨49, _⟩ => ⟨S2x8192x2816, .f32⟩
  | .hbm, ⟨50, _⟩ => ⟨S2x8192x2816, .f32⟩
  | .hbm, ⟨51, _⟩ => ⟨S_, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S1024, .f32⟩
  | .hbm, ⟨61, _⟩ => ⟨S2x8192x1024, .f32⟩
  | .hbm, ⟨62, _⟩ => ⟨S_, .f32⟩
  | .hbm, ⟨63, _⟩ => ⟨S2x8192, .f32⟩
  | .hbm, ⟨64, _⟩ => ⟨S2x8192x1, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S2x8192x1, .f32⟩
  | .hbm, ⟨72, _⟩ => ⟨S2x8192x1024, .f32⟩
  | .hbm, ⟨73, _⟩ => ⟨S2x8192x1024, .f32⟩
  | .hbm, ⟨74, _⟩ => ⟨S1x1x1024, .f32⟩
  | .hbm, ⟨75, _⟩ => ⟨S2x8192x1024, .f32⟩
  | .hbm, ⟨76, _⟩ => ⟨S2x8192x1024, .f32⟩
  | .hbm, ⟨77, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== FfnSample.lean ====
abbrev S512x1024 : Shape := ⟨2, ![512, 1024]⟩
abbrev S8x9x1024 : Shape := ⟨3, ![8, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S2816x1024 : Shape := ⟨2, ![2816, 1024]⟩
abbrev S1024 : Shape := ⟨1, ![1024]⟩
abbrev S512x2816 : Shape := ⟨2, ![512, 2816]⟩
abbrev S8x1x1024 : Shape := ⟨3, ![8, 1, 1024]⟩
abbrev S8x1024 : Shape := ⟨2, ![8, 1024]⟩
abbrev S512 : Shape := ⟨1, ![512]⟩
abbrev S512x1 : Shape := ⟨2, ![512, 1]⟩
abbrev S8x64x1024 : Shape := ⟨3, ![8, 64, 1024]⟩
abbrev S1024x256 : Shape := ⟨2, ![1024, 256]⟩
abbrev S512x256 : Shape := ⟨2, ![512, 256]⟩

abbrev nBuf : Space → Nat
  | .hbm => 15
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S8x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1x1024, .f32⟩
  | .hbm, ⟨6, _⟩ => ⟨S1024x5632, .f32⟩
  | .hbm, ⟨7, _⟩ => ⟨S1024x5632, .bf16⟩
  | .hbm, ⟨8, _⟩ => ⟨S2816x1024, .f32⟩
  | .hbm, ⟨9, _⟩ => ⟨S2816x1024, .bf16⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S512x1024, .f32⟩
  | .local _ .vmem, ⟨0, _⟩ => ⟨S512x1024, .f32⟩
  | .local _ .vmem, ⟨1, _⟩ => ⟨S8x9x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x2816, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== FfnSampleRefIdeal.lean ====
abbrev S512x1024 : Shape := ⟨2, ![512, 1024]⟩
abbrev S8x9x1024 : Shape := ⟨3, ![8, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S8x64x1024 : Shape := ⟨3, ![8, 64, 1024]⟩
abbrev S8x3x3x1x1024 : Shape := ⟨5, ![8, 3, 3, 1, 1024]⟩
abbrev S8x1x1x1x1024 : Shape := ⟨5, ![8, 1, 1, 1, 1024]⟩
abbrev S8x1x1024 : Shape := ⟨3, ![8, 1, 1024]⟩
abbrev S_ : Shape := ⟨0, ![]⟩
abbrev S1024 : Shape := ⟨1, ![1024]⟩
abbrev S8x64 : Shape := ⟨2, ![8, 64]⟩
abbrev S8x64x1 : Shape := ⟨3, ![8, 64, 1]⟩
abbrev S1x1x1024 : Shape := ⟨3, ![1, 1, 1024]⟩
abbrev S1024x5632 : Shape := ⟨2, ![1024, 5632]⟩
abbrev S2816x1024 : Shape := ⟨2, ![2816, 1024]⟩
abbrev S8x64x5632 : Shape := ⟨3, ![8, 64, 5632]⟩
abbrev S8x64x2816 : Shape := ⟨3, ![8, 64, 2816]⟩

abbrev nBuf : Space → Nat
  | .hbm => 78
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1x1024, .f32⟩
  | .hbm, ⟨6, _⟩ => ⟨S8x64x1024, .f32⟩
  | .hbm, ⟨7, _⟩ => ⟨S8x3x3x1x1024, .f32⟩
  | .hbm, ⟨8, _⟩ => ⟨S8x1x1x1x1024, .f32⟩
  | .hbm, ⟨9, _⟩ => ⟨S8x1x1024, .f32⟩
  | .hbm, ⟨10, _⟩ => ⟨S_, .f32⟩
  | .hbm, ⟨11, _⟩ => ⟨S8x1x1024, .f32⟩
  | .hbm, ⟨12, _⟩ => ⟨S8x1x1024, .f32⟩
  | .hbm, ⟨13, _⟩ => ⟨S1024, .f32⟩
  | .hbm, ⟨14, _⟩ => ⟨S8x1x1x1x1024, .f32⟩
  | .hbm, ⟨15, _⟩ => ⟨S8x1x1024, .f32⟩
  | .hbm, ⟨16, _⟩ => ⟨S8x1x1x1x1024, .f32⟩
  | .hbm, ⟨17, _⟩ => ⟨S8x1x1024, .f32⟩
  | .hbm, ⟨18, _⟩ => ⟨S8x64x1024, .f32⟩
  | .hbm, ⟨19, _⟩ => ⟨S_, .f32⟩
  | .hbm, ⟨20, _⟩ => ⟨S8x64, .f32⟩
  | .hbm, ⟨21, _⟩ => ⟨S8x64x1, .f32⟩
  | .hbm, ⟨22, _⟩ => ⟨S_, .f32⟩
  | .hbm, ⟨23, _⟩ => ⟨S8x64x1, .f32⟩
  | .hbm, ⟨24, _⟩ => ⟨S8x64x1, .f32⟩
  | .hbm, ⟨25, _⟩ => ⟨S_, .f32⟩
  | .hbm, ⟨26, _⟩ => ⟨S8x64x1, .f32⟩
  | .hbm, ⟨27, _⟩ => ⟨S8x64x1, .f32⟩
  | .hbm, ⟨28, _⟩ => ⟨S8x64x1, .f32⟩
  | .hbm, ⟨29, _⟩ => ⟨S8x64x1024, .f32⟩
  | .hbm, ⟨30, _⟩ => ⟨S8x64x1024, .f32⟩
  | .hbm, ⟨31, _⟩ => ⟨S1x1x1024, .f32⟩
  | .hbm, ⟨32, _⟩ => ⟨S8x64x1024, .f32⟩
  | .hbm, ⟨33, _⟩ => ⟨S8x64x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x64x1024, .f32⟩
  | .hbm, ⟨38, _⟩ => ⟨S8x64x1024, .f32⟩
  | .hbm, ⟨39, _⟩ => ⟨S8x64x1024, .f32⟩
  | .hbm, ⟨40, _⟩ => ⟨S8x64x1024, .f32⟩
  | .hbm, ⟨41, _⟩ => ⟨S1024x5632, .f32⟩
  | .hbm, ⟨42, _⟩ => ⟨S2816x1024, .f32⟩
  | .hbm, ⟨43, _⟩ => ⟨S8x64x5632, .f32⟩
  | .hbm, ⟨44, _⟩ => ⟨S8x64x2816, .f32⟩
  | .hbm, ⟨45, _⟩ => ⟨S8x64x2816, .f32⟩
  | .hbm, ⟨46, _⟩ => ⟨S8x64x2816, .f32⟩
  | .hbm, ⟨47, _⟩ => ⟨S8x64x2816, .f32⟩
  | .hbm, ⟨48, _⟩ => ⟨S_, .f32⟩
  | .hbm, ⟨49, _⟩ => ⟨S8x64x2816, .f32⟩
  | .hbm, ⟨50, _⟩ => ⟨S8x64x2816, .f32⟩
  | .hbm, ⟨51, _⟩ => ⟨S_, .f32⟩
  | .hbm, ⟨52, _⟩ => ⟨S8x64x2816, .f32⟩
  | .hbm, ⟨53, _⟩ => ⟨S8x64x2816, .f32⟩
  | .hbm, ⟨54, _⟩ => ⟨S8x64x2816, .f32⟩
  | .hbm, ⟨55, _⟩ => ⟨S8x64x2816, .f32⟩
  | .hbm, ⟨56, _⟩ => ⟨S8x64x1024, .f32⟩
  | .hbm, ⟨57, _⟩ => ⟨S8x64x1024, .f32⟩
  | .hbm, ⟨58, _⟩ => ⟨S8x64x1024, .f32⟩
  | .hbm, ⟨59, _⟩ => ⟨S8x64x1024, .f32⟩
  | .hbm, ⟨60, _⟩ => ⟨S1024, .f32⟩
  | .hbm, ⟨61, _⟩ => ⟨S8x64x1024, .f32⟩
  | .hbm, ⟨62, _⟩ => ⟨S_, .f32⟩
  | .hbm, ⟨63, _⟩ => ⟨S8x64, .f32⟩
  | .hbm, ⟨64, _⟩ => ⟨S8x64x1, .f32⟩
  | .hbm, ⟨65, _⟩ => ⟨S_, .f32⟩
  | .hbm, ⟨66, _⟩ => ⟨S8x64x1, .f32⟩
  | .hbm, ⟨67, _⟩ => ⟨S8x64x1, .f32⟩
  | .hbm, ⟨68, _⟩ => ⟨S_, .f32⟩
  | .hbm, ⟨69, _⟩ => ⟨S8x64x1, .f32⟩
  | .hbm, ⟨70, _⟩ => ⟨S8x64x1, .f32⟩
  | .hbm, ⟨71, _⟩ => ⟨S8x64x1, .f32⟩
  | .hbm, ⟨72, _⟩ => ⟨S8x64x1024, .f32⟩
  | .hbm, ⟨73, _⟩ => ⟨S8x64x1024, .f32⟩
  | .hbm, ⟨74, _⟩ => ⟨S1x1x1024, .f32⟩
  | .hbm, ⟨75, _⟩ => ⟨S8x64x1024, .f32⟩
  | .hbm, ⟨76, _⟩ => ⟨S8x64x1024, .f32⟩
  | .hbm, ⟨77, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Mixer.lean ====
abbrev S512x1024 : Shape := ⟨2, ![512, 1024]⟩
abbrev S8x9x1024 : Shape := ⟨3, ![8, 9, 1024]⟩
abbrev S1x8x128x2x64 : Shape := ⟨5, ![1, 8, 128, 2, 64]⟩
abbrev S1x8x32x64 : Shape := ⟨4, ![1, 8, 32, 64]⟩
abbrev S1x1024 : Shape := ⟨2, ![1, 1024]⟩
abbrev S1x1024x3328 : Shape := ⟨3, ![1, 1024, 3328]⟩
abbrev S32x16x64 : Shape := ⟨3, ![32, 16, 64]⟩
abbrev S64x32x64 : Shape := ⟨3, ![64, 32, 64]⟩
abbrev S1x32x16x64 : Shape := ⟨4, ![1, 32, 16, 64]⟩
abbrev S1x32x16 : Shape := ⟨3, ![1, 32, 16]⟩
abbrev S1x512x512 : Shape := ⟨3, ![1, 512, 512]⟩
abbrev S1x512 : Shape := ⟨2, ![1, 512]⟩
abbrev S1x512x1024 : Shape := ⟨3, ![1, 512, 1024]⟩
abbrev S1x64 : Shape := ⟨2, ![1, 64]⟩
abbrev S1x8 : Shape := ⟨2, ![1, 8]⟩
abbrev S1x1024x1024 : Shape := ⟨3, ![1, 1024, 1024]⟩
abbrev S8x8 : Shape := ⟨2, ![8, 8]⟩
abbrev S_ : Shape := ⟨0, ![]⟩
abbrev S128 : Shape := ⟨1, ![128]⟩
abbrev S8 : Shape := ⟨1, ![8]⟩
abbrev S64x64 : Shape := ⟨2, ![64, 64]⟩
abbrev S1x64x1x64 : Shape := ⟨4, ![1, 64, 1, 64]⟩
abbrev S1x64x4x64 : Shape := ⟨4, ![1, 64, 4, 64]⟩
abbrev S64x256 : Shape := ⟨2, ![64, 256]⟩
abbrev S128x256 : Shape := ⟨2, ![128, 256]⟩
abbrev S1 : Shape := ⟨1, ![1]⟩
abbrev S1x128x256 : Shape := ⟨3, ![1, 128, 256]⟩
abbrev S2x128x256 : Shape := ⟨3, ![2, 128, 256]⟩
abbrev S1024 : Shape := ⟨1, ![1024]⟩
abbrev S1024x3328 : Shape := ⟨2, ![1024, 3328]⟩
abbrev S64 : Shape := ⟨1, ![64]⟩
abbrev S8x64 : Shape := ⟨2, ![8, 64]⟩
abbrev S512 : Shape := ⟨1, ![512]⟩
abbrev S2x64 : Shape := ⟨2, ![2, 64]⟩
abbrev S1x128 : Shape := ⟨2, ![1, 128]⟩
abbrev S8x1x8x1 : Shape := ⟨4, ![8, 1, 8, 1]⟩
abbrev S8x64x8x64 : Shape := ⟨4, ![8, 64, 8, 64]⟩
abbrev S512x512 : Shape := ⟨2, ![512, 512]⟩
abbrev S128x1 : Shape := ⟨2, ![128, 1]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x128x1024 : Shape := ⟨3, ![4, 128, 1024]⟩
abbrev S4x8x64x16 : Shape := ⟨4, ![4, 8, 64, 16]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S4x1024x128 : Shape := ⟨3, ![4, 1024, 128]⟩
abbrev S64x4x512 : Shape := ⟨3, ![64, 4, 512]⟩
abbrev S64x4x1x512 : Shape := ⟨4, ![64, 4, 1, 512]⟩
abbrev S64x4x2x512 : Shape := ⟨4, ![64, 4, 2, 512]⟩
abbrev S64x4096 : Shape := ⟨2, ![64, 4096]⟩
abbrev S32x16 : Shape := ⟨2, ![32, 16]⟩
abbrev S1024x1024 : Shape := ⟨2, ![1024, 1024]⟩
abbrev S8x128x2x64 : Shape := ⟨4, ![8, 128, 2, 64]⟩
abbrev S1024x128 : Shape := ⟨2, ![1024, 128]⟩
abbrev S8x32x64 : Shape := ⟨3, ![8, 32, 64]⟩
abbrev S8x4x512 : Shape := ⟨3, ![8, 4, 512]⟩
abbrev S8x4x1x512 : Shape := ⟨4, ![8, 4, 1, 512]⟩
abbrev S8x4x2x512 : Shape := ⟨4, ![8, 4, 2, 512]⟩
abbrev S8x4096 : Shape := ⟨2, ![8, 4096]⟩
abbrev S1x8x4096 : Shape := ⟨3, ![1, 8, 4096]⟩
abbrev S512x128 : Shape := ⟨2, ![512, 128]⟩
abbrev S64x8x1024 : Shape := ⟨3, ![64, 8, 1024]⟩
abbrev S640x256 : Shape := ⟨2, ![640, 256]⟩
abbrev S1024x256 : Shape := ⟨2, ![1024, 256]⟩
abbrev S8x1x1024 : Shape := ⟨3, ![8, 1, 1024]⟩
abbrev S8x1024 : Shape := ⟨2, ![8, 1024]⟩
abbrev S512x1 : Shape := ⟨2, ![512, 1]⟩
abbrev S8x64x1024 : Shape := ⟨3, ![8, 64, 1024]⟩
abbrev S1024x512 : Shape := ⟨2, ![1024, 512]⟩
abbrev S1x512x128 : Shape := ⟨3, ![1, 512, 128]⟩
abbrev S512x256 : Shape := ⟨2, ![512, 256]⟩
abbrev S128x128 : Shape := ⟨2, ![128, 128]⟩
abbrev S1x256 : Shape := ⟨2, ![1, 256]⟩
abbrev S64x1 : Shape := ⟨2, ![64, 1]⟩
abbrev S256x1 : Shape := ⟨2, ![256, 1]⟩
abbrev S256x256 : Shape := ⟨2, ![256, 256]⟩
abbrev S192x256 : Shape := ⟨2, ![192, 256]⟩
abbrev S256x192 : Shape := ⟨2, ![256, 192]⟩
abbrev S256 : Shape := ⟨1, ![256]⟩
abbrev S8x128 : Shape := ⟨2, ![8, 128]⟩
abbrev S1x8x128 : Shape := ⟨3, ![1, 8, 128]⟩
abbrev S1x128x1024 : Shape := ⟨3, ![1, 128, 1024]⟩
abbrev S128x1024 : Shape := ⟨2, ![128, 1024]⟩
abbrev S8x512 : Shape := ⟨2, ![8, 512]⟩
abbrev S1x8x512 : Shape := ⟨3, ![1, 8, 512]⟩
abbrev S1x1024x128 : Shape := ⟨3, ![1, 1024, 128]⟩
abbrev S8x64x2x64 : Shape := ⟨4, ![8, 64, 2, 64]⟩

abbrev nBuf : Space → Nat
  | .hbm => 261
  | .vmem => 37
  | .smem => 1
  | _ => 0

abbrev hbmTy0_0 (i : Nat) : BufTy := match i % 128 with
  | 0 => ⟨S512x1024, .f32⟩
  | 1 => ⟨S8x9x1024, .f32⟩
  | 2 => ⟨S1x8x128x2x64, .f32⟩
  | 3 => ⟨S1x8x128x2x64, .f32⟩
  | 4 => ⟨S1x8x32x64, .f32⟩
  | 5 => ⟨S1x8x32x64, .f32⟩
  | 6 => ⟨S1x1024, .f32⟩
  | 7 => ⟨S1x1024x3328, .f32⟩
  | 8 => ⟨S32x16x64, .f32⟩
  | 9 => ⟨S32x16x64, .f32⟩
  | 10 => ⟨S64x32x64, .f32⟩
  | 11 => ⟨S64x32x64, .f32⟩
  | 12 => ⟨S1x32x16x64, .f32⟩
  | 13 => ⟨S1x32x16x64, .f32⟩
  | 14 => ⟨S1x32x16, .f32⟩
  | 15 => ⟨S1x512x512, .f32⟩
  | 16 => ⟨S1x512, .f32⟩
  | 17 => ⟨S1x512x1024, .f32⟩
  | 18 => ⟨S1x64, .f32⟩
  | 19 => ⟨S1x64, .f32⟩
  | 20 => ⟨S1x8, .f32⟩
  | 21 => ⟨S1x512x1024, .f32⟩
  | 22 => ⟨S1x1024x1024, .f32⟩
  | 23 => ⟨S8x8, .i32⟩
  | 24 => ⟨S8x8, .i32⟩
  | 25 => ⟨S_, .i32⟩
  | 26 => ⟨S8x8, .i32⟩
  | 27 => ⟨S8x8, .i32⟩
  | 28 => ⟨S8x8, .i1⟩
  | 29 => ⟨S8x8, .f32⟩
  | 30 => ⟨S128, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S128, .i32⟩
  | 38 => ⟨S128, .i32⟩
  | 39 => ⟨S_, .i32⟩
  | 40 => ⟨S128, .i32⟩
  | 41 => ⟨S128, .i1⟩
  | 42 => ⟨S_, .i32⟩
  | 43 => ⟨S128, .i32⟩
  | 44 => ⟨S128, .i1⟩
  | 45 => ⟨S_, .i32⟩
  | 46 => ⟨S_, .i1⟩
  | 47 => ⟨S128, .i1⟩
  | 48 => ⟨S128, .i1⟩
  | 49 => ⟨S128, .i1⟩
  | 50 => ⟨S128, .i32⟩
  | 51 => ⟨S128, .i32⟩
  | 52 => ⟨S128, .i32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S64x64, .i32⟩
  | 62 => ⟨S64x64, .i32⟩
  | 63 => ⟨S_, .i32⟩
  | 64 => ⟨S64x64, .i32⟩
  | 65 => ⟨S64x64, .i32⟩
  | 66 => ⟨S64x64, .i1⟩
  | 67 => ⟨S64x64, .f32⟩
  | 68 => ⟨S1x64x1x64, .f32⟩
  | 69 => ⟨S1x64x4x64, .f32⟩
  | 70 => ⟨S64x256, .f32⟩
  | 71 => ⟨S_, .f32⟩
  | 72 => ⟨S128x256, .f32⟩
  | 73 => ⟨S_, .i32⟩
  | 74 => ⟨S1, .i32⟩
  | 75 => ⟨S128x256, .f32⟩
  | 76 => ⟨S_, .f32⟩
  | 77 => ⟨S128x256, .f32⟩
  | 78 => ⟨S_, .i32⟩
  | 79 => ⟨S1, .i32⟩
  | 80 => ⟨S128x256, .f32⟩
  | 81 => ⟨S1x128x256, .f32⟩
  | 82 => ⟨S1x128x256, .f32⟩
  | 83 => ⟨S2x128x256, .f32⟩
  | 84 => ⟨S1024, .f32⟩
  | 85 => ⟨S1x1024, .f32⟩
  | 86 => ⟨S1024x3328, .f32⟩
  | 87 => ⟨S1024x3328, .bf16⟩
  | 88 => ⟨S64, .f32⟩
  | 89 => ⟨S1x64, .f32⟩
  | 90 => ⟨S8x64, .f32⟩
  | 91 => ⟨S512, .f32⟩
  | 92 => ⟨S1x512, .f32⟩
  | 93 => ⟨S64, .f32⟩
  | 94 => ⟨S1x64, .f32⟩
  | 95 => ⟨S2x64, .f32⟩
  | 96 => ⟨S128, .f32⟩
  | 97 => ⟨S1x128, .f32⟩
  | 98 => ⟨S8x8, .i32⟩
  | 99 => ⟨S8x8, .i32⟩
  | 100 => ⟨S_, .i32⟩
  | 101 => ⟨S8x8, .i32⟩
  | 102 => ⟨S8x8, .i32⟩
  | 103 => ⟨S8x8, .i1⟩
  | 104 => ⟨S8x8, .f32⟩
  | 105 => ⟨S_, .f32⟩
  | 106 => ⟨S64x64, .f32⟩
  | 107 => ⟨S8x1x8x1, .f32⟩
  | 108 => ⟨S1x64x1x64, .f32⟩
  | 109 => ⟨S8x64x8x64, .f32⟩
  | 110 => ⟨S8x64x8x64, .f32⟩
  | 111 => ⟨S8x64x8x64, .f32⟩
  | 112 => ⟨S512x512, .f32⟩
  | 113 => ⟨S512x512, .bf16⟩
  | 114 => ⟨S_, .i32⟩
  | 115 => ⟨S128, .i32⟩
  | 116 => ⟨S128, .i1⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S128, .i32⟩
  | 124 => ⟨S128, .i32⟩
  | 125 => ⟨S_, .i32⟩
  | 126 => ⟨S128, .i32⟩
  | 127 => ⟨S128, .i1⟩
  | _ => ⟨S512x1024, .f32⟩

abbrev hbmTy0_1 (i : Nat) : BufTy := match i % 128 with
  | 0 => ⟨S_, .i32⟩
  | 1 => ⟨S128, .i32⟩
  | 2 => ⟨S128, .i1⟩
  | 3 => ⟨S_, .i32⟩
  | 4 => ⟨S_, .i1⟩
  | 5 => ⟨S128, .i1⟩
  | 6 => ⟨S128, .i1⟩
  | 7 => ⟨S128, .i1⟩
  | 8 => ⟨S128, .i32⟩
  | 9 => ⟨S128, .i32⟩
  | 10 => ⟨S128, .i32⟩
  | 11 => ⟨S_, .i32⟩
  | 12 => ⟨S128, .i32⟩
  | 13 => ⟨S128, .i1⟩
  | 14 => ⟨S_, .i32⟩
  | 15 => ⟨S128, .i32⟩
  | 16 => ⟨S128, .i32⟩
  | 17 => ⟨S128, .i32⟩
  | 18 => ⟨S128x1, .i32⟩
  | 19 => ⟨S128, .f32⟩
  | 20 => ⟨S_, .f32⟩
  | 21 => ⟨S_, .f32⟩
  | 22 => ⟨S128, .f32⟩
  | 23 => ⟨S128, .f32⟩
  | 24 => ⟨S1x128, .f32⟩
  | 25 => ⟨S_, .i32⟩
  | 26 => ⟨S128, .i32⟩
  | 27 => ⟨S128, .i1⟩
  | 28 => ⟨S_, .f32⟩
  | 29 => ⟨S_, .f32⟩
  | 30 => ⟨S128, .f32⟩
  | 31 => ⟨S128, .f32⟩
  | 32 => ⟨S128, .f32⟩
  | 33 => ⟨S1x128, .f32⟩
  | 34 => ⟨S1x128, .f32⟩
  | 35 => ⟨S_, .i32⟩
  | 36 => ⟨S128, .i32⟩
  | 37 => ⟨S128, .i1⟩
  | 38 => ⟨S_, .i32⟩
  | 39 => ⟨S128, .i32⟩
  | 40 => ⟨S128, .i1⟩
  | 41 => ⟨S128, .i1⟩
  | 42 => ⟨S_, .f32⟩
  | 43 => ⟨S_, .f32⟩
  | 44 => ⟨S128, .f32⟩
  | 45 => ⟨S128, .f32⟩
  | 46 => ⟨S128, .f32⟩
  | 47 => ⟨S1x128, .f32⟩
  | 48 => ⟨S1x128, .f32⟩
  | 49 => ⟨S2x128x256, .bf16⟩
  | 50 => ⟨S8, .f32⟩
  | 51 => ⟨S4x8x16x64, .f32⟩
  | 52 => ⟨S4x8x16x1x64, .f32⟩
  | 53 => ⟨S1x8x1x8x1, .f32⟩
  | 54 => ⟨S4x8x16x8x64, .f32⟩
  | 55 => ⟨S4x8x16x8x64, .f32⟩
  | 56 => ⟨S4x8x16x8x64, .f32⟩
  | 57 => ⟨S4x128x512, .f32⟩
  | 58 => ⟨S4x8x16x64, .f32⟩
  | 59 => ⟨S4x8x16x1x64, .f32⟩
  | 60 => ⟨S1x8x1x8x1, .f32⟩
  | 61 => ⟨S4x8x16x8x64, .f32⟩
  | 62 => ⟨S4x8x16x8x64, .f32⟩
  | 63 => ⟨S4x8x16x8x64, .f32⟩
  | 64 => ⟨S4x128x512, .f32⟩
  | 65 => ⟨S4x128x1024, .f32⟩
  | 66 => ⟨S4x128x1024, .bf16⟩
  | 67 => ⟨S32x16x64, .f32⟩
  | 68 => ⟨S4x8x16x64, .f32⟩
  | 69 => ⟨S4x8x64x16, .f32⟩
  | 70 => ⟨S4x8x64x1x16, .f32⟩
  | 71 => ⟨S1x8x1x8x1, .f32⟩
  | 72 => ⟨S4x8x64x8x16, .f32⟩
  | 73 => ⟨S4x8x64x8x16, .f32⟩
  | 74 => ⟨S4x8x64x8x16, .f32⟩
  | 75 => ⟨S4x512x128, .f32⟩
  | 76 => ⟨S32x16x64, .f32⟩
  | 77 => ⟨S4x8x16x64, .f32⟩
  | 78 => ⟨S4x8x64x16, .f32⟩
  | 79 => ⟨S4x8x64x1x16, .f32⟩
  | 80 => ⟨S1x8x1x8x1, .f32⟩
  | 81 => ⟨S4x8x64x8x16, .f32⟩
  | 82 => ⟨S4x8x64x8x16, .f32⟩
  | 83 => ⟨S4x8x64x8x16, .f32⟩
  | 84 => ⟨S4x512x128, .f32⟩
  | 85 => ⟨S4x512x128, .f32⟩
  | 86 => ⟨S4x1024x128, .f32⟩
  | 87 => ⟨S4x1024x128, .bf16⟩
  | 88 => ⟨S64x4x512, .f32⟩
  | 89 => ⟨S64x4x512, .f32⟩
  | 90 => ⟨S64x4x1x512, .f32⟩
  | 91 => ⟨S64x4x1x512, .f32⟩
  | 92 => ⟨S64x4x2x512, .f32⟩
  | 93 => ⟨S64x4096, .f32⟩
  | 94 => ⟨S32x16, .f32⟩
  | 95 => ⟨S1x512, .f32⟩
  | 96 => ⟨S512x512, .f32⟩
  | 97 => ⟨S512x512, .bf16⟩
  | 98 => ⟨S512, .f32⟩
  | 99 => ⟨S1x512, .f32⟩
  | 100 => ⟨S512x1024, .f32⟩
  | 101 => ⟨S512x1024, .bf16⟩
  | 102 => ⟨S512x1024, .f32⟩
  | 103 => ⟨S512x1024, .bf16⟩
  | 104 => ⟨S1024x1024, .f32⟩
  | 105 => ⟨S1024x1024, .bf16⟩
  | 106 => ⟨S8x128x2x64, .f32⟩
  | 107 => ⟨S1024x128, .f32⟩
  | 108 => ⟨S8x128x2x64, .f32⟩
  | 109 => ⟨S1024x128, .f32⟩
  | 110 => ⟨S8x32x64, .f32⟩
  | 111 => ⟨S8x32x64, .f32⟩
  | 112 => ⟨S8x4x512, .f32⟩
  | 113 => ⟨S8x4x512, .f32⟩
  | 114 => ⟨S8x4x1x512, .f32⟩
  | 115 => ⟨S8x4x1x512, .f32⟩
  | 116 => ⟨S8x4x2x512, .f32⟩
  | 117 => ⟨S8x4096, .f32⟩
  | 118 => ⟨S1x8x4096, .f32⟩
  | 119 => ⟨S512x1024, .f32⟩
  | 120 => ⟨S512x128, .f32⟩
  | 121 => ⟨S512x128, .f32⟩
  | 122 => ⟨S1x8x4096, .f32⟩
  | 123 => ⟨S8x128x2x64, .f32⟩
  | 124 => ⟨S8x64x2x64, .f32⟩
  | 125 => ⟨S8x64x2x64, .f32⟩
  | 126 => ⟨S8x128x2x64, .f32⟩
  | 127 => ⟨S1x8x128x2x64, .f32⟩
  | _ => ⟨S512x1024, .f32⟩

abbrev hbmTy0_2 (i : Nat) : BufTy := match i % 128 with
  | 0 => ⟨S8x128x2x64, .f32⟩
  | 1 => ⟨S8x64x2x64, .f32⟩
  | 2 => ⟨S8x64x2x64, .f32⟩
  | 3 => ⟨S8x128x2x64, .f32⟩
  | 4 => ⟨S1x8x128x2x64, .f32⟩
  | _ => ⟨S512x1024, .f32⟩

abbrev hbmTy (i : Nat) : BufTy := match i / 128 with
  | 0 => hbmTy0_0 i
  | 1 => hbmTy0_1 i
  | 2 => hbmTy0_2 i
  | _ => ⟨S512x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S8x9x1024, .f32⟩
  | .local _ .vmem, ⟨2, _⟩ => ⟨S1x1024, .f32⟩
  | .local _ .vmem, ⟨3, _⟩ => ⟨S1024x3328, .bf16⟩
  | .local _ .vmem, ⟨4, _⟩ => ⟨S1x512, .f32⟩
  | .local _ .vmem, ⟨5, _⟩ => ⟨S1x128, .f32⟩
  | .local _ .vmem, ⟨6, _⟩ => ⟨S512x512, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2x128x256, .bf16⟩
  | .local _ .vmem, ⟨11, _⟩ => ⟨S4x128x1024, .bf16⟩
  | .local _ .vmem, ⟨12, _⟩ => ⟨S4x1024x128, .bf16⟩
  | .local _ .vmem, ⟨13, _⟩ => ⟨S64x4096, .f32⟩
  | .local _ .vmem, ⟨14, _⟩ => ⟨S1x512, .f32⟩
  | .local _ .vmem, ⟨15, _⟩ => ⟨S512x512, .bf16⟩
  | .local _ .vmem, ⟨16, _⟩ => ⟨S1x512, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1024x128, .f32⟩
  | .local _ .vmem, ⟨21, _⟩ => ⟨S1024x128, .f32⟩
  | .local _ .vmem, ⟨22, _⟩ => ⟨S1x8x4096, .f32⟩
  | .local _ .vmem, ⟨23, _⟩ => ⟨S512x1024, .f32⟩
  | .local _ .vmem, ⟨24, _⟩ => ⟨S512x128, .f32⟩
  | .local _ .vmem, ⟨25, _⟩ => ⟨S512x128, .f32⟩
  | .local _ .vmem, ⟨26, _⟩ => ⟨S1x8x4096, .f32⟩
  | .local _ .vmem, ⟨27, _⟩ => ⟨S4x512x128, .f32⟩
  | .local _ .vmem, ⟨28, _⟩ => ⟨S4x512x128, .f32⟩
  | .local _ .vmem, ⟨29, _⟩ => ⟨S64x8x1024, .f32⟩
  | .local _ .vmem, ⟨30, _⟩ => ⟨S4x512x128, .f32⟩
  | .local _ .vmem, ⟨31, _⟩ => ⟨S512x512, .bf16⟩
  | .local _ .vmem, ⟨32, _⟩ => ⟨S640x256, .bf16⟩
  | .local _ .vmem, ⟨33, _⟩ => ⟨S640x256, .bf16⟩
  | .local _ .vmem, ⟨34, _⟩ => ⟨S512x512, .bf16⟩
  | .local _ .vmem, ⟨35, _⟩ => ⟨S1024x256, .bf16⟩
  | .local _ .vmem, ⟨36, _⟩ => ⟨S1024x256, .bf16⟩
  | .local _ .smem, ⟨0, _⟩ => ⟨S8, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_c : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_0 : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_v5 : Ref sig .tc := ⟨.hbm, 40, rfl⟩
abbrev main_call0_v6 : Ref sig .tc := ⟨.hbm, 41, rfl⟩
abbrev main_call0_c_2 : Ref sig .tc := ⟨.hbm, 42, rfl⟩
abbrev main_call0_v7 : Ref sig .tc := ⟨.hbm, 43, rfl⟩
abbrev main_call0_v8 : Ref sig .tc := ⟨.hbm, 44, rfl⟩
abbrev main_call0_c_3 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_cst : Ref sig .tc := ⟨.hbm, 55, rfl⟩
abbrev main_v10 : Ref sig .tc := ⟨.hbm, 56, rfl⟩
abbrev main_v11 : Ref sig .tc := ⟨.hbm, 57, rfl⟩
abbrev main_cst_1 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_c_2 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_cst_3 : Ref sig .tc := ⟨.hbm, 71, rfl⟩
abbrev main_v23 : Ref sig .tc := ⟨.hbm, 72, rfl⟩
abbrev main_c_4 : Ref sig .tc := ⟨.hbm, 73, rfl⟩
abbrev main_v24 : Ref sig .tc := ⟨.hbm, 74, rfl⟩
abbrev main_v25 : Ref sig .tc := ⟨.hbm, 75, rfl⟩
abbrev main_cst_5 : Ref sig .tc := ⟨.hbm, 76, rfl⟩
abbrev main_v26 : Ref sig .tc := ⟨.hbm, 77, rfl⟩
abbrev main_c_6 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_c_7 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst_8 : Ref sig .tc := ⟨.hbm, 105, rfl⟩
abbrev main_v52 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_v53 : Ref sig .tc := ⟨.hbm, 112, rfl⟩
abbrev main_v54 : Ref sig .tc := ⟨.hbm, 113, rfl⟩
abbrev main_c_9 : Ref sig .tc := ⟨.hbm, 114, rfl⟩
abbrev main_v55 : Ref sig .tc := ⟨.hbm, 115, rfl⟩
abbrev main_v56 : Ref sig .tc := ⟨.hbm, 116, rfl⟩
abbrev main_c_10 : Ref sig .tc := ⟨.hbm, 117, rfl⟩
abbrev main_call2_v0 : Ref sig .tc := ⟨.hbm, 118, rfl⟩
abbrev main_call2_c : Ref sig .tc := ⟨.hbm, 119, rfl⟩
abbrev main_call2_v1 : Ref sig .tc := ⟨.hbm, 120, rfl⟩
abbrev main_call2_c_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_c_1 : Ref sig .tc := ⟨.hbm, 125, rfl⟩
abbrev main_call2_v5 : Ref sig .tc := ⟨.hbm, 126, rfl⟩
abbrev main_call2_v6 : Ref sig .tc := ⟨.hbm, 127, rfl⟩
abbrev main_call2_c_2 : Ref sig .tc := ⟨.hbm, 128, rfl⟩
abbrev main_call2_v7 : Ref sig .tc := ⟨.hbm, 129, rfl⟩
abbrev main_call2_v8 : Ref sig .tc := ⟨.hbm, 130, rfl⟩
abbrev main_call2_c_3 : Ref sig .tc := ⟨.hbm, 131, rfl⟩
abbrev main_call2_v9 : Ref sig .tc := ⟨.hbm, 132, rfl⟩
abbrev main_call2_v10 : Ref sig .tc := ⟨.hbm, 133, rfl⟩
abbrev main_call2_v11 : Ref sig .tc := ⟨.hbm, 134, rfl⟩
abbrev main_call2_v12 : Ref sig .tc := ⟨.hbm, 135, rfl⟩
abbrev main_call2_v13 : Ref sig .tc := ⟨.hbm, 136, rfl⟩
abbrev main_call2_v14 : Ref sig .tc := ⟨.hbm, 137, rfl⟩
abbrev main_v57 : Ref sig .tc := ⟨.hbm, 138, rfl⟩
abbrev main_c_11 : Ref sig .tc := ⟨.hbm, 139, rfl⟩
abbrev main_v58 : Ref sig .tc := ⟨.hbm, 140, rfl⟩
abbrev main_v59 : Ref sig .tc := ⟨.hbm, 141, rfl⟩
abbrev main_c_12 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_cst_13 : Ref sig .tc := ⟨.hbm, 148, rfl⟩
abbrev main_call3_v0 : Ref sig .tc := ⟨.hbm, 149, rfl⟩
abbrev main_call3_v1 : Ref sig .tc := ⟨.hbm, 150, rfl⟩
abbrev main_v65 : Ref sig .tc := ⟨.hbm, 151, rfl⟩
abbrev main_v66 : Ref sig .tc := ⟨.hbm, 152, rfl⟩
abbrev main_c_14 : Ref sig .tc := ⟨.hbm, 153, rfl⟩
abbrev main_v67 : Ref sig .tc := ⟨.hbm, 154, rfl⟩
abbrev main_v68 : Ref sig .tc := ⟨.hbm, 155, rfl⟩
abbrev main_cst_15 : Ref sig .tc := ⟨.hbm, 156, rfl⟩
abbrev main_cst_16 : Ref sig .tc := ⟨.hbm, 157, rfl⟩
abbrev main_call4_v0 : Ref sig .tc := ⟨.hbm, 158, rfl⟩
abbrev main_call4_v1 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_c_17 : Ref sig .tc := ⟨.hbm, 163, rfl⟩
abbrev main_v72 : Ref sig .tc := ⟨.hbm, 164, rfl⟩
abbrev main_v73 : Ref sig .tc := ⟨.hbm, 165, rfl⟩
abbrev main_c_18 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_cst_19 : Ref sig .tc := ⟨.hbm, 170, rfl⟩
abbrev main_cst_20 : Ref sig .tc := ⟨.hbm, 171, rfl⟩
abbrev main_call5_v0 : Ref sig .tc := ⟨.hbm, 172, rfl⟩
abbrev main_call5_v1 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_v111 : Ref sig .tc := ⟨.hbm, 208, rfl⟩
abbrev main_v112 : Ref sig .tc := ⟨.hbm, 209, rfl⟩
abbrev main_v113 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150_0 : Ref sig .tc := ⟨.hbm, 247, rfl⟩
abbrev main_v150_1 : Ref sig .tc := ⟨.hbm, 248, rfl⟩
abbrev main_v150_2 : Ref sig .tc := ⟨.hbm, 249, rfl⟩
abbrev main_v150_3 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg19_0 : Ref sig .tc := ⟨.vmem, 18, rfl⟩
abbrev cc0_stg20_0 : Ref sig .tc := ⟨.vmem, 19, rfl⟩
abbrev cc0_stg21_0 : Ref sig .tc := ⟨.vmem, 20, rfl⟩
abbrev cc0_stg22_0 : Ref sig .tc := ⟨.vmem, 21, rfl⟩
abbrev cc0_stg23_0 : Ref sig .tc := ⟨.vmem, 22, rfl⟩
abbrev cc0_stg24_0 : Ref sig .tc := ⟨.vmem, 23, rfl⟩
abbrev cc0_stg25_0 : Ref sig .tc := ⟨.vmem, 24, rfl⟩
abbrev cc0_stg26_0 : Ref sig .tc := ⟨.vmem, 25, rfl⟩
abbrev cc0_stg27_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_scratch9 : Ref sig .tc := ⟨.vmem, 36, rfl⟩
abbrev cc0_stg11_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_102 : BitVec 32 := 0#32
  let c8_i32_103 : BitVec 32 := 8#32
  let v245 : BitVec 32 := Scalar.addi c0_i32_102 c8_i32_103
  let c1_i32_104 : BitVec 32 := 1#32
  ⟨c0_i32_102, v245, c1_i32_104⟩
def k0_mult1 (k0_t1 : Fin k0_t1_loop.trips) : BitVec 32 :=
  let c0_i32_102 : BitVec 32 := 0#32
  let c1_i32_104 : BitVec 32 := 1#32
  let arg39 : BitVec 32 := Scf.iv c0_i32_102 c1_i32_104 k0_t1
  let c64_i32_5073 : BitVec 32 := 64#32
  let v4880 : BitVec 32 := Scalar.muli arg39 c64_i32_5073
  v4880
def k0_off1 (k0_t1 : Fin k0_t1_loop.trips) : Fin 2 → Nat :=
  let c0_i32_102 : BitVec 32 := 0#32
  let c1_i32_104 : BitVec 32 := 1#32
  let arg39 : BitVec 32 := Scf.iv c0_i32_102 c1_i32_104 k0_t1
  let c64_i32_5073 : BitVec 32 := 64#32
  let v4880 : BitVec 32 := Scalar.muli arg39 c64_i32_5073
  let v4881 : BitVec 32 := v4880
  let v4882 : Index := Scalar.indexCast v4881
  let c0_5074 : Index := 0#32
  ![v4882.toNat, 0]
def k0_mult2 (k0_t1 : Fin k0_t1_loop.trips) : BitVec 32 :=
  let c0_i32_102 : BitVec 32 := 0#32
  let c1_i32_104 : BitVec 32 := 1#32
  let arg39 : BitVec 32 := Scf.iv c0_i32_102 c1_i32_104 k0_t1
  let c128_i32 : BitVec 32 := 128#32
  let v4909 : BitVec 32 := Scalar.muli arg39 c128_i32
  v4909
def k0_off2 (k0_t1 : Fin k0_t1_loop.trips) : Fin 2 → Nat :=
  let c0_i32_102 : BitVec 32 := 0#32
  let c1_i32_104 : BitVec 32 := 1#32
  let arg39 : BitVec 32 := Scf.iv c0_i32_102 c1_i32_104 k0_t1
  let c128_i32 : BitVec 32 := 128#32
  let v4909 : BitVec 32 := Scalar.muli arg39 c128_i32
  let v4910 : BitVec 32 := v4909
  let v4911 : Index := Scalar.indexCast v4910
  let c0_5083 : Index := 0#32
  ![v4911.toNat, 0]
def k0_off3 (k0_t1 : Fin k0_t1_loop.trips) : Fin 2 → Nat :=
  let c0_i32_102 : BitVec 32 := 0#32
  let c1_i32_104 : BitVec 32 := 1#32
  let arg39 : BitVec 32 := Scf.iv c0_i32_102 c1_i32_104 k0_t1
  let c64_i32_5073 : BitVec 32 := 64#32
  let v4880 : BitVec 32 := Scalar.muli arg39 c64_i32_5073
  let v4881 : BitVec 32 := v4880
  let v4913 : Index := Scalar.indexCast v4881
  let c0_5084 : Index := 0#32
  ![v4913.toNat, 0]
@[reducible] def k0_t2_loop : Scf.Loop 32 :=
  let c0_i32_123 : BitVec 32 := 0#32
  let c8_i32_124 : BitVec 32 := 8#32
  let v277 : BitVec 32 := Scalar.addi c0_i32_123 c8_i32_124
  let c1_i32_125 : BitVec 32 := 1#32
  ⟨c0_i32_123, v277, c1_i32_125⟩
def k0_mult3 (k0_t2 : Fin k0_t2_loop.trips) : BitVec 32 :=
  let c0_i32_123 : BitVec 32 := 0#32
  let c1_i32_125 : BitVec 32 := 1#32
  let arg39 : BitVec 32 := Scf.iv c0_i32_123 c1_i32_125 k0_t2
  let c64_i32_5073 : BitVec 32 := 64#32
  let v4880 : BitVec 32 := Scalar.muli arg39 c64_i32_5073
  v4880
def k0_off4 (k0_t2 : Fin k0_t2_loop.trips) : Fin 2 → Nat :=
  let c0_i32_123 : BitVec 32 := 0#32
  let c1_i32_125 : BitVec 32 := 1#32
  let arg39 : BitVec 32 := Scf.iv c0_i32_123 c1_i32_125 k0_t2
  let c64_i32_5073 : BitVec 32 := 64#32
  let v4880 : BitVec 32 := Scalar.muli arg39 c64_i32_5073
  let v4881 : BitVec 32 := v4880
  let v4882 : Index := Scalar.indexCast v4881
  let c256_5074 : Index := 256#32
  ![v4882.toNat, 256]
def k0_mult4 (k0_t2 : Fin k0_t2_loop.trips) : BitVec 32 :=
  let c0_i32_123 : BitVec 32 := 0#32
  let c1_i32_125 : BitVec 32 := 1#32
  let arg39 : BitVec 32 := Scf.iv c0_i32_123 c1_i32_125 k0_t2
  let c128_i32 : BitVec 32 := 128#32
  let v4909 : BitVec 32 := Scalar.muli arg39 c128_i32
  v4909
def k0_off5 (k0_t2 : Fin k0_t2_loop.trips) : Fin 2 → Nat :=
  let c0_i32_123 : BitVec 32 := 0#32
  let c1_i32_125 : BitVec 32 := 1#32
  let arg39 : BitVec 32 := Scf.iv c0_i32_123 c1_i32_125 k0_t2
  let c128_i32 : BitVec 32 := 128#32
  let v4909 : BitVec 32 := Scalar.muli arg39 c128_i32
  let v4910 : BitVec 32 := v4909
  let v4911 : Index := Scalar.indexCast v4910
  let c0_5083 : Index := 0#32
  ![v4911.toNat, 0]
def k0_off6 (k0_t2 : Fin k0_t2_loop.trips) : Fin 2 → Nat :=
  let c0_i32_123 : BitVec 32 := 0#32
  let c1_i32_125 : BitVec 32 := 1#32
  let arg39 : BitVec 32 := Scf.iv c0_i32_123 c1_i32_125 k0_t2
  let c64_i32_5073 : BitVec 32 := 64#32
  let v4880 : BitVec 32 := Scalar.muli arg39 c64_i32_5073
  let v4881 : BitVec 32 := v4880
  let v4913 : Index := Scalar.indexCast v4881
  let c0_5084 : Index := 0#32
  ![v4913.toNat, 0]
@[reducible] def k0_t3_loop : Scf.Loop 32 :=
  let c0_i32_542 : BitVec 32 := 0#32
  let c64_i32_543 : BitVec 32 := 64#32
  let v681 : BitVec 32 := Scalar.addi c0_i32_542 c64_i32_543
  let c1_i32_544 : BitVec 32 := 1#32
  ⟨c0_i32_542, v681, c1_i32_544⟩
def k0_off7 (k0_t3 : Fin k0_t3_loop.trips) : Fin 3 → Nat :=
  let c0_i32_542 : BitVec 32 := 0#32
  let c1_i32_544 : BitVec 32 := 1#32
  let arg39 : BitVec 32 := Scf.iv c0_i32_542 c1_i32_544 k0_t3
  let v4883 : Index := Scalar.indexCast arg39
  let c0_5073 : Index := 0#32
  let c0_5074 : Index := 0#32
  ![v4883.toNat, 0, 0]
def k0_off8 (k0_t3 : Fin k0_t3_loop.trips) : Fin 3 → Nat :=
  let c0_i32_542 : BitVec 32 := 0#32
  let c1_i32_544 : BitVec 32 := 1#32
  let arg39 : BitVec 32 := Scf.iv c0_i32_542 c1_i32_544 k0_t3
  let v4890 : Index := Scalar.indexCast arg39
  let c0_5075 : Index := 0#32
  let c512_5076 : Index := 512#32
  ![v4890.toNat, 0, 512]
@[reducible] def k0_t4_loop : Scf.Loop 32 :=
  let c0_i32_552 : BitVec 32 := 0#32
  let c64_i32_553 : BitVec 32 := 64#32
  let v687 : BitVec 32 := Scalar.addi c0_i32_552 c64_i32_553
  let c1_i32_554 : BitVec 32 := 1#32
  ⟨c0_i32_552, v687, c1_i32_554⟩
def k0_off9 (k0_t4 : Fin k0_t4_loop.trips) : Fin 2 → Nat :=
  let c0_i32_552 : BitVec 32 := 0#32
  let c1_i32_554 : BitVec 32 := 1#32
  let arg39 : BitVec 32 := Scf.iv c0_i32_552 c1_i32_554 k0_t4
  let v4880 : Index := Scalar.indexCast arg39
  let c0_5073 : Index := 0#32
  ![v4880.toNat, 0]
def k0_off10 (k0_t4 : Fin k0_t4_loop.trips) : Fin 2 → Nat :=
  let c0_i32_552 : BitVec 32 := 0#32
  let c1_i32_554 : BitVec 32 := 1#32
  let arg39 : BitVec 32 := Scf.iv c0_i32_552 c1_i32_554 k0_t4
  let v4883 : Index := Scalar.indexCast arg39
  let c512_5074 : Index := 512#32
  ![v4883.toNat, 512]
def k0_off11 (k0_t4 : Fin k0_t4_loop.trips) : Fin 3 → Nat :=
  let c0_i32_552 : BitVec 32 := 0#32
  let c1_i32_554 : BitVec 32 := 1#32
  let arg39 : BitVec 32 := Scf.iv c0_i32_552 c1_i32_554 k0_t4
  let v4886 : Index := Scalar.indexCast arg39
  let c0_5075 : Index := 0#32
  let c0_5076 : Index := 0#32
  ![v4886.toNat, 0, 0]
def k0_off12 (k0_t4 : Fin k0_t4_loop.trips) : Fin 3 → Nat :=
  let c0_i32_552 : BitVec 32 := 0#32
  let c1_i32_554 : BitVec 32 := 1#32
  let arg39 : BitVec 32 := Scf.iv c0_i32_552 c1_i32_554 k0_t4
  let v4899 : Index := Scalar.indexCast arg39
  let c0_5079 : Index := 0#32
  let c512_5080 : Index := 512#32
  ![v4899.toNat, 0, 512]
@[reducible] def k0_t5_loop : Scf.Loop 32 :=
  let c0_i32_1761 : BitVec 32 := 0#32
  let c64_i32_1762 : BitVec 32 := 64#32
  let v1816 : BitVec 32 := Scalar.addi c0_i32_1761 c64_i32_1762
  let c1_i32_1763 : BitVec 32 := 1#32
  ⟨c0_i32_1761, v1816, c1_i32_1763⟩
def k0_off13 (k0_t5 : Fin k0_t5_loop.trips) : Fin 3 → Nat :=
  let c0_i32_1761 : BitVec 32 := 0#32
  let c1_i32_1763 : BitVec 32 := 1#32
  let arg39 : BitVec 32 := Scf.iv c0_i32_1761 c1_i32_1763 k0_t5
  let v4883 : Index := Scalar.indexCast arg39
  let c0_5073 : Index := 0#32
  let c0_5074 : Index := 0#32
  ![v4883.toNat, 0, 0]
def k0_off14 (k0_t5 : Fin k0_t5_loop.trips) : Fin 3 → Nat :=
  let c0_i32_1761 : BitVec 32 := 0#32
  let c1_i32_1763 : BitVec 32 := 1#32
  let arg39 : BitVec 32 := Scf.iv c0_i32_1761 c1_i32_1763 k0_t5
  let v4890 : Index := Scalar.indexCast arg39
  let c0_5075 : Index := 0#32
  let c512_5076 : Index := 512#32
  ![v4890.toNat, 0, 512]
@[reducible] def k0_t6_loop : Scf.Loop 32 :=
  let c0_i32_1771 : BitVec 32 := 0#32
  let c64_i32_1772 : BitVec 32 := 64#32
  let v1822 : BitVec 32 := Scalar.addi c0_i32_1771 c64_i32_1772
  let c1_i32_1773 : BitVec 32 := 1#32
  ⟨c0_i32_1771, v1822, c1_i32_1773⟩
def k0_off15 (k0_t6 : Fin k0_t6_loop.trips) : Fin 2 → Nat :=
  let c0_i32_1771 : BitVec 32 := 0#32
  let c1_i32_1773 : BitVec 32 := 1#32
  let arg39 : BitVec 32 := Scf.iv c0_i32_1771 c1_i32_1773 k0_t6
  let v4880 : Index := Scalar.indexCast arg39
  let c1024_5073 : Index := 1024#32
  ![v4880.toNat, 1024]
def k0_off16 (k0_t6 : Fin k0_t6_loop.trips) : Fin 2 → Nat :=
  let c0_i32_1771 : BitVec 32 := 0#32
  let c1_i32_1773 : BitVec 32 := 1#32
  let arg39 : BitVec 32 := Scf.iv c0_i32_1771 c1_i32_1773 k0_t6
  let v4883 : Index := Scalar.indexCast arg39
  let c1536_5074 : Index := 1536#32
  ![v4883.toNat, 1536]
def k0_off17 (k0_t6 : Fin k0_t6_loop.trips) : Fin 3 → Nat :=
  let c0_i32_1771 : BitVec 32 := 0#32
  let c1_i32_1773 : BitVec 32 := 1#32
  let arg39 : BitVec 32 := Scf.iv c0_i32_1771 c1_i32_1773 k0_t6
  let v4886 : Index := Scalar.indexCast arg39
  let c0_5075 : Index := 0#32
  let c0_5076 : Index := 0#32
  ![v4886.toNat, 0, 0]
def k0_off18 (k0_t6 : Fin k0_t6_loop.trips) : Fin 3 → Nat :=
  let c0_i32_1771 : BitVec 32 := 0#32
  let c1_i32_1773 : BitVec 32 := 1#32
  let arg39 : BitVec 32 := Scf.iv c0_i32_1771 c1_i32_1773 k0_t6
  let v4899 : Index := Scalar.indexCast arg39
  let c0_5079 : Index := 0#32
  let c512_5080 : Index := 512#32
  ![v4899.toNat, 0, 512]
@[reducible] def k0_t7_loop : Scf.Loop 32 :=
  let c0_i32_3027 : BitVec 32 := 0#32
  let c64_i32_3028 : BitVec 32 := 64#32
  let v2951 : BitVec 32 := Scalar.addi c0_i32_3027 c64_i32_3028
  let c1_i32_3029 : BitVec 32 := 1#32
  ⟨c0_i32_3027, v2951, c1_i32_3029⟩
def k0_off19 (k0_t7 : Fin k0_t7_loop.trips) : Fin 3 → Nat :=
  let c0_i32_3027 : BitVec 32 := 0#32
  let c1_i32_3029 : BitVec 32 := 1#32
  let arg39 : BitVec 32 := Scf.iv c0_i32_3027 c1_i32_3029 k0_t7
  let v4883 : Index := Scalar.indexCast arg39
  let c0_5073 : Index := 0#32
  let c0_5074 : Index := 0#32
  ![v4883.toNat, 0, 0]
def k0_off20 (k0_t7 : Fin k0_t7_loop.trips) : Fin 3 → Nat :=
  let c0_i32_3027 : BitVec 32 := 0#32
  let c1_i32_3029 : BitVec 32 := 1#32
  let arg39 : BitVec 32 := Scf.iv c0_i32_3027 c1_i32_3029 k0_t7
  let v4890 : Index := Scalar.indexCast arg39
  let c0_5075 : Index := 0#32
  let c512_5076 : Index := 512#32
  ![v4890.toNat, 0, 512]
@[reducible] def k0_t8_loop : Scf.Loop 32 :=
  let c0_i32_3037 : BitVec 32 := 0#32
  let c64_i32_3038 : BitVec 32 := 64#32
  let v2957 : BitVec 32 := Scalar.addi c0_i32_3037 c64_i32_3038
  let c1_i32_3039 : BitVec 32 := 1#32
  ⟨c0_i32_3037, v2957, c1_i32_3039⟩
def k0_off21 (k0_t8 : Fin k0_t8_loop.trips) : Fin 2 → Nat :=
  let c0_i32_3037 : BitVec 32 := 0#32
  let c1_i32_3039 : BitVec 32 := 1#32
  let arg39 : BitVec 32 := Scf.iv c0_i32_3037 c1_i32_3039 k0_t8
  let v4880 : Index := Scalar.indexCast arg39
  let c2048_5073 : Index := 2048#32
  ![v4880.toNat, 2048]
def k0_off22 (k0_t8 : Fin k0_t8_loop.trips) : Fin 2 → Nat :=
  let c0_i32_3037 : BitVec 32 := 0#32
  let c1_i32_3039 : BitVec 32 := 1#32
  let arg39 : BitVec 32 := Scf.iv c0_i32_3037 c1_i32_3039 k0_t8
  let v4883 : Index := Scalar.indexCast arg39
  let c2560_5074 : Index := 2560#32
  ![v4883.toNat, 2560]
def k0_off23 (k0_t8 : Fin k0_t8_loop.trips) : Fin 3 → Nat :=
  let c0_i32_3037 : BitVec 32 := 0#32
  let c1_i32_3039 : BitVec 32 := 1#32
  let arg39 : BitVec 32 := Scf.iv c0_i32_3037 c1_i32_3039 k0_t8
  let v4886 : Index := Scalar.indexCast arg39
  let c0_5075 : Index := 0#32
  let c0_5076 : Index := 0#32
  ![v4886.toNat, 0, 0]
def k0_off24 (k0_t8 : Fin k0_t8_loop.trips) : Fin 3 → Nat :=
  let c0_i32_3037 : BitVec 32 := 0#32
  let c1_i32_3039 : BitVec 32 := 1#32
  let arg39 : BitVec 32 := Scf.iv c0_i32_3037 c1_i32_3039 k0_t8
  let v4899 : Index := Scalar.indexCast arg39
  let c0_5079 : Index := 0#32
  let c512_5080 : Index := 512#32
  ![v4899.toNat, 0, 512]
@[reducible] def k0_t9_loop : Scf.Loop 32 :=
  let c0_i32_4293 : BitVec 32 := 0#32
  let c64_i32_4294 : BitVec 32 := 64#32
  let v4086 : BitVec 32 := Scalar.addi c0_i32_4293 c64_i32_4294
  let c1_i32_4295 : BitVec 32 := 1#32
  ⟨c0_i32_4293, v4086, c1_i32_4295⟩
def k0_off25 (k0_t9 : Fin k0_t9_loop.trips) : Fin 3 → Nat :=
  let c0_i32_4293 : BitVec 32 := 0#32
  let c1_i32_4295 : BitVec 32 := 1#32
  let arg39 : BitVec 32 := Scf.iv c0_i32_4293 c1_i32_4295 k0_t9
  let v4883 : Index := Scalar.indexCast arg39
  let c0_5073 : Index := 0#32
  let c0_5074 : Index := 0#32
  ![v4883.toNat, 0, 0]
def k0_off26 (k0_t9 : Fin k0_t9_loop.trips) : Fin 3 → Nat :=
  let c0_i32_4293 : BitVec 32 := 0#32
  let c1_i32_4295 : BitVec 32 := 1#32
  let arg39 : BitVec 32 := Scf.iv c0_i32_4293 c1_i32_4295 k0_t9
  let v4890 : Index := Scalar.indexCast arg39
  let c0_5075 : Index := 0#32
  let c512_5076 : Index := 512#32
  ![v4890.toNat, 0, 512]
@[reducible] def k0_t10_loop : Scf.Loop 32 :=
  let c0_i32_4303 : BitVec 32 := 0#32
  let c64_i32_4304 : BitVec 32 := 64#32
  let v4092 : BitVec 32 := Scalar.addi c0_i32_4303 c64_i32_4304
  let c1_i32_4305 : BitVec 32 := 1#32
  ⟨c0_i32_4303, v4092, c1_i32_4305⟩
def k0_off27 (k0_t10 : Fin k0_t10_loop.trips) : Fin 2 → Nat :=
  let c0_i32_4303 : BitVec 32 := 0#32
  let c1_i32_4305 : BitVec 32 := 1#32
  let arg39 : BitVec 32 := Scf.iv c0_i32_4303 c1_i32_4305 k0_t10
  let v4880 : Index := Scalar.indexCast arg39
  let c3072_5073 : Index := 3072#32
  ![v4880.toNat, 3072]
def k0_off28 (k0_t10 : Fin k0_t10_loop.trips) : Fin 2 → Nat :=
  let c0_i32_4303 : BitVec 32 := 0#32
  let c1_i32_4305 : BitVec 32 := 1#32
  let arg39 : BitVec 32 := Scf.iv c0_i32_4303 c1_i32_4305 k0_t10
  let v4883 : Index := Scalar.indexCast arg39
  let c3584_5074 : Index := 3584#32
  ![v4883.toNat, 3584]
def k0_off29 (k0_t10 : Fin k0_t10_loop.trips) : Fin 3 → Nat :=
  let c0_i32_4303 : BitVec 32 := 0#32
  let c1_i32_4305 : BitVec 32 := 1#32
  let arg39 : BitVec 32 := Scf.iv c0_i32_4303 c1_i32_4305 k0_t10
  let v4886 : Index := Scalar.indexCast arg39
  let c0_5075 : Index := 0#32
  let c0_5076 : Index := 0#32
  ![v4886.toNat, 0, 0]
def k0_off30 (k0_t10 : Fin k0_t10_loop.trips) : Fin 3 → Nat :=
  let c0_i32_4303 : BitVec 32 := 0#32
  let c1_i32_4305 : BitVec 32 := 1#32
  let arg39 : BitVec 32 := Scf.iv c0_i32_4303 c1_i32_4305 k0_t10
  let v4899 : Index := Scalar.indexCast arg39
  let c0_5079 : Index := 0#32
  let c512_5080 : Index := 512#32
  ![v4899.toNat, 0, 512]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x8x4096 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S512x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]

abbrev stage0_25 : Fin 1 → Memref sig .tc .vmem S512x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![true]

abbrev stage0_26 : Fin 1 → Memref sig .tc .vmem S512x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![true]

abbrev stage0_27 : Fin 1 → Memref sig .tc .vmem S1x8x4096 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![true]
-- ==== MixerRefIdeal.lean ====
abbrev S512x1024 : Shape := ⟨2, ![512, 1024]⟩
abbrev S8x9x1024 : Shape := ⟨3, ![8, 9, 1024]⟩
abbrev S1x8x128x2x64 : Shape := ⟨5, ![1, 8, 128, 2, 64]⟩
abbrev S1x8x32x64 : Shape := ⟨4, ![1, 8, 32, 64]⟩
abbrev S1x1024 : Shape := ⟨2, ![1, 1024]⟩
abbrev S1x1024x3328 : Shape := ⟨3, ![1, 1024, 3328]⟩
abbrev S32x16x64 : Shape := ⟨3, ![32, 16, 64]⟩
abbrev S64x32x64 : Shape := ⟨3, ![64, 32, 64]⟩
abbrev S1x32x16x64 : Shape := ⟨4, ![1, 32, 16, 64]⟩
abbrev S1x32x16 : Shape := ⟨3, ![1, 32, 16]⟩
abbrev S1x512x512 : Shape := ⟨3, ![1, 512, 512]⟩
abbrev S1x512 : Shape := ⟨2, ![1, 512]⟩
abbrev S1x512x1024 : Shape := ⟨3, ![1, 512, 1024]⟩
abbrev S1x64 : Shape := ⟨2, ![1, 64]⟩
abbrev S1x8 : Shape := ⟨2, ![1, 8]⟩
abbrev S1x1024x1024 : Shape := ⟨3, ![1, 1024, 1024]⟩
abbrev S64 : Shape := ⟨1, ![64]⟩
abbrev S_ : Shape := ⟨0, ![]⟩
abbrev S8x64x1024 : Shape := ⟨3, ![8, 64, 1024]⟩
abbrev S8x3x3x1x1024 : Shape := ⟨5, ![8, 3, 3, 1, 1024]⟩
abbrev S1024 : Shape := ⟨1, ![1024]⟩
abbrev S8x1x1x1x1024 : Shape := ⟨5, ![8, 1, 1, 1, 1024]⟩
abbrev S8x1x1024 : Shape := ⟨3, ![8, 1, 1024]⟩
abbrev S8x64 : Shape := ⟨2, ![8, 64]⟩
abbrev S8x64x1 : Shape := ⟨3, ![8, 64, 1]⟩
abbrev S1x1x1024 : Shape := ⟨3, ![1, 1, 1024]⟩
abbrev S1024x3328 : Shape := ⟨2, ![1024, 3328]⟩
abbrev S8x64x3328 : Shape := ⟨3, ![8, 64, 3328]⟩
abbrev S8x64x128 : Shape := ⟨3, ![8, 64, 128]⟩
abbrev S8x64x2x64 : Shape := ⟨4, ![8, 64, 2, 64]⟩
abbrev S8x64x2 : Shape := ⟨3, ![8, 64, 2]⟩
abbrev S8x64x2x1 : Shape := ⟨4, ![8, 64, 2, 1]⟩
abbrev S1x1x1x64 : Shape := ⟨4, ![1, 1, 1, 64]⟩
abbrev S8 : Shape := ⟨1, ![8]⟩
abbrev S64x1 : Shape := ⟨2, ![64, 1]⟩
abbrev S64x8 : Shape := ⟨2, ![64, 8]⟩
abbrev S1x64x1x8 : Shape := ⟨4, ![1, 64, 1, 8]⟩
abbrev S8x64x2x16 : Shape := ⟨4, ![8, 64, 2, 16]⟩
abbrev S8x64x2x8 : Shape := ⟨4, ![8, 64, 2, 8]⟩
abbrev S8x64x2x48 : Shape := ⟨4, ![8, 64, 2, 48]⟩
abbrev S8x128x2x64 : Shape := ⟨4, ![8, 128, 2, 64]⟩
abbrev S8x192x2x64 : Shape := ⟨4, ![8, 192, 2, 64]⟩

abbrev nBuf : Space → Nat
  | .hbm => 122
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8x9x1024, .f32⟩
  | .hbm, ⟨2, _⟩ => ⟨S1x8x128x2x64, .f32⟩
  | .hbm, ⟨3, _⟩ => ⟨S1x8x128x2x64, .f32⟩
  | .hbm, ⟨4, _⟩ => ⟨S1x8x32x64, .f32⟩
  | .hbm, ⟨5, _⟩ => ⟨S1x8x32x64, .f32⟩
  | .hbm, ⟨6, _⟩ => ⟨S1x1024, .f32⟩
  | .hbm, ⟨7, _⟩ => ⟨S1x1024x3328, .f32⟩
  | .hbm, ⟨8, _⟩ => ⟨S32x16x64, .f32⟩
  | .hbm, ⟨9, _⟩ => ⟨S32x16x64, .f32⟩
  | .hbm, ⟨10, _⟩ => ⟨S64x32x64, .f32⟩
  | .hbm, ⟨11, _⟩ => ⟨S64x32x64, .f32⟩
  | .hbm, ⟨12, _⟩ => ⟨S1x32x16x64, .f32⟩
  | .hbm, ⟨13, _⟩ => ⟨S1x32x16x64, .f32⟩
  | .hbm, ⟨14, _⟩ => ⟨S1x32x16, .f32⟩
  | .hbm, ⟨15, _⟩ => ⟨S1x512x512, .f32⟩
  | .hbm, ⟨16, _⟩ => ⟨S1x512, .f32⟩
  | .hbm, ⟨17, _⟩ => ⟨S1x512x1024, .f32⟩
  | .hbm, ⟨18, _⟩ => ⟨S1x64, .f32⟩
  | .hbm, ⟨19, _⟩ => ⟨S1x64, .f32⟩
  | .hbm, ⟨20, _⟩ => ⟨S1x8, .f32⟩
  | .hbm, ⟨21, _⟩ => ⟨S1x512x1024, .f32⟩
  | .hbm, ⟨22, _⟩ => ⟨S1x1024x1024, .f32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S8x64x1024, .f32⟩
  | .hbm, ⟨28, _⟩ => ⟨S8x3x3x1x1024, .f32⟩
  | .hbm, ⟨29, _⟩ => ⟨S1024, .f32⟩
  | .hbm, ⟨30, _⟩ => ⟨S8x1x1x1x1024, .f32⟩
  | .hbm, ⟨31, _⟩ => ⟨S8x1x1024, .f32⟩
  | .hbm, ⟨32, _⟩ => ⟨S8x1x1x1x1024, .f32⟩
  | .hbm, ⟨33, _⟩ => ⟨S8x1x1024, .f32⟩
  | .hbm, ⟨34, _⟩ => ⟨S8x64x1024, .f32⟩
  | .hbm, ⟨35, _⟩ => ⟨S_, .f32⟩
  | .hbm, ⟨36, _⟩ => ⟨S8x64, .f32⟩
  | .hbm, ⟨37, _⟩ => ⟨S8x64x1, .f32⟩
  | .hbm, ⟨38, _⟩ => ⟨S_, .f32⟩
  | .hbm, ⟨39, _⟩ => ⟨S8x64x1, .f32⟩
  | .hbm, ⟨40, _⟩ => ⟨S8x64x1, .f32⟩
  | .hbm, ⟨41, _⟩ => ⟨S_, .f32⟩
  | .hbm, ⟨42, _⟩ => ⟨S8x64x1, .f32⟩
  | .hbm, ⟨43, _⟩ => ⟨S8x64x1, .f32⟩
  | .hbm, ⟨44, _⟩ => ⟨S8x64x1, .f32⟩
  | .hbm, ⟨45, _⟩ => ⟨S8x64x1024, .f32⟩
  | .hbm, ⟨46, _⟩ => ⟨S8x64x1024, .f32⟩
  | .hbm, ⟨47, _⟩ => ⟨S1x1x1024, .f32⟩
  | .hbm, ⟨48, _⟩ => ⟨S8x64x1024, .f32⟩
  | .hbm, ⟨49, _⟩ => ⟨S8x64x1024, .f32⟩
  | .hbm, ⟨50, _⟩ => ⟨S_, .f32⟩
  | .hbm, ⟨51, _⟩ => ⟨S8x1x1024, .f32⟩
  | .hbm, ⟨52, _⟩ => ⟨S8x1x1024, .f32⟩
  | .hbm, ⟨53, _⟩ => ⟨S8x64x1024, .f32⟩
  | .hbm, ⟨54, _⟩ => ⟨S8x64x1024, .f32⟩
  | .hbm, ⟨55, _⟩ => ⟨S8x64x1024, .f32⟩
  | .hbm, ⟨56, _⟩ => ⟨S8x64x1024, .f32⟩
  | .hbm, ⟨57, _⟩ => ⟨S1024x3328, .f32⟩
  | .hbm, ⟨58, _⟩ => ⟨S8x64x3328, .f32⟩
  | .hbm, ⟨59, _⟩ => ⟨S8x64x128, .f32⟩
  | .hbm, ⟨60, _⟩ => ⟨S8x64x2x64, .f32⟩
  | .hbm, ⟨61, _⟩ => ⟨S8x64x128, .f32⟩
  | .hbm, ⟨62, _⟩ => ⟨S8x64x2x64, .f32⟩
  | .hbm, ⟨63, _⟩ => ⟨S64, .f32⟩
  | .hbm, ⟨64, _⟩ => ⟨S8x64x2x64, .f32⟩
  | .hbm, ⟨65, _⟩ => ⟨S_, .f32⟩
  | .hbm, ⟨66, _⟩ => ⟨S8x64x2, .f32⟩
  | .hbm, ⟨67, _⟩ => ⟨S8x64x2x1, .f32⟩
  | .hbm, ⟨68, _⟩ => ⟨S_, .f32⟩
  | .hbm, ⟨69, _⟩ => ⟨S8x64x2x1, .f32⟩
  | .hbm, ⟨70, _⟩ => ⟨S8x64x2x1, .f32⟩
  | .hbm, ⟨71, _⟩ => ⟨S_, .f32⟩
  | .hbm, ⟨72, _⟩ => ⟨S8x64x2x1, .f32⟩
  | .hbm, ⟨73, _⟩ => ⟨S8x64x2x1, .f32⟩
  | .hbm, ⟨74, _⟩ => ⟨S8x64x2x1, .f32⟩
  | .hbm, ⟨75, _⟩ => ⟨S8x64x2x64, .f32⟩
  | .hbm, ⟨76, _⟩ => ⟨S8x64x2x64, .f32⟩
  | .hbm, ⟨77, _⟩ => ⟨S1x1x1x64, .f32⟩
  | .hbm, ⟨78, _⟩ => ⟨S8x64x2x64, .f32⟩
  | .hbm, ⟨79, _⟩ => ⟨S8x64x2x64, .f32⟩
  | .hbm, ⟨80, _⟩ => ⟨S8, .f32⟩
  | .hbm, ⟨81, _⟩ => ⟨S8, .f32⟩
  | .hbm, ⟨82, _⟩ => ⟨S_, .f32⟩
  | .hbm, ⟨83, _⟩ => ⟨S8, .f32⟩
  | .hbm, ⟨84, _⟩ => ⟨S8, .f32⟩
  | .hbm, ⟨85, _⟩ => ⟨S_, .f32⟩
  | .hbm, ⟨86, _⟩ => ⟨S8, .f32⟩
  | .hbm, ⟨87, _⟩ => ⟨S8, .f32⟩
  | .hbm, ⟨88, _⟩ => ⟨S64, .f32⟩
  | .hbm, ⟨89, _⟩ => ⟨S64x1, .f32⟩
  | .hbm, ⟨90, _⟩ => ⟨S1x8, .f32⟩
  | .hbm, ⟨91, _⟩ => ⟨S64x8, .f32⟩
  | .hbm, ⟨92, _⟩ => ⟨S64x8, .f32⟩
  | .hbm, ⟨93, _⟩ => ⟨S64x8, .f32⟩
  | .hbm, ⟨94, _⟩ => ⟨S64x8, .f32⟩
  | .hbm, ⟨95, _⟩ => ⟨S1x64x1x8, .f32⟩
  | .hbm, ⟨96, _⟩ => ⟨S64x8, .f32⟩
  | .hbm, ⟨97, _⟩ => ⟨S1x64x1x8, .f32⟩
  | .hbm, ⟨98, _⟩ => ⟨S8x64x2x16, .f32⟩
  | .hbm, ⟨99, _⟩ => ⟨S8x64x2x8, .f32⟩
  | .hbm, ⟨100, _⟩ => ⟨S8x64x2x8, .f32⟩
  | .hbm, ⟨101, _⟩ => ⟨S8x64x2x8, .f32⟩
  | .hbm, ⟨102, _⟩ => ⟨S8x64x2x8, .f32⟩
  | .hbm, ⟨103, _⟩ => ⟨S8x64x2x8, .f32⟩
  | .hbm, ⟨104, _⟩ => ⟨S8x64x2x8, .f32⟩
  | .hbm, ⟨105, _⟩ => ⟨S8x64x2x8, .f32⟩
  | .hbm, ⟨106, _⟩ => ⟨S8x64x2x8, .f32⟩
  | .hbm, ⟨107, _⟩ => ⟨S8x64x2x8, .f32⟩
  | .hbm, ⟨108, _⟩ => ⟨S8x64x2x8, .f32⟩
  | .hbm, ⟨109, _⟩ => ⟨S8x64x2x8, .f32⟩
  | .hbm, ⟨110, _⟩ => ⟨S8x64x2x8, .f32⟩
  | .hbm, ⟨111, _⟩ => ⟨S8x64x2x16, .f32⟩
  | .hbm, ⟨112, _⟩ => ⟨S8x64x2x48, .f32⟩
  | .hbm, ⟨113, _⟩ => ⟨S8x64x2x64, .f32⟩
  | .hbm, ⟨114, _⟩ => ⟨S8x128x2x64, .f32⟩
  | .hbm, ⟨115, _⟩ => ⟨S8x192x2x64, .f32⟩
  | .hbm, ⟨116, _⟩ => ⟨S8x128x2x64, .f32⟩
  | .hbm, ⟨117, _⟩ => ⟨S8x192x2x64, .f32⟩
  | .hbm, ⟨118, _⟩ => ⟨S8x128x2x64, .f32⟩
  | .hbm, ⟨119, _⟩ => ⟨S1x8x128x2x64, .f32⟩
  | .hbm, ⟨120, _⟩ => ⟨S8x128x2x64, .f32⟩
  | .hbm, ⟨121, _⟩ => ⟨S1x8x128x2x64, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_c : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_v14 : Ref sig .tc := ⟨.hbm, 40, rfl⟩
abbrev main_cst_1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_3 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_v39 : Ref sig .tc := ⟨.hbm, 69, rfl⟩
abbrev main_v40 : Ref sig .tc := ⟨.hbm, 70, rfl⟩
abbrev main_cst_5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_6 : Ref sig .tc := ⟨.hbm, 82, rfl⟩
abbrev main_v51 : Ref sig .tc := ⟨.hbm, 83, rfl⟩
abbrev main_v52 : Ref sig .tc := ⟨.hbm, 84, rfl⟩
abbrev main_cst_7 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]
-- ==== Ada.lean ====
abbrev S2x1024 : Shape := ⟨2, ![2, 1024]⟩
abbrev S8x1024 : Shape := ⟨2, ![8, 1024]⟩
abbrev S1x1024x9216 : Shape := ⟨3, ![1, 1024, 9216]⟩
abbrev S1x9216 : Shape := ⟨2, ![1, 9216]⟩
abbrev S10x1024 : Shape := ⟨2, ![10, 1024]⟩
abbrev S_ : Shape := ⟨0, ![]⟩
abbrev S16x1024 : Shape := ⟨2, ![16, 1024]⟩
abbrev S1024x9216 : Shape := ⟨2, ![1024, 9216]⟩
abbrev S9216 : Shape := ⟨1, ![9216]⟩
abbrev S16x9216 : Shape := ⟨2, ![16, 9216]⟩
abbrev S1024x1024 : Shape := ⟨2, ![1024, 1024]⟩
abbrev S1x1024 : Shape := ⟨2, ![1, 1024]⟩
abbrev S16x9x1024 : Shape := ⟨3, ![16, 9, 1024]⟩
abbrev S2x9x1024 : Shape := ⟨3, ![2, 9, 1024]⟩
abbrev S8x9x1024 : Shape := ⟨3, ![8, 9, 1024]⟩

abbrev nBuf : Space → Nat
  | .hbm => 15
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S8x1024, .f32⟩
  | .hbm, ⟨2, _⟩ => ⟨S1x1024x9216, .f32⟩
  | .hbm, ⟨3, _⟩ => ⟨S1x9216, .f32⟩
  | .hbm, ⟨4, _⟩ => ⟨S10x1024, .f32⟩
  | .hbm, ⟨5, _⟩ => ⟨S_, .i32⟩
  | .hbm, ⟨6, _⟩ => ⟨S_, .f32⟩
  | .hbm, ⟨7, _⟩ => ⟨S16x1024, .f32⟩
  | .hbm, ⟨8, _⟩ => ⟨S1024x9216, .f32⟩
  | .hbm, ⟨9, _⟩ => ⟨S9216, .f32⟩
  | .hbm, ⟨10, _⟩ => ⟨S1x9216, .f32⟩
  | .hbm, ⟨11, _⟩ => ⟨S16x9216, .f32⟩
  | .hbm, ⟨12, _⟩ => ⟨S16x9x1024, .f32⟩
  | .hbm, ⟨13, _⟩ => ⟨S2x9x1024, .f32⟩
  | .hbm, ⟨14, _⟩ => ⟨S8x9x1024, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S2x1024 : Shape := ⟨2, ![2, 1024]⟩
abbrev S8x1024 : Shape := ⟨2, ![8, 1024]⟩
abbrev S1x1024x9216 : Shape := ⟨3, ![1, 1024, 9216]⟩
abbrev S1x9216 : Shape := ⟨2, ![1, 9216]⟩
abbrev S_ : Shape := ⟨0, ![]⟩
abbrev S1024x9216 : Shape := ⟨2, ![1024, 9216]⟩
abbrev S2x9216 : Shape := ⟨2, ![2, 9216]⟩
abbrev S9216 : Shape := ⟨1, ![9216]⟩
abbrev S8x9216 : Shape := ⟨2, ![8, 9216]⟩
abbrev S2x9x1024 : Shape := ⟨3, ![2, 9, 1024]⟩
abbrev S8x9x1024 : Shape := ⟨3, ![8, 9, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S8x1024, .f32⟩
  | .hbm, ⟨2, _⟩ => ⟨S1x1024x9216, .f32⟩
  | .hbm, ⟨3, _⟩ => ⟨S1x9216, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S1024x9216, .f32⟩
  | .hbm, ⟨14, _⟩ => ⟨S2x9216, .f32⟩
  | .hbm, ⟨15, _⟩ => ⟨S9216, .f32⟩
  | .hbm, ⟨16, _⟩ => ⟨S1x9216, .f32⟩
  | .hbm, ⟨17, _⟩ => ⟨S2x9216, .f32⟩
  | .hbm, ⟨18, _⟩ => ⟨S2x9216, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S1024x9216, .f32⟩
  | .hbm, ⟨29, _⟩ => ⟨S8x9216, .f32⟩
  | .hbm, ⟨30, _⟩ => ⟨S9216, .f32⟩
  | .hbm, ⟨31, _⟩ => ⟨S1x9216, .f32⟩
  | .hbm, ⟨32, _⟩ => ⟨S8x9216, .f32⟩
  | .hbm, ⟨33, _⟩ => ⟨S8x9216, .f32⟩
  | .hbm, ⟨34, _⟩ => ⟨S2x9x1024, .f32⟩
  | .hbm, ⟨35, _⟩ => ⟨S8x9x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== FfnSampleOne.lean ====
abbrev S8x64x1024 : Shape := ⟨3, ![8, 64, 1024]⟩
abbrev S8x9x1024 : Shape := ⟨3, ![8, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S2816x1024 : Shape := ⟨2, ![2816, 1024]⟩
abbrev S1024 : Shape := ⟨1, ![1024]⟩
abbrev S512x1024 : Shape := ⟨2, ![512, 1024]⟩
abbrev S512x2816 : Shape := ⟨2, ![512, 2816]⟩
abbrev S8x1x1024 : Shape := ⟨3, ![8, 1, 1024]⟩
abbrev S8x1024 : Shape := ⟨2, ![8, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 13
  | .vmem => 7
  | .smem => 0
  | _ => 0

abbrev bufTy : (tb : Table) → Fin (tcTables nBuf tb) → BufTy
  | .hbm, ⟨0, _⟩ => ⟨S8x64x1024, .f32⟩
  | .hbm, ⟨1, _⟩ => ⟨S8x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024x5632, .f32⟩
  | .hbm, ⟨6, _⟩ => ⟨S1024x5632, .bf16⟩
  | .hbm, ⟨7, _⟩ => ⟨S2816x1024, .f32⟩
  | .hbm, ⟨8, _⟩ => ⟨S2816x1024, .bf16⟩
  | .hbm, ⟨9, _⟩ => ⟨S1024, .f32⟩
  | .hbm, ⟨10, _⟩ => ⟨S1x1024, .f32⟩
  | .hbm, ⟨11, _⟩ => ⟨S512x1024, .f32⟩
  | .hbm, ⟨12, _⟩ => ⟨S512x1024, .f32⟩
  | .local _ .vmem, ⟨0, _⟩ => ⟨S512x1024, .f32⟩
  | .local _ .vmem, ⟨1, _⟩ => ⟨S8x9x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x2816, .bf16⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== FfnSampleOneRefIdeal.lean ====
abbrev S8x64x1024 : Shape := ⟨3, ![8, 64, 1024]⟩
abbrev S8x9x1024 : Shape := ⟨3, ![8, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S8x3x3x1x1024 : Shape := ⟨5, ![8, 3, 3, 1, 1024]⟩
abbrev S8x1x1x1x1024 : Shape := ⟨5, ![8, 1, 1, 1, 1024]⟩
abbrev S8x1x1024 : Shape := ⟨3, ![8, 1, 1024]⟩
abbrev S_ : Shape := ⟨0, ![]⟩
abbrev S1024 : Shape := ⟨1, ![1024]⟩
abbrev S8x64 : Shape := ⟨2, ![8, 64]⟩
abbrev S8x64x1 : Shape := ⟨3, ![8, 64, 1]⟩
abbrev S1x1x1024 : Shape := ⟨3, ![1, 1, 1024]⟩
abbrev S1024x5632 : Shape := ⟨2, ![1024, 5632]⟩
abbrev S2816x1024 : Shape := ⟨2, ![2816, 1024]⟩
abbrev S8x64x5632 : Shape := ⟨3, ![8, 64, 5632]⟩
abbrev S8x64x2816 : Shape := ⟨3, ![8, 64, 2816]⟩
abbrev S512x1024 : Shape := ⟨2, ![512, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S8x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S8x3x3x1x1024, .f32⟩
  | .hbm, ⟨6, _⟩ => ⟨S8x1x1x1x1024, .f32⟩
  | .hbm, ⟨7, _⟩ => ⟨S8x1x1024, .f32⟩
  | .hbm, ⟨8, _⟩ => ⟨S_, .f32⟩
  | .hbm, ⟨9, _⟩ => ⟨S8x1x1024, .f32⟩
  | .hbm, ⟨10, _⟩ => ⟨S8x1x1024, .f32⟩
  | .hbm, ⟨11, _⟩ => ⟨S1024, .f32⟩
  | .hbm, ⟨12, _⟩ => ⟨S8x1x1x1x1024, .f32⟩
  | .hbm, ⟨13, _⟩ => ⟨S8x1x1024, .f32⟩
  | .hbm, ⟨14, _⟩ => ⟨S8x1x1x1x1024, .f32⟩
  | .hbm, ⟨15, _⟩ => ⟨S8x1x1024, .f32⟩
  | .hbm, ⟨16, _⟩ => ⟨S8x64x1024, .f32⟩
  | .hbm, ⟨17, _⟩ => ⟨S_, .f32⟩
  | .hbm, ⟨18, _⟩ => ⟨S8x64, .f32⟩
  | .hbm, ⟨19, _⟩ => ⟨S8x64x1, .f32⟩
  | .hbm, ⟨20, _⟩ => ⟨S_, .f32⟩
  | .hbm, ⟨21, _⟩ => ⟨S8x64x1, .f32⟩
  | .hbm, ⟨22, _⟩ => ⟨S8x64x1, .f32⟩
  | .hbm, ⟨23, _⟩ => ⟨S_, .f32⟩
  | .hbm, ⟨24, _⟩ => ⟨S8x64x1, .f32⟩
  | .hbm, ⟨25, _⟩ => ⟨S8x64x1, .f32⟩
  | .hbm, ⟨26, _⟩ => ⟨S8x64x1, .f32⟩
  | .hbm, ⟨27, _⟩ => ⟨S8x64x1024, .f32⟩
  | .hbm, ⟨28, _⟩ => ⟨S8x64x1024, .f32⟩
  | .hbm, ⟨29, _⟩ => ⟨S1x1x1024, .f32⟩
  | .hbm, ⟨30, _⟩ => ⟨S8x64x1024, .f32⟩
  | .hbm, ⟨31, _⟩ => ⟨S8x64x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x64x1024, .f32⟩
  | .hbm, ⟨36, _⟩ => ⟨S8x64x1024, .f32⟩
  | .hbm, ⟨37, _⟩ => ⟨S8x64x1024, .f32⟩
  | .hbm, ⟨38, _⟩ => ⟨S8x64x1024, .f32⟩
  | .hbm, ⟨39, _⟩ => ⟨S1024x5632, .f32⟩
  | .hbm, ⟨40, _⟩ => ⟨S2816x1024, .f32⟩
  | .hbm, ⟨41, _⟩ => ⟨S8x64x5632, .f32⟩
  | .hbm, ⟨42, _⟩ => ⟨S8x64x2816, .f32⟩
  | .hbm, ⟨43, _⟩ => ⟨S8x64x2816, .f32⟩
  | .hbm, ⟨44, _⟩ => ⟨S8x64x2816, .f32⟩
  | .hbm, ⟨45, _⟩ => ⟨S8x64x2816, .f32⟩
  | .hbm, ⟨46, _⟩ => ⟨S_, .f32⟩
  | .hbm, ⟨47, _⟩ => ⟨S8x64x2816, .f32⟩
  | .hbm, ⟨48, _⟩ => ⟨S8x64x2816, .f32⟩
  | .hbm, ⟨49, _⟩ => ⟨S_, .f32⟩
  | .hbm, ⟨50, _⟩ => ⟨S8x64x2816, .f32⟩
  | .hbm, ⟨51, _⟩ => ⟨S8x64x2816, .f32⟩
  | .hbm, ⟨52, _⟩ => ⟨S8x64x2816, .f32⟩
  | .hbm, ⟨53, _⟩ => ⟨S8x64x2816, .f32⟩
  | .hbm, ⟨54, _⟩ => ⟨S8x64x1024, .f32⟩
  | .hbm, ⟨55, _⟩ => ⟨S8x64x1024, .f32⟩
  | .hbm, ⟨56, _⟩ => ⟨S8x64x1024, .f32⟩
  | .hbm, ⟨57, _⟩ => ⟨S8x64x1024, .f32⟩
  | .hbm, ⟨58, _⟩ => ⟨S512x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Proof.FfnMath.lean ====
/-
  The feed-forward half step of one token row, over the extended reals, and the pieces that both feed-forward calls share:
  the gated hidden row, the residual row, the normed row; the eleven stores of the hidden scratch read back as one array.
-/
module

public import Idealize.ShloMosaic.Lib.Pointwise
public import Idealize.ShloMosaic.Lib.Pipeline.ReadBack
public import Idealize.ShloMosaic.Lib.Pipeline.Value
public import Idealize.ShloMosaic.Lib.WholeRead

@[expose] public section

set_option maxRecDepth 16384

noncomputable section

namespace Cert.FfnMath

open Idealize.ShloMosaic Idealize.ShloMosaic.TcCoe Idealize.SL.Sem Idealize.ShloMosaic.Pointwise
open scoped BigOperators

/-- A row divided by its root mean square: the mean of squares over 1024 entries plus the small constant of the layer. -/
def rmsRow (x : Fin 1024 → EReal) (k : Fin 1024) : EReal :=
  x k * Ideal.rsqrt (Ideal.div (∑ j, x j * x j) (Ideal.ofBits .f32 0x44800000#32) + Ideal.ofBits .f32 0x358637BD#32)

/-- The modulated row: the normed row times its weight, scaled by one plus `scale`, moved by `shift`. -/
def modRow (x n shift scale : Fin 1024 → EReal) (k : Fin 1024) : EReal :=
  rmsRow x k * n k * (1 + scale k) + shift k

/-- Column `j` of the gated hidden row: `a · logistic a · b`, `a` and `b` the row's products with columns `j` and `2816 + j`. -/
def hidRow (u : Fin 1024 → EReal) (w : Fin 1024 → Fin 5632 → EReal) (j : Fin 2816) : EReal :=
  (∑ k, u k * w k ⟨j.val, by omega⟩) * Ideal.logistic (∑ k, u k * w k ⟨j.val, by omega⟩)
    * ∑ k, u k * w k ⟨2816 + j.val, by omega⟩

/-- The half step's row: the input plus one half of the gate times the second product. -/
def outRow (x n shift scale gate : Fin 1024 → EReal) (w1 : Fin 1024 → Fin 5632 → EReal) (w2 : Fin 2816 → Fin 1024 → EReal)
    (c : Fin 1024) : EReal :=
  x c + Ideal.ofBits .f32 0x3F000000#32 * gate c * ∑ j, hidRow (modRow x n shift scale) w1 j * w2 j c

/-- The hidden array of a tile of 512 rows. -/
def hidArr (u : Fin 512 → Fin 1024 → EReal) (w : Fin 1024 → Fin 5632 → EReal) (y : (⟨2, ![512, 2816]⟩ : Shape).Idx) : EReal :=
  hidRow (u (y 0)) w (y 1)

/-- A store of 256 columns from column `o`, whose element is the gated hidden row at the shifted column,
    is a block of the hidden array. -/
theorem piece_eq (u : Fin 512 → Fin 1024 → EReal) (w : Fin 1024 → Fin 5632 → EReal) (o : ℕ) (ho : o + 256 ≤ 2816)
    (inb : ∀ a, (![0, o] : Fin 2 → ℕ) a + (![512, 256] : Fin 2 → ℕ) a ≤ (⟨2, ![512, 2816]⟩ : Shape).size a)
    (P : (⟨2, ![512, 256]⟩ : Shape).Idx → EReal)
    (hP : ∀ (r : Fin 512) (c : Fin 256), P (ix2 r c) = hidRow (u r) w ⟨o + c.val, by omega⟩)
    (x : (Rect.unit (s := ⟨2, ![512, 2816]⟩) ![0, o] ![512, 256] inb).shape.Idx) :
    P x = hidArr u w ((Rect.unit (s := ⟨2, ![512, 2816]⟩) ![0, o] ![512, 256] inb).emb x) := by
  obtain ⟨r, c, rfl⟩ : ∃ (r : Fin 512) (c : Fin 256), x = (ix2 r c : (⟨2, ![512, 256]⟩ : Shape).Idx) :=
    ⟨x 0, x 1, by funext a; match a with | ⟨0, _⟩ => rfl | ⟨1, _⟩ => rfl⟩
  have e : ((Rect.unit (s := ⟨2, ![512, 2816]⟩) ![0, o] ![512, 256] inb).emb (ix2 r c : (⟨2, ![512, 256]⟩ : Shape).Idx))
      = (ix2 r ⟨o + c.val, by omega⟩ : (⟨2, ![512, 2816]⟩ : Shape).Idx) := by
    funext a
    match a with
    | ⟨0, _⟩ => exact Fin.ext (by show 0 + 1 * r.val = r.val; omega)
    | ⟨1, _⟩ => exact Fin.ext (by show o + 1 * c.val = o + c.val; omega)
  refine (hP r c).trans ?_
  exact (congrArg (hidArr u w) e).symm

/-- Where a unit block of a two-axis array puts its element. -/
theorem idx2 {S0 S1 n0 n1 o0 o1 : ℕ} (inb : ∀ a, (![o0, o1] : Fin 2 → ℕ) a + (![n0, n1] : Fin 2 → ℕ) a ≤ (⟨2, ![S0, S1]⟩ : Shape).size a)
    (r : Fin n0) (c : Fin n1) :
    (Rect.unit (s := ⟨2, ![S0, S1]⟩) ![o0, o1] ![n0, n1] inb).toLoadRect.idx (ix2 r c : (⟨2, ![n0, n1]⟩ : Shape).Idx)
      = (ix2 ⟨o0 + r.val, lt_of_lt_of_le (Nat.add_lt_add_left r.isLt o0) (inb 0)⟩
          ⟨o1 + c.val, lt_of_lt_of_le (Nat.add_lt_add_left c.isLt o1) (inb 1)⟩ : (⟨2, ![S0, S1]⟩ : Shape).Idx) := by
  funext a
  match a with
  | ⟨0, _⟩ => exact Fin.ext (by show o0 + 1 * r.val = o0 + r.val; omega)
  | ⟨1, _⟩ => exact Fin.ext (by show o1 + 1 * c.val = o1 + c.val; omega)

/-- Where a unit block of a three-axis array puts its element. -/
theorem idx3 {S0 S1 S2 n0 n1 n2 o0 o1 o2 : ℕ}
    (inb : ∀ a, (![o0, o1, o2] : Fin 3 → ℕ) a + (![n0, n1, n2] : Fin 3 → ℕ) a ≤ (⟨3, ![S0, S1, S2]⟩ : Shape).size a)
    (p : Fin n0) (r : Fin n1) (c : Fin n2) :
    (Rect.unit (s := ⟨3, ![S0, S1, S2]⟩) ![o0, o1, o2] ![n0, n1, n2] inb).toLoadRect.idx (ix3 p r c : (⟨3, ![n0, n1, n2]⟩ : Shape).Idx)
      = (ix3 ⟨o0 + p.val, lt_of_lt_of_le (Nat.add_lt_add_left p.isLt o0) (inb 0)⟩
          ⟨o1 + r.val, lt_of_lt_of_le (Nat.add_lt_add_left r.isLt o1) (inb 1)⟩
          ⟨o2 + c.val, lt_of_lt_of_le (Nat.add_lt_add_left c.isLt o2) (inb 2)⟩ : (⟨3, ![S0, S1, S2]⟩ : Shape).Idx) := by
  funext a
  match a with
  | ⟨0, _⟩ => exact Fin.ext (by show o0 + 1 * p.val = o0 + p.val; omega)
  | ⟨1, _⟩ => exact Fin.ext (by show o1 + 1 * r.val = o1 + r.val; omega)
  | ⟨2, _⟩ => exact Fin.ext (by show o2 + 1 * c.val = o2 + c.val; omega)

/-- A load of a unit block of a whole two-axis array reads the array at the shifted index. -/
theorem load2 {sig : RefSig} {κ : Kind} {sp : Space} {S0 S1 n0 n1 o0 o1 : ℕ} {e : EltTy} {Val : EltTy → Type}
    (m : Memref sig κ sp ⟨2, ![S0, S1]⟩ e) (h : m.IsWhole)
    (inb : ∀ a, (![o0, o1] : Fin 2 → ℕ) a + (![n0, n1] : Fin 2 → ℕ) a ≤ (⟨2, ![S0, S1]⟩ : Shape).size a)
    (X : (⟨2, ![S0, S1]⟩ : Shape).Idx → Val e) (r : Fin n0) (c : Fin n1) :
    m.view.readAt Val (Rect.unit (s := ⟨2, ![S0, S1]⟩) ![o0, o1] ![n0, n1] inb).toLoadRect (h.unread X) (ix2 r c : (⟨2, ![n0, n1]⟩ : Shape).Idx)
      = X (ix2 ⟨o0 + r.val, lt_of_lt_of_le (Nat.add_lt_add_left r.isLt o0) (inb 0)⟩
          ⟨o1 + c.val, lt_of_lt_of_le (Nat.add_lt_add_left c.isLt o1) (inb 1)⟩) :=
  (h.readAt_unread X _ _).trans (congrArg X (idx2 inb r c))

/-- A load of a unit block of a whole three-axis array reads the array at the shifted index. -/
theorem load3 {sig : RefSig} {κ : Kind} {sp : Space} {S0 S1 S2 n0 n1 n2 o0 o1 o2 : ℕ} {e : EltTy} {Val : EltTy → Type}
    (m : Memref sig κ sp ⟨3, ![S0, S1, S2]⟩ e) (h : m.IsWhole)
    (inb : ∀ a, (![o0, o1, o2] : Fin 3 → ℕ) a + (![n0, n1, n2] : Fin 3 → ℕ) a ≤ (⟨3, ![S0, S1, S2]⟩ : Shape).size a)
    (X : (⟨3, ![S0, S1, S2]⟩ : Shape).Idx → Val e) (p : Fin n0) (r : Fin n1) (c : Fin n2) :
    m.view.readAt Val (Rect.unit (s := ⟨3, ![S0, S1, S2]⟩) ![o0, o1, o2] ![n0, n1, n2] inb).toLoadRect (h.unread X)
        (ix3 p r c : (⟨3, ![n0, n1, n2]⟩ : Shape).Idx)
      = X (ix3 ⟨o0 + p.val, lt_of_lt_of_le (Nat.add_lt_add_left p.isLt o0) (inb 0)⟩
          ⟨o1 + r.val, lt_of_lt_of_le (Nat.add_lt_add_left r.isLt o1) (inb 1)⟩
          ⟨o2 + c.val, lt_of_lt_of_le (Nat.add_lt_add_left c.isLt o2) (inb 2)⟩) :=
  (h.readAt_unread X _ _).trans (congrArg X (idx3 inb p r c))

/-- The elements of a store of 256 columns from column `o` of the hidden array. -/
theorem mem_cols {o : ℕ} (inb : ∀ a, (![0, o] : Fin 2 → ℕ) a + (![512, 256] : Fin 2 → ℕ) a ≤ (⟨2, ![512, 2816]⟩ : Shape).size a)
    (r : Fin 512) (j : Fin 2816) :
    (ix2 r j : (⟨2, ![512, 2816]⟩ : Shape).Idx) ∈ (Rect.unit (s := ⟨2, ![512, 2816]⟩) ![0, o] ![512, 256] inb).set
      ↔ o ≤ j.val ∧ j.val < o + 256 := by
  rw [Rect.mem_set_unit]
  refine ⟨fun h => h 1, fun h a => ?_⟩
  match a with
  | ⟨0, _⟩ => exact ⟨Nat.zero_le _, by show r.val < 0 + 512; omega⟩
  | ⟨1, _⟩ => exact h

/-- Stores that are all blocks of `G` and cover an element read back as `G` there. -/
theorem canon_of_piecesOf {Val : EltTy → Type} {s : Shape} {e : EltTy} [∀ e, Nonempty (Val e)] (G : s.Idx → Val e)
    (L : List (View.Piece Val s e)) (h : View.PiecesOf G L) (y : s.Idx) (hc : ∃ p ∈ L, y ∈ p.1.set) : View.canon L y = G y := by
  have q := View.canon_append_of_piecesOf G [] L h y hc
  rwa [List.append_nil] at q

end Cert.FfnMath

end
-- ==== Proof.FfnOneVal.lean ====
/-
  The first feed-forward half step (`FfnOne`): what the pipelined kernel writes at a grid point, the whole array after
  its run, the host reference read at an index, and the equality of the two.
-/
module

public import proofs.«01_k».proof.Defs
public import proofs.«01_k».proof.Proof.Gen.FfnOneIdeal.Value
public import proofs.«01_k».proof.Proof.Gen.FfnOneRefIdeal.Run
public import proofs.«01_k».proof.Proof.Gen.FfnOneRefIdeal.Read
public import proofs.«01_k».proof.Proof.FfnMath
public import Idealize.ShloMosaic.Lib.Quiescent

@[expose] public section

set_option maxRecDepth 16384

noncomputable section

open Idealize.ShloMosaic Idealize.ShloMosaic.TcCoe Idealize.SL.Sem Idealize.ShloMosaic.Pointwise
open Cert.FfnMath

namespace Cert.FfnOneVal

/-- The half step's result as an array of 16384 rows: row `R` is position `R % 8192` of sequence `R / 8192`. The three rows
    of the modulation it uses are rows 0 (shift), 1 (scale) and 2 (gate). -/
def result (x : (⟨3, ![2, 8192, 1024]⟩ : Shape).Idx → EReal) (mod : (⟨3, ![2, 9, 1024]⟩ : Shape).Idx → EReal)
    (n : (⟨2, ![1, 1024]⟩ : Shape).Idx → EReal) (w1 : (⟨3, ![1, 1024, 5632]⟩ : Shape).Idx → EReal)
    (w2 : (⟨3, ![1, 2816, 1024]⟩ : Shape).Idx → EReal) (R : Fin 16384) (k : Fin 1024) : EReal :=
  outRow (fun k => x (ix3 ⟨R.val / 8192, by omega⟩ ⟨R.val % 8192, by omega⟩ k)) (fun k => n (ix2 0 k))
    (fun k => mod (ix3 ⟨R.val / 8192, by omega⟩ 0 k)) (fun k => mod (ix3 ⟨R.val / 8192, by omega⟩ 1 k))
    (fun k => mod (ix3 ⟨R.val / 8192, by omega⟩ 2 k)) (fun k j => w1 (ix3 0 k j)) (fun j c => w2 (ix3 0 j c)) k

end Cert.FfnOneVal

namespace Cert.FfnOneVal.Kernel

open Cert.FfnOneIdeal Cert.FfnOneIdeal.Gen Cert.FfnOneVal

/-- What one grid point stores, at row `r` and column `k`: the half step's row of its input blocks. -/
theorem out_apply (c) (i) (arg1) (h1) (arg2) (h2) (arg3) (h3) (arg4) (h4) (arg5) (h5) (arg6) (h6) (arg7) (h7)
    (x0) (x1) (x2) (x3) (x4) (r : Fin 512) (k : Fin 1024) :
    out0_A_5 (F := Ideal) c i arg1 h1 arg2 h2 arg3 h3 arg4 h4 arg5 h5 arg6 h6 arg7 h7 x0 x1 x2 x3 x4 (ix2 r k)
      = outRow (fun k => x0 (ix2 r k)) (fun k => x2 (ix2 0 k)) (fun k => x1 (ix3 0 0 k)) (fun k => x1 (ix3 0 1 k))
          (fun k => x1 (ix3 0 2 k)) (fun k j => x3 (ix2 k j)) (fun j c => x4 (ix2 j c)) k := by
  unfold out0_A_5 kernelRun0_A
  dsimp only
  rw [View.read_writes_junk_eq_canon, View.canon_cons_unit_lit _ _ _ (by decide)]
  pointwise [k0_pay1, k0_pay22]
  sl_unfold_run_names
  pointwise [k0_pay2, k0_pay3, k0_pay21]
  refine congrArg₂ (· + ·) ?_ (congrArg₂ (· * ·) (congrArg₂ (· * ·) rfl ?_) (Finset.sum_congr rfl fun j _ => congrArg₂ (· * ·) ?_ ?_))
  · rw [load2]
    simp only [Nat.zero_add, Fin.eta]
  · rw [load3]
    simp only [Nat.zero_add, Fin.eta]
    rfl
  · rw [View.readCov_eq_canon']
    refine Eq.trans (congrArg _ (idx2 _ r j)) ?_
    simp only [Nat.zero_add, Fin.eta]
    refine canon_of_piecesOf (Val := Elt Ideal) (e := .bf16) (hidArr (fun r => modRow (fun k => x0 (ix2 r k)) (fun k => x2 (ix2 0 k)) (fun k => x1 (ix3 0 0 k)) (fun k => x1 (ix3 0 1 k))) (fun k j => x3 (ix2 k j))) _ ?_ (ix2 r j) ?_
    · refine ⟨?_, ?_, ?_, ?_, ?_, ?_, ?_, ?_, ?_, ?_, ?_, trivial⟩
      all_goals dsimp only
      all_goals refine piece_eq _ _ _ (by omega) _ _ (fun r c => ?_)
      all_goals pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
      all_goals simp only [load2, load3, Nat.zero_add, Fin.eta]
      all_goals unfold hidRow modRow rmsRow
      all_goals simp only [← Nat.add_assoc, Nat.reduceAdd, Nat.zero_add]
      all_goals rfl
    · simp only [List.mem_cons, exists_eq_or_imp, List.not_mem_nil, false_and, exists_false, or_false, exists_eq_left, mem_cols]
      have hj := j.isLt
      omega
  · rw [load2]
    simp only [Nat.zero_add, Fin.eta]

variable (m : (ℓ : Loc nD τ sig) → Buf (Elt Ideal) ℓ)

/-! ## The arrays the call is entered with -/

/-- The token rows: the two sequences, one after the other. -/
theorem V_x (c : Dev nD) (R : Fin 16384) (k : Fin 1024) : (V m c main_v6 : FVec Ideal S16384x1024 .f32) (ix2 R k)
    = (m (c, main_arg0) : FVec Ideal S2x8192x1024 .f32) (ix3 ⟨R.val / 8192, by omega⟩ ⟨R.val % 8192, by omega⟩ k) := by
  show StableHlo.after hostOps0 _ _ _ = _
  after_results
  pointwise []

/-- The first weight. -/
theorem V_w1 (c : Dev nD) (k : Fin 1024) (j : Fin 5632) : (V m c main_v1 : FVec Ideal S1024x5632 .bf16) (ix2 k j)
    = (m (c, main_arg3) : FVec Ideal S1x1024x5632 .f32) (ix3 0 k j) := by
  show StableHlo.after hostOps0 _ _ _ = _
  after_results
  pointwise []

/-- The second weight. -/
theorem V_w2 (c : Dev nD) (k : Fin 2816) (j : Fin 1024) : (V m c main_v3 : FVec Ideal S2816x1024 .bf16) (ix2 k j)
    = (m (c, main_arg4) : FVec Ideal S1x2816x1024 .f32) (ix3 0 k j) := by
  show StableHlo.after hostOps0 _ _ _ = _
  after_results
  pointwise []

/-- The norm's weight. -/
theorem V_n (c : Dev nD) (j : Fin 1024) : (V m c main_v5 : FVec Ideal S1x1024 .f32) (ix2 0 j)
    = (m (c, main_arg2) : FVec Ideal S1x1024 .f32) (ix2 0 j) := by
  show StableHlo.after hostOps0 _ _ _ = _
  after_results
  pointwise []

/-! ## The blocks a grid point is given -/

/-- There are 32 grid points. -/
theorem lt_N (t : Fin cfg0.N) : t.val < 32 := by
  have h := t.isLt
  have e : cfg0.N = 32 := N_0
  omega

/-- Point `t` is given token rows `512 t` to `512 t + 511`. -/
theorem blk_x (c : Dev nD) (t : Fin cfg0.N) (r : Fin 512) (k : Fin 1024) : (iblk m c 0 t : FVec Ideal S512x1024 .f32) (ix2 r k)
    = (m (c, main_arg0) : FVec Ideal S2x8192x1024 .f32) (ix3 ⟨t.val / 16, by have := lt_N t; omega⟩
        ⟨(512 * t.val + r.val) % 8192, by omega⟩ k) := by
  have e0 : win0_0.index t 0 * win0_0.size 0 = 512 * t.val := by revert t; decide +kernel
  have e1 : win0_0.index t 1 * win0_0.size 1 = 0 := by revert t; decide +kernel
  have hb : (512 * t.val + r.val) / 8192 = t.val / 16 := by omega
  have hV := V_x m c ⟨512 * t.val + r.val, by have := lt_N t; omega⟩ k
  simp only [hb] at hV
  refine Eq.trans (congrArg (V m c main_v6 : FVec Ideal S16384x1024 .f32) ?_) hV
  funext a
  match a with
  | ⟨0, _⟩ => exact Fin.ext (by show win0_0.index t 0 * win0_0.size 0 + 1 * r.val = 512 * t.val + r.val; rw [e0, Nat.one_mul])
  | ⟨1, _⟩ => exact Fin.ext (by show win0_0.index t 1 * win0_0.size 1 + 1 * k.val = k.val; rw [e1, Nat.one_mul, Nat.zero_add])

/-- Point `t` is given the modulation of sequence `t / 16`. -/
theorem blk_mod (c : Dev nD) (t : Fin cfg0.N) (p : Fin 9) (k : Fin 1024) : (iblk m c 1 t : FVec Ideal S1x9x1024 .f32) (ix3 0 p k)
    = (m (c, main_arg1) : FVec Ideal S2x9x1024 .f32) (ix3 ⟨t.val / 16, by have := lt_N t; omega⟩ p k) := by
  have e0 : win0_1.index t 0 * win0_1.size 0 = t.val / 16 := by revert t; decide +kernel
  have e1 : win0_1.index t 1 * win0_1.size 1 = 0 := by revert t; decide +kernel
  have e2 : win0_1.index t 2 * win0_1.size 2 = 0 := by revert t; decide +kernel
  refine Eq.trans (congrArg (V m c main_arg1 : FVec Ideal S2x9x1024 .f32) ?_) (congrFun (V_main_arg1 m c) _)
  funext a
  match a with
  | ⟨0, _⟩ => exact Fin.ext (by show win0_1.index t 0 * win0_1.size 0 + 1 * 0 = t.val / 16; rw [e0]; rfl)
  | ⟨1, _⟩ => exact Fin.ext (by show win0_1.index t 1 * win0_1.size 1 + 1 * p.val = p.val; rw [e1, Nat.one_mul, Nat.zero_add])
  | ⟨2, _⟩ => exact Fin.ext (by show win0_1.index t 2 * win0_1.size 2 + 1 * k.val = k.val; rw [e2, Nat.one_mul, Nat.zero_add])

/-- Every point is given the whole norm weight. -/
theorem blk_n (c : Dev nD) (t : Fin cfg0.N) (k : Fin 1024) : (iblk m c 2 t : FVec Ideal S1x1024 .f32) (ix2 0 k)
    = (m (c, main_arg2) : FVec Ideal S1x1024 .f32) (ix2 0 k) := by
  have e0 : win0_2.index t 0 * win0_2.size 0 = 0 := by revert t; decide +kernel
  have e1 : win0_2.index t 1 * win0_2.size 1 = 0 := by revert t; decide +kernel
  refine Eq.trans (congrArg (V m c main_v5 : FVec Ideal S1x1024 .f32) ?_) (V_n m c k)
  funext a
  match a with
  | ⟨0, _⟩ => exact Fin.ext (by show win0_2.index t 0 * win0_2.size 0 + 1 * 0 = 0; rw [e0])
  | ⟨1, _⟩ => exact Fin.ext (by show win0_2.index t 1 * win0_2.size 1 + 1 * k.val = k.val; rw [e1, Nat.one_mul, Nat.zero_add])

/-- Every point is given the whole first weight. -/
theorem blk_w1 (c : Dev nD) (t : Fin cfg0.N) (k : Fin 1024) (j : Fin 5632) : (iblk m c 3 t : FVec Ideal S1024x5632 .bf16) (ix2 k j)
    = (m (c, main_arg3) : FVec Ideal S1x1024x5632 .f32) (ix3 0 k j) := by
  have e0 : win0_3.index t 0 * win0_3.size 0 = 0 := by revert t; decide +kernel
  have e1 : win0_3.index t 1 * win0_3.size 1 = 0 := by revert t; decide +kernel
  refine Eq.trans (congrArg (V m c main_v1 : FVec Ideal S1024x5632 .bf16) ?_) (V_w1 m c k j)
  funext a
  match a with
  | ⟨0, _⟩ => exact Fin.ext (by show win0_3.index t 0 * win0_3.size 0 + 1 * k.val = k.val; rw [e0, Nat.one_mul, Nat.zero_add])
  | ⟨1, _⟩ => exact Fin.ext (by show win0_3.index t 1 * win0_3.size 1 + 1 * j.val = j.val; rw [e1, Nat.one_mul, Nat.zero_add])

/-- Every point is given the whole second weight. -/
theorem blk_w2 (c : Dev nD) (t : Fin cfg0.N) (k : Fin 2816) (j : Fin 1024) : (iblk m c 4 t : FVec Ideal S2816x1024 .bf16) (ix2 k j)
    = (m (c, main_arg4) : FVec Ideal S1x2816x1024 .f32) (ix3 0 k j) := by
  have e0 : win0_4.index t 0 * win0_4.size 0 = 0 := by revert t; decide +kernel
  have e1 : win0_4.index t 1 * win0_4.size 1 = 0 := by revert t; decide +kernel
  refine Eq.trans (congrArg (V m c main_v3 : FVec Ideal S2816x1024 .bf16) ?_) (V_w2 m c k j)
  funext a
  match a with
  | ⟨0, _⟩ => exact Fin.ext (by show win0_4.index t 0 * win0_4.size 0 + 1 * k.val = k.val; rw [e0, Nat.one_mul, Nat.zero_add])
  | ⟨1, _⟩ => exact Fin.ext (by show win0_4.index t 1 * win0_4.size 1 + 1 * j.val = j.val; rw [e1, Nat.one_mul, Nat.zero_add])

/-! ## The whole array after the run -/

/-- The half step's result of device `c`'s arguments, as the array it is written to. -/
def res (c : Dev nD) : FVec Ideal S16384x1024 .f32 := fun i =>
  result (m (c, main_arg0)) (m (c, main_arg1)) (m (c, main_arg2)) (m (c, main_arg3)) (m (c, main_arg4)) (i 0) (i 1)

/-- Point `t` writes back its block of the half step's result. -/
theorem flushed_eq (c : Dev nD) (t : Fin cfg0.N) :
    (Cert.FfnOneIdeal.Gen.dats m 0 c).flushed 5 t = (win0_5.blk t).view.read (Elt Ideal) (res m c) := by
  rw [Cert.FfnOneIdeal.Value.flushed5_A]
  have e0 : win0_5.index t 0 * win0_5.size 0 = 512 * t.val := by revert t; decide +kernel
  have e1 : win0_5.index t 1 * win0_5.size 1 = 0 := by revert t; decide +kernel
  funext x
  obtain ⟨r, k, rfl⟩ : ∃ (r : Fin 512) (k : Fin 1024), x = (ix2 r k : S512x1024.Idx) :=
    ⟨x 0, x 1, by funext a; match a with | ⟨0, _⟩ => rfl | ⟨1, _⟩ => rfl⟩
  have ht := lt_N t
  refine Eq.trans (out_apply ..) ?_
  have e : (win0_5.blk t).view.emb (ix2 r k : S512x1024.Idx) = (ix2 ⟨512 * t.val + r.val, by omega⟩ k : S16384x1024.Idx) := by
    funext a
    match a with
    | ⟨0, _⟩ => exact Fin.ext (by show win0_5.index t 0 * win0_5.size 0 + 1 * r.val = 512 * t.val + r.val; rw [e0, Nat.one_mul])
    | ⟨1, _⟩ => exact Fin.ext (by show win0_5.index t 1 * win0_5.size 1 + 1 * k.val = k.val; rw [e1, Nat.one_mul, Nat.zero_add])
  refine Eq.trans ?_ (congrArg (res m c) e).symm
  have hb : (512 * t.val + r.val) / 8192 = t.val / 16 := by omega
  show _ = result _ _ _ _ _ (⟨512 * t.val + r.val, _⟩ : Fin 16384) k
  unfold result
  simp only [blk_x, blk_mod, blk_n, blk_w1, blk_w2, hb]

/-- The blocks tile the array: row `R` lies in the block of point `R / 512`. -/
theorem cover (i : S16384x1024.Idx) :
    ∃ t : Fin cfg0.N, (cfg0.win 5).flush t = true ∧ i ∈ ((cfg0.win 5).blk t).view.set := by
  have h0 : (i 0 : Nat) < 16384 := (i 0).isLt
  have h1 : (i 1 : Nat) < 1024 := (i 1).isLt
  have hN : cfg0.N = 32 := N_0
  have e : ∀ t : Fin cfg0.N, win0_5.index t 0 * win0_5.size 0 = 512 * t.val ∧ win0_5.xsize (grid0.coords t) 0 = 512
      ∧ win0_5.index t 1 * win0_5.size 1 = 0 ∧ win0_5.xsize (grid0.coords t) 1 = 1024 := by decide +kernel
  obtain ⟨t, ht⟩ : ∃ t : Fin cfg0.N, t.val = (i 0).val / 512 := ⟨⟨(i 0).val / 512, by omega⟩, rfl⟩
  obtain ⟨e0, s0, e1, s1⟩ := e t
  refine ⟨t, flush0_5 t, ?_⟩
  show i ∈ ((View.whole main_v7).slice (win0_5.rect t)).set
  rw [View.set_slice_whole, Rect.mem_set_unit]
  intro a
  match a with
  | ⟨0, _⟩ =>
    show win0_5.index t 0 * win0_5.size 0 ≤ (i 0 : Nat) ∧ (i 0 : Nat) < win0_5.index t 0 * win0_5.size 0 + win0_5.xsize (grid0.coords t) 0
    rw [e0, s0]; omega
  | ⟨1, _⟩ =>
    show win0_5.index t 1 * win0_5.size 1 ≤ (i 1 : Nat) ∧ (i 1 : Nat) < win0_5.index t 1 * win0_5.size 1 + win0_5.xsize (grid0.coords t) 1
    rw [e1, s1]; omega

/-- The output array ends holding the half step's result. -/
theorem final (c : Dev nD) : (Cert.FfnOneIdeal.Gen.dats m 0 c).arrAt 5 cfg0.N = res m c :=
  (Cert.FfnOneIdeal.Gen.dats m 0 c).arrAt_eq_of_cover 5 (res m c) (fun t _ => flushed_eq m c t) cover

end Cert.FfnOneVal.Kernel

namespace Cert.FfnOneVal.Ref

open Cert.FfnOneRefIdeal Cert.FfnOneRefIdeal.Gen Cert.FfnOneRefIdeal.Read Cert.FfnOneVal

/-- The reference's modulated rows. -/
theorem mod_apply (x0) (x1) (x2) (b : Fin 2) (s : Fin 8192) (k : Fin 1024) :
    val_main_v28 (F := Ideal) x0 x1 x2 (ix3 b s k)
      = modRow (fun k => x0 (ix3 b s k)) (fun k => x2 (ix2 0 k)) (fun k => x1 (ix3 b 0 k)) (fun k => x1 (ix3 b 1 k)) k := by
  pointwise [val_main_v0, val_main_v1, val_main_v2, val_main_v3, val_main_v4, val_main_v5, val_main_v6, val_main_v7, val_main_v8,
    val_main_v9, val_main_v10, val_main_v11, val_main_v12, val_main_v13, val_main_v14, val_main_v15, val_main_v16, val_main_v17,
    val_main_v18, val_main_v19, val_main_v20, val_main_v21, val_main_v22, val_main_v23, val_main_v24, val_main_v25, val_main_v26,
    val_main_v27, val_main_v28, val_main_cst_0, val_main_cst_1, val_main_cst_2, val_main_cst_3]
  rfl

/-- The reference's gated hidden rows. -/
theorem hid_apply (x0) (x1) (x2) (x3) (b : Fin 2) (s : Fin 8192) (j : Fin 2816) :
    val_main_v35 (F := Ideal) x0 x1 x2 x3 (ix3 b s j)
      = hidRow (modRow (fun k => x0 (ix3 b s k)) (fun k => x2 (ix2 0 k)) (fun k => x1 (ix3 b 0 k)) (fun k => x1 (ix3 b 1 k)))
          (fun k j => x3 (ix3 0 k j)) j := by
  pointwise [val_main_v29, val_main_v31, val_main_v32, val_main_v33, val_main_call0_v0, val_main_call0_v1, val_main_call0_cst,
    val_main_call0_v2, val_main_call0_v3, val_main_call0_cst_0, val_main_call0_v4, val_main_call0_v5, val_main_v34, val_main_v35]
  simp only [mod_apply]
  rfl

/-- The reference's result. -/
theorem out_apply (x0) (x1) (x2) (x3) (x4) (R : Fin 16384) (k : Fin 1024) :
    val_main_v40 (F := Ideal) x0 x1 x2 x3 x4 (ix2 R k) = result x0 x1 x2 x3 x4 R k := by
  pointwise [val_main_cst, val_main_v0, val_main_v1, val_main_v2, val_main_v3, val_main_v4, val_main_v30, val_main_v36, val_main_v37, val_main_v38, val_main_v39, val_main_v40]
  simp only [hid_apply]
  rfl

end Cert.FfnOneVal.Ref

namespace Cert.FfnOneVal

/-- The kernel and the reference end with the same array. -/
theorem algebraic : Cert.algebraic_FfnOneIdeal_FfnOneRefIdeal := by
  intro m ρ m' ρ' _ hagree
  refine ⟨fun c => Kernel.res m c, ?_, ?_⟩
  · exact (θ_run Cert.FfnOneIdeal.defs _ _).mono (fun _ h c => ⟨(h c).1.trans (Kernel.final m c), (h c).2⟩)
      (Cert.FfnOneIdeal.Value.run_blocks (F := Ideal) m ρ)
  · refine (θ_run Cert.FfnOneRefIdeal.defs _ _).mono (fun _ h c => ⟨(h c).1.trans ?_, (h c).2⟩)
      (Cert.FfnOneRefIdeal.Value.run (F := Ideal) m' ρ')
    rw [Cert.FfnOneRefIdeal.Read.val_main_v40_eq, (hagree c).1, (hagree c).2.1, (hagree c).2.2.1, (hagree c).2.2.2.1,
      (hagree c).2.2.2.2]
    funext i
    obtain ⟨R, k, rfl⟩ : ∃ (R : Fin 16384) (k : Fin 1024), i = (ix2 R k : Cert.FfnOneRefIdeal.S16384x1024.Idx) :=
      ⟨i 0, i 1, by funext a; match a with | ⟨0, _⟩ => rfl | ⟨1, _⟩ => rfl⟩
    exact Ref.out_apply _ _ _ _ _ R k

/-- The reference's frame: its run keeps its arguments, and it declares no semaphore. -/
theorem frame_ref : Cert.quiescent_FfnOneRefIdeal := fun m ρ _ =>
  (θ_run Cert.FfnOneRefIdeal.defs _ _).mono (fun r h => ⟨fun c => (h c).2,
      Idealize.ShloMosaic.sem_eq_zero_of_no_sems (by decide) r.2⟩)
    (Cert.FfnOneRefIdeal.Value.run (F := Ideal) m ρ)

end Cert.FfnOneVal

end
-- ==== Proof.FfnTwoVal.lean ====
/-
  The second feed-forward half step (`FfnTwo`): what the pipelined kernel writes at a grid point, the whole array after
  its run, the host reference read at an index, and the equality of the two.
-/
module

public import proofs.«01_k».proof.Defs
public import proofs.«01_k».proof.Proof.Gen.FfnTwoIdeal.Value
public import proofs.«01_k».proof.Proof.Gen.FfnTwoRefIdeal.Run
public import proofs.«01_k».proof.Proof.Gen.FfnTwoRefIdeal.Read
public import proofs.«01_k».proof.Proof.FfnMath
public import Idealize.ShloMosaic.Lib.Quiescent

@[expose] public section

set_option maxRecDepth 16384

noncomputable section

open Idealize.ShloMosaic Idealize.ShloMosaic.TcCoe Idealize.SL.Sem Idealize.ShloMosaic.Pointwise
open Cert.FfnMath

namespace Cert.FfnTwoVal

/-- The half step's result as an array of 16384 rows, normed once more: row `R` belongs to sequence `R / 8192`. The three rows
    of the modulation it uses are rows 6 (shift), 7 (scale) and 8 (gate). -/
def result (x : (⟨2, ![16384, 1024]⟩ : Shape).Idx → EReal) (mod : (⟨3, ![2, 9, 1024]⟩ : Shape).Idx → EReal)
    (n : (⟨2, ![1, 1024]⟩ : Shape).Idx → EReal) (w1 : (⟨3, ![1, 1024, 5632]⟩ : Shape).Idx → EReal)
    (w2 : (⟨3, ![1, 2816, 1024]⟩ : Shape).Idx → EReal) (nf : (⟨2, ![1, 1024]⟩ : Shape).Idx → EReal)
    (R : Fin 16384) (k : Fin 1024) : EReal :=
  rmsRow (outRow (fun k => x (ix2 R k)) (fun k => n (ix2 0 k))
    (fun k => mod (ix3 ⟨R.val / 8192, by omega⟩ 6 k)) (fun k => mod (ix3 ⟨R.val / 8192, by omega⟩ 7 k))
    (fun k => mod (ix3 ⟨R.val / 8192, by omega⟩ 8 k)) (fun k j => w1 (ix3 0 k j)) (fun j c => w2 (ix3 0 j c))) k * nf (ix2 0 k)

end Cert.FfnTwoVal

namespace Cert.FfnTwoVal.Kernel

open Cert.FfnTwoIdeal Cert.FfnTwoIdeal.Gen Cert.FfnTwoVal

/-- What one grid point stores, at row `r` and column `k`: the half step's row of its input blocks. -/
theorem out_apply (c) (i) (arg1) (h1) (arg2) (h2) (arg3) (h3) (arg4) (h4) (arg5) (h5) (arg6) (h6) (arg7) (h7) (arg8) (h8)
    (x0) (x1) (x2) (x3) (x4) (x5) (r : Fin 512) (k : Fin 1024) :
    out0_A_6 (F := Ideal) c i arg1 h1 arg2 h2 arg3 h3 arg4 h4 arg5 h5 arg6 h6 arg7 h7 arg8 h8 x0 x1 x2 x3 x4 x5 (ix2 r k)
      = rmsRow (outRow (fun k => x0 (ix2 r k)) (fun k => x2 (ix2 0 k)) (fun k => x1 (ix3 0 6 k)) (fun k => x1 (ix3 0 7 k))
          (fun k => x1 (ix3 0 8 k)) (fun k j => x3 (ix2 k j)) (fun j c => x4 (ix2 j c))) k * x5 (ix2 0 k) := by
  unfold out0_A_6 kernelRun0_A
  dsimp only
  rw [View.read_writes_junk_eq_canon, View.canon_cons_unit_lit _ _ _ (by decide)]
  pointwise [k0_pay1, k0_pay20]
  have hY : ∀ k : Fin 1024, (kernelRun0_A.sl.r c arg1 h1 x0 (ix2 r k) + kernelRun0_A.sl.r_8 c arg2 h2 x1 (ix2 0 k)
      * kernelRun0_A.sl.r_7 c arg1 h1 arg2 h2 arg3 h3 arg4 h4 arg5 h5 arg8 x0 x1 x2 x3 x4 (ix2 r k))
      = outRow (fun k => x0 (ix2 r k)) (fun k => x2 (ix2 0 k)) (fun k => x1 (ix3 0 6 k)) (fun k => x1 (ix3 0 7 k))
          (fun k => x1 (ix3 0 8 k)) (fun k j => x3 (ix2 k j)) (fun j c => x4 (ix2 j c)) k := by
    intro k
    sl_unfold_run_names
    pointwise [k0_pay2, k0_pay19, k0_pay20]
    refine congrArg₂ (· + ·) ?_ (congrArg₂ (· * ·) (congrArg₂ (· * ·) rfl ?_) (Finset.sum_congr rfl fun j _ => congrArg₂ (· * ·) ?_ ?_))
    · rw [load2]
      simp only [Nat.zero_add, Fin.eta]
    · rw [load3]
      simp only [Nat.zero_add, Fin.eta]
      rfl
    · rw [View.readCov_eq_canon']
      refine Eq.trans (congrArg _ (idx2 _ r j)) ?_
      simp only [Nat.zero_add, Fin.eta]
      refine canon_of_piecesOf (Val := Elt Ideal) (e := .bf16) (hidArr (fun r => modRow (fun k => x0 (ix2 r k)) (fun k => x2 (ix2 0 k)) (fun k => x1 (ix3 0 6 k)) (fun k => x1 (ix3 0 7 k))) (fun k j => x3 (ix2 k j))) _ ?_ (ix2 r j) ?_
      · refine ⟨?_, ?_, ?_, ?_, ?_, ?_, ?_, ?_, ?_, ?_, ?_, trivial⟩
        all_goals dsimp only
        all_goals refine piece_eq _ _ _ (by omega) _ _ (fun r c => ?_)
        all_goals pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
        all_goals simp only [load2, load3, Nat.zero_add, Fin.eta]
        all_goals unfold hidRow modRow rmsRow
        all_goals simp only [← Nat.add_assoc, Nat.reduceAdd, Nat.zero_add]
        all_goals rfl
      · simp only [List.mem_cons, exists_eq_or_imp, List.not_mem_nil, false_and, exists_false, or_false, exists_eq_left, mem_cols]
        have hj := j.isLt
        omega
    · rw [load2]
      simp only [Nat.zero_add, Fin.eta]
  simp only [hY]
  refine congrArg₂ (· * ·) rfl ?_
  try sl_unfold_run_names
  rw [load2]
  simp only [Nat.zero_add, Fin.eta]

variable (m : (ℓ : Loc nD τ sig) → Buf (Elt Ideal) ℓ)

/-! ## The arrays the call is entered with -/

/-- The first weight. -/
theorem V_w1 (c : Dev nD) (k : Fin 1024) (j : Fin 5632) : (V m c main_v1 : FVec Ideal S1024x5632 .bf16) (ix2 k j)
    = (m (c, main_arg3) : FVec Ideal S1x1024x5632 .f32) (ix3 0 k j) := by
  show StableHlo.after hostOps0 _ _ _ = _
  after_results
  pointwise []

/-- The second weight. -/
theorem V_w2 (c : Dev nD) (k : Fin 2816) (j : Fin 1024) : (V m c main_v3 : FVec Ideal S2816x1024 .bf16) (ix2 k j)
    = (m (c, main_arg4) : FVec Ideal S1x2816x1024 .f32) (ix3 0 k j) := by
  show StableHlo.after hostOps0 _ _ _ = _
  after_results
  pointwise []

/-- The norm's weight. -/
theorem V_n (c : Dev nD) (j : Fin 1024) : (V m c main_v5 : FVec Ideal S1x1024 .f32) (ix2 0 j)
    = (m (c, main_arg2) : FVec Ideal S1x1024 .f32) (ix2 0 j) := by
  show StableHlo.after hostOps0 _ _ _ = _
  after_results
  pointwise []

/-- The last norm's weight. -/
theorem V_nf (c : Dev nD) (j : Fin 1024) : (V m c main_v7 : FVec Ideal S1x1024 .f32) (ix2 0 j)
    = (m (c, main_arg5) : FVec Ideal S1x1024 .f32) (ix2 0 j) := by
  show StableHlo.after hostOps0 _ _ _ = _
  after_results
  pointwise []

/-! ## The blocks a grid point is given -/

/-- There are 32 grid points. -/
theorem lt_N (t : Fin cfg0.N) : t.val < 32 := by
  have h := t.isLt
  have e : cfg0.N = 32 := N_0
  omega

/-- Point `t` is given token rows `512 t` to `512 t + 511`. -/
theorem blk_x (c : Dev nD) (t : Fin cfg0.N) (r : Fin 512) (k : Fin 1024) : (iblk m c 0 t : FVec Ideal S512x1024 .f32) (ix2 r k)
    = (m (c, main_arg0) : FVec Ideal S16384x1024 .f32) (ix2 ⟨512 * t.val + r.val, by have := lt_N t; omega⟩ k) := by
  have e0 : win0_0.index t 0 * win0_0.size 0 = 512 * t.val := by revert t; decide +kernel
  have e1 : win0_0.index t 1 * win0_0.size 1 = 0 := by revert t; decide +kernel
  refine Eq.trans (congrArg (V m c main_arg0 : FVec Ideal S16384x1024 .f32) ?_) (congrFun (V_main_arg0 m c) _)
  funext a
  match a with
  | ⟨0, _⟩ => exact Fin.ext (by show win0_0.index t 0 * win0_0.size 0 + 1 * r.val = 512 * t.val + r.val; rw [e0, Nat.one_mul])
  | ⟨1, _⟩ => exact Fin.ext (by show win0_0.index t 1 * win0_0.size 1 + 1 * k.val = k.val; rw [e1, Nat.one_mul, Nat.zero_add])

/-- Point `t` is given the modulation of sequence `t / 16`. -/
theorem blk_mod (c : Dev nD) (t : Fin cfg0.N) (p : Fin 9) (k : Fin 1024) : (iblk m c 1 t : FVec Ideal S1x9x1024 .f32) (ix3 0 p k)
    = (m (c, main_arg1) : FVec Ideal S2x9x1024 .f32) (ix3 ⟨t.val / 16, by have := lt_N t; omega⟩ p k) := by
  have e0 : win0_1.index t 0 * win0_1.size 0 = t.val / 16 := by revert t; decide +kernel
  have e1 : win0_1.index t 1 * win0_1.size 1 = 0 := by revert t; decide +kernel
  have e2 : win0_1.index t 2 * win0_1.size 2 = 0 := by revert t; decide +kernel
  refine Eq.trans (congrArg (V m c main_arg1 : FVec Ideal S2x9x1024 .f32) ?_) (congrFun (V_main_arg1 m c) _)
  funext a
  match a with
  | ⟨0, _⟩ => exact Fin.ext (by show win0_1.index t 0 * win0_1.size 0 + 1 * 0 = t.val / 16; rw [e0]; rfl)
  | ⟨1, _⟩ => exact Fin.ext (by show win0_1.index t 1 * win0_1.size 1 + 1 * p.val = p.val; rw [e1, Nat.one_mul, Nat.zero_add])
  | ⟨2, _⟩ => exact Fin.ext (by show win0_1.index t 2 * win0_1.size 2 + 1 * k.val = k.val; rw [e2, Nat.one_mul, Nat.zero_add])

/-- Every point is given the whole norm weight. -/
theorem blk_n (c : Dev nD) (t : Fin cfg0.N) (k : Fin 1024) : (iblk m c 2 t : FVec Ideal S1x1024 .f32) (ix2 0 k)
    = (m (c, main_arg2) : FVec Ideal S1x1024 .f32) (ix2 0 k) := by
  have e0 : win0_2.index t 0 * win0_2.size 0 = 0 := by revert t; decide +kernel
  have e1 : win0_2.index t 1 * win0_2.size 1 = 0 := by revert t; decide +kernel
  refine Eq.trans (congrArg (V m c main_v5 : FVec Ideal S1x1024 .f32) ?_) (V_n m c k)
  funext a
  match a with
  | ⟨0, _⟩ => exact Fin.ext (by show win0_2.index t 0 * win0_2.size 0 + 1 * 0 = 0; rw [e0])
  | ⟨1, _⟩ => exact Fin.ext (by show win0_2.index t 1 * win0_2.size 1 + 1 * k.val = k.val; rw [e1, Nat.one_mul, Nat.zero_add])

/-- Every point is given the whole first weight. -/
theorem blk_w1 (c : Dev nD) (t : Fin cfg0.N) (k : Fin 1024) (j : Fin 5632) : (iblk m c 3 t : FVec Ideal S1024x5632 .bf16) (ix2 k j)
    = (m (c, main_arg3) : FVec Ideal S1x1024x5632 .f32) (ix3 0 k j) := by
  have e0 : win0_3.index t 0 * win0_3.size 0 = 0 := by revert t; decide +kernel
  have e1 : win0_3.index t 1 * win0_3.size 1 = 0 := by revert t; decide +kernel
  refine Eq.trans (congrArg (V m c main_v1 : FVec Ideal S1024x5632 .bf16) ?_) (V_w1 m c k j)
  funext a
  match a with
  | ⟨0, _⟩ => exact Fin.ext (by show win0_3.index t 0 * win0_3.size 0 + 1 * k.val = k.val; rw [e0, Nat.one_mul, Nat.zero_add])
  | ⟨1, _⟩ => exact Fin.ext (by show win0_3.index t 1 * win0_3.size 1 + 1 * j.val = j.val; rw [e1, Nat.one_mul, Nat.zero_add])

/-- Every point is given the whole second weight. -/
theorem blk_w2 (c : Dev nD) (t : Fin cfg0.N) (k : Fin 2816) (j : Fin 1024) : (iblk m c 4 t : FVec Ideal S2816x1024 .bf16) (ix2 k j)
    = (m (c, main_arg4) : FVec Ideal S1x2816x1024 .f32) (ix3 0 k j) := by
  have e0 : win0_4.index t 0 * win0_4.size 0 = 0 := by revert t; decide +kernel
  have e1 : win0_4.index t 1 * win0_4.size 1 = 0 := by revert t; decide +kernel
  refine Eq.trans (congrArg (V m c main_v3 : FVec Ideal S2816x1024 .bf16) ?_) (V_w2 m c k j)
  funext a
  match a with
  | ⟨0, _⟩ => exact Fin.ext (by show win0_4.index t 0 * win0_4.size 0 + 1 * k.val = k.val; rw [e0, Nat.one_mul, Nat.zero_add])
  | ⟨1, _⟩ => exact Fin.ext (by show win0_4.index t 1 * win0_4.size 1 + 1 * j.val = j.val; rw [e1, Nat.one_mul, Nat.zero_add])

/-- Every point is given the whole weight of the last norm. -/
theorem blk_nf (c : Dev nD) (t : Fin cfg0.N) (k : Fin 1024) : (iblk m c 5 t : FVec Ideal S1x1024 .f32) (ix2 0 k)
    = (m (c, main_arg5) : FVec Ideal S1x1024 .f32) (ix2 0 k) := by
  have e0 : win0_5.index t 0 * win0_5.size 0 = 0 := by revert t; decide +kernel
  have e1 : win0_5.index t 1 * win0_5.size 1 = 0 := by revert t; decide +kernel
  refine Eq.trans (congrArg (V m c main_v7 : FVec Ideal S1x1024 .f32) ?_) (V_nf m c k)
  funext a
  match a with
  | ⟨0, _⟩ => exact Fin.ext (by show win0_5.index t 0 * win0_5.size 0 + 1 * 0 = 0; rw [e0])
  | ⟨1, _⟩ => exact Fin.ext (by show win0_5.index t 1 * win0_5.size 1 + 1 * k.val = k.val; rw [e1, Nat.one_mul, Nat.zero_add])

/-! ## The whole array after the run -/

/-- The half step's result of device `c`'s arguments, as the array it is written to. -/
def res (c : Dev nD) : FVec Ideal S16384x1024 .f32 := fun i =>
  result (m (c, main_arg0)) (m (c, main_arg1)) (m (c, main_arg2)) (m (c, main_arg3)) (m (c, main_arg4)) (m (c, main_arg5)) (i 0) (i 1)

/-- Point `t` writes back its block of the half step's result. -/
theorem flushed_eq (c : Dev nD) (t : Fin cfg0.N) :
    (Cert.FfnTwoIdeal.Gen.dats m 0 c).flushed 6 t = (win0_6.blk t).view.read (Elt Ideal) (res m c) := by
  rw [Cert.FfnTwoIdeal.Value.flushed6_A]
  have e0 : win0_6.index t 0 * win0_6.size 0 = 512 * t.val := by revert t; decide +kernel
  have e1 : win0_6.index t 1 * win0_6.size 1 = 0 := by revert t; decide +kernel
  funext x
  obtain ⟨r, k, rfl⟩ : ∃ (r : Fin 512) (k : Fin 1024), x = (ix2 r k : S512x1024.Idx) :=
    ⟨x 0, x 1, by funext a; match a with | ⟨0, _⟩ => rfl | ⟨1, _⟩ => rfl⟩
  have ht := lt_N t
  refine Eq.trans (out_apply ..) ?_
  have e : (win0_6.blk t).view.emb (ix2 r k : S512x1024.Idx) = (ix2 ⟨512 * t.val + r.val, by omega⟩ k : S16384x1024.Idx) := by
    funext a
    match a with
    | ⟨0, _⟩ => exact Fin.ext (by show win0_6.index t 0 * win0_6.size 0 + 1 * r.val = 512 * t.val + r.val; rw [e0, Nat.one_mul])
    | ⟨1, _⟩ => exact Fin.ext (by show win0_6.index t 1 * win0_6.size 1 + 1 * k.val = k.val; rw [e1, Nat.one_mul, Nat.zero_add])
  refine Eq.trans ?_ (congrArg (res m c) e).symm
  have hb : (512 * t.val + r.val) / 8192 = t.val / 16 := by omega
  show _ = result _ _ _ _ _ _ (⟨512 * t.val + r.val, _⟩ : Fin 16384) k
  unfold result
  simp only [blk_x, blk_mod, blk_n, blk_nf, blk_w1, blk_w2, hb]

/-- The blocks tile the array: row `R` lies in the block of point `R / 512`. -/
theorem cover (i : S16384x1024.Idx) :
    ∃ t : Fin cfg0.N, (cfg0.win 6).flush t = true ∧ i ∈ ((cfg0.win 6).blk t).view.set := by
  have h0 : (i 0 : Nat) < 16384 := (i 0).isLt
  have h1 : (i 1 : Nat) < 1024 := (i 1).isLt
  have hN : cfg0.N = 32 := N_0
  have e : ∀ t : Fin cfg0.N, win0_6.index t 0 * win0_6.size 0 = 512 * t.val ∧ win0_6.xsize (grid0.coords t) 0 = 512
      ∧ win0_6.index t 1 * win0_6.size 1 = 0 ∧ win0_6.xsize (grid0.coords t) 1 = 1024 := by decide +kernel
  obtain ⟨t, ht⟩ : ∃ t : Fin cfg0.N, t.val = (i 0).val / 512 := ⟨⟨(i 0).val / 512, by omega⟩, rfl⟩
  obtain ⟨e0, s0, e1, s1⟩ := e t
  refine ⟨t, flush0_6 t, ?_⟩
  show i ∈ ((View.whole main_v8).slice (win0_6.rect t)).set
  rw [View.set_slice_whole, Rect.mem_set_unit]
  intro a
  match a with
  | ⟨0, _⟩ =>
    show win0_6.index t 0 * win0_6.size 0 ≤ (i 0 : Nat) ∧ (i 0 : Nat) < win0_6.index t 0 * win0_6.size 0 + win0_6.xsize (grid0.coords t) 0
    rw [e0, s0]; omega
  | ⟨1, _⟩ =>
    show win0_6.index t 1 * win0_6.size 1 ≤ (i 1 : Nat) ∧ (i 1 : Nat) < win0_6.index t 1 * win0_6.size 1 + win0_6.xsize (grid0.coords t) 1
    rw [e1, s1]; omega

/-- The output array ends holding the half step's result. -/
theorem final (c : Dev nD) : (Cert.FfnTwoIdeal.Gen.dats m 0 c).arrAt 6 cfg0.N = res m c :=
  (Cert.FfnTwoIdeal.Gen.dats m 0 c).arrAt_eq_of_cover 6 (res m c) (fun t _ => flushed_eq m c t) cover

end Cert.FfnTwoVal.Kernel

namespace Cert.FfnTwoVal.Ref

open Cert.FfnTwoRefIdeal Cert.FfnTwoRefIdeal.Gen Cert.FfnTwoRefIdeal.Read Cert.FfnTwoVal

/-- The reference's modulated rows. -/
theorem mod_apply (x0) (x1) (x2) (b : Fin 2) (s : Fin 8192) (k : Fin 1024) :
    val_main_v29 (F := Ideal) x0 x1 x2 (ix3 b s k)
      = modRow (fun k => x0 (ix2 ⟨b.val * 8192 + s.val, by omega⟩ k)) (fun k => x2 (ix2 0 k)) (fun k => x1 (ix3 b 6 k)) (fun k => x1 (ix3 b 7 k)) k := by
  pointwise [val_main_v0, val_main_v1, val_main_v2, val_main_v3, val_main_v4, val_main_v5, val_main_v6, val_main_v7,
    val_main_v8, val_main_v9, val_main_v10, val_main_v11, val_main_v12, val_main_v13, val_main_v14, val_main_v15, val_main_v16,
    val_main_v17, val_main_v18, val_main_v19, val_main_v20, val_main_v21, val_main_v22, val_main_v23, val_main_v24, val_main_v25,
    val_main_v26, val_main_v27, val_main_v28, val_main_v29, val_main_cst_0, val_main_cst_1, val_main_cst_2, val_main_cst_3]
  rfl

/-- The reference's gated hidden rows. -/
theorem hid_apply (x0) (x1) (x2) (x3) (b : Fin 2) (s : Fin 8192) (j : Fin 2816) :
    val_main_v36 (F := Ideal) x0 x1 x2 x3 (ix3 b s j)
      = hidRow (modRow (fun k => x0 (ix2 ⟨b.val * 8192 + s.val, by omega⟩ k)) (fun k => x2 (ix2 0 k)) (fun k => x1 (ix3 b 6 k)) (fun k => x1 (ix3 b 7 k)))
          (fun k j => x3 (ix3 0 k j)) j := by
  pointwise [val_main_v30, val_main_v32, val_main_v33, val_main_v34, val_main_call0_v0, val_main_call0_v1, val_main_call0_cst,
    val_main_call0_v2, val_main_call0_v3, val_main_call0_cst_0, val_main_call0_v4, val_main_call0_v5, val_main_v35, val_main_v36]
  simp only [mod_apply]
  rfl

/-- The reference's residual rows. -/
theorem res_apply (x0) (x1) (x2) (x3) (x4) (b : Fin 2) (s : Fin 8192) (k : Fin 1024) :
    val_main_v40 (F := Ideal) x0 x1 x2 x3 x4 (ix3 b s k)
      = outRow (fun k => x0 (ix2 ⟨b.val * 8192 + s.val, by omega⟩ k)) (fun k => x2 (ix2 0 k)) (fun k => x1 (ix3 b 6 k))
          (fun k => x1 (ix3 b 7 k)) (fun k => x1 (ix3 b 8 k)) (fun k j => x3 (ix3 0 k j)) (fun j c => x4 (ix3 0 j c)) k := by
  pointwise [val_main_cst, val_main_v0, val_main_v1, val_main_v2, val_main_v3, val_main_v4, val_main_v5, val_main_v31, val_main_v37,
    val_main_v38, val_main_v39, val_main_v40]
  simp only [hid_apply]
  rfl

/-- The reference's result. -/
theorem out_apply (x0) (x1) (x2) (x3) (x4) (x5) (R : Fin 16384) (k : Fin 1024) :
    val_main_v55 (F := Ideal) x0 x1 x2 x3 x4 x5 (ix2 R k) = result x0 x1 x2 x3 x4 x5 R k := by
  pointwise [val_main_v41, val_main_v42, val_main_cst_4, val_main_v43, val_main_v44, val_main_cst_5, val_main_v45, val_main_v46, val_main_cst_6,
    val_main_v47, val_main_v48, val_main_v49, val_main_v50, val_main_v51, val_main_v52, val_main_v53, val_main_v54, val_main_v55]
  simp only [res_apply]
  have e : (⟨R.val / 8192 * 8192 + R.val % 8192, by omega⟩ : Fin 16384) = R := Fin.ext (by show R.val / 8192 * 8192 + R.val % 8192 = R.val; omega)
  simp only [e]
  rfl

end Cert.FfnTwoVal.Ref

namespace Cert.FfnTwoVal

/-- The kernel and the reference end with the same array. -/
theorem algebraic : Cert.algebraic_FfnTwoIdeal_FfnTwoRefIdeal := by
  intro m ρ m' ρ' _ hagree
  refine ⟨fun c => Kernel.res m c, ?_, ?_⟩
  · exact (θ_run Cert.FfnTwoIdeal.defs _ _).mono (fun _ h c => ⟨(h c).1.trans (Kernel.final m c), (h c).2⟩)
      (Cert.FfnTwoIdeal.Value.run_blocks (F := Ideal) m ρ)
  · refine (θ_run Cert.FfnTwoRefIdeal.defs _ _).mono (fun _ h c => ⟨(h c).1.trans ?_, (h c).2⟩)
      (Cert.FfnTwoRefIdeal.Value.run (F := Ideal) m' ρ')
    rw [Cert.FfnTwoRefIdeal.Read.val_main_v55_eq, (hagree c).1, (hagree c).2.1, (hagree c).2.2.1, (hagree c).2.2.2.1,
      (hagree c).2.2.2.2.1, (hagree c).2.2.2.2.2]
    funext i
    obtain ⟨R, k, rfl⟩ : ∃ (R : Fin 16384) (k : Fin 1024), i = (ix2 R k : Cert.FfnTwoRefIdeal.S16384x1024.Idx) :=
      ⟨i 0, i 1, by funext a; match a with | ⟨0, _⟩ => rfl | ⟨1, _⟩ => rfl⟩
    exact Ref.out_apply _ _ _ _ _ _ R k

/-- The reference's frame: its run keeps its arguments, and it declares no semaphore. -/
theorem frame_ref : Cert.quiescent_FfnTwoRefIdeal := fun m ρ _ =>
  (θ_run Cert.FfnTwoRefIdeal.defs _ _).mono (fun r h => ⟨fun c => (h c).2,
      Idealize.ShloMosaic.sem_eq_zero_of_no_sems (by decide) r.2⟩)
    (Cert.FfnTwoRefIdeal.Value.run (F := Ideal) m ρ)

end Cert.FfnTwoVal

end
-- ==== Proof.FfnSampleVal.lean ====
/-
  The second feed-forward half step of the sample batch (`FfnSample`): what the pipelined kernel writes at a grid point, the whole array after
  its run, the host reference read at an index, and the equality of the two.
-/
module

public import proofs.«01_k».proof.Defs
public import proofs.«01_k».proof.Proof.Gen.FfnSampleIdeal.Value
public import proofs.«01_k».proof.Proof.Gen.FfnSampleRefIdeal.Run
public import proofs.«01_k».proof.Proof.Gen.FfnSampleRefIdeal.Read
public import proofs.«01_k».proof.Proof.FfnMath
public import Idealize.ShloMosaic.Lib.Quiescent

@[expose] public section

set_option maxRecDepth 512

noncomputable section

open Idealize.ShloMosaic Idealize.ShloMosaic.TcCoe Idealize.SL.Sem Idealize.ShloMosaic.Pointwise
open Cert.FfnMath

namespace Cert.FfnSampleVal

/-- The half step's result as an array of 512 rows, normed once more: row `R` belongs to sequence `R / 64`. The three rows
    of the modulation it uses are rows 6 (shift), 7 (scale) and 8 (gate). -/
def result (x : (⟨2, ![512, 1024]⟩ : Shape).Idx → EReal) (mod : (⟨3, ![8, 9, 1024]⟩ : Shape).Idx → EReal)
    (n : (⟨2, ![1, 1024]⟩ : Shape).Idx → EReal) (w1 : (⟨3, ![1, 1024, 5632]⟩ : Shape).Idx → EReal)
    (w2 : (⟨3, ![1, 2816, 1024]⟩ : Shape).Idx → EReal) (nf : (⟨2, ![1, 1024]⟩ : Shape).Idx → EReal)
    (R : Fin 512) (k : Fin 1024) : EReal :=
  rmsRow (outRow (fun k => x (ix2 R k)) (fun k => n (ix2 0 k))
    (fun k => mod (ix3 ⟨R.val / 64, by omega⟩ 6 k)) (fun k => mod (ix3 ⟨R.val / 64, by omega⟩ 7 k))
    (fun k => mod (ix3 ⟨R.val / 64, by omega⟩ 8 k)) (fun k j => w1 (ix3 0 k j)) (fun j c => w2 (ix3 0 j c))) k * nf (ix2 0 k)

end Cert.FfnSampleVal

namespace Cert.FfnSampleVal.Kernel

open Cert.FfnSampleIdeal Cert.FfnSampleIdeal.Gen Cert.FfnSampleVal

/-- What one grid point stores, at row `r` and column `k`: the half step's row of its input blocks. -/
theorem out_apply (c) (i) (arg1) (h1) (arg2) (h2) (arg3) (h3) (arg4) (h4) (arg5) (h5) (arg6) (h6) (arg7) (h7) (arg8) (h8)
    (x0) (x1) (x2) (x3) (x4) (x5) (r : Fin 512) (k : Fin 1024) :
    out0_A_6 (F := Ideal) c i arg1 h1 arg2 h2 arg3 h3 arg4 h4 arg5 h5 arg6 h6 arg7 h7 arg8 h8 x0 x1 x2 x3 x4 x5 (ix2 r k)
      = rmsRow (outRow (fun k => x0 (ix2 r k)) (fun k => x2 (ix2 0 k)) (fun k => x1 (ix3 ⟨r.val / 64, by omega⟩ 6 k)) (fun k => x1 (ix3 ⟨r.val / 64, by omega⟩ 7 k))
          (fun k => x1 (ix3 ⟨r.val / 64, by omega⟩ 8 k)) (fun k j => x3 (ix2 k j)) (fun j c => x4 (ix2 j c))) k * x5 (ix2 0 k) := by
  unfold out0_A_6 kernelRun0_A
  dsimp only
  rw [View.read_writes_junk_eq_canon, View.canon_cons_unit_lit _ _ _ (by decide)]
  pointwise [k0_pay1, k0_pay2]
  have hY : ∀ k : Fin 1024, (kernelRun0_A.sl.r c arg1 h1 x0 (ix2 r k)
      + Ideal.ofBits .f32 0x3F000000#32 * kernelRun0_A.sl.r_1 c arg2 h2 x1 (ix2 ⟨r.val / 64, by omega⟩ k)
        * ∑ j, kernelRun0_A.sl.v177 c arg1 h1 arg2 h2 arg3 h3 arg4 h4 arg8 x0 x1 x2 x3 (ix2 r j) * kernelRun0_A.sl.r_7 c arg5 h5 x4 (ix2 j k))
      = outRow (fun k => x0 (ix2 r k)) (fun k => x2 (ix2 0 k)) (fun k => x1 (ix3 ⟨r.val / 64, by omega⟩ 6 k)) (fun k => x1 (ix3 ⟨r.val / 64, by omega⟩ 7 k))
          (fun k => x1 (ix3 ⟨r.val / 64, by omega⟩ 8 k)) (fun k j => x3 (ix2 k j)) (fun j c => x4 (ix2 j c)) k := by
    intro k
    sl_unfold_run_names
    pointwise [k0_pay2]
    refine congrArg₂ (· + ·) ?_ (congrArg₂ (· * ·) (congrArg₂ (· * ·) rfl ?_) (Finset.sum_congr rfl fun j _ => congrArg₂ (· * ·) ?_ ?_))
    · rw [load2]
      simp only [Nat.zero_add, Fin.eta]
    · rw [load3]
      simp only [Nat.zero_add, Fin.eta]
      rfl
    · rw [View.readCov_eq_canon']
      refine Eq.trans (congrArg _ (idx2 _ r j)) ?_
      simp only [Nat.zero_add, Fin.eta]
      refine canon_of_piecesOf (Val := Elt Ideal) (e := .bf16) (hidArr (fun r => modRow (fun k => x0 (ix2 r k)) (fun k => x2 (ix2 0 k)) (fun k => x1 (ix3 ⟨r.val / 64, by omega⟩ 6 k)) (fun k => x1 (ix3 ⟨r.val / 64, by omega⟩ 7 k))) (fun k j => x3 (ix2 k j))) _ ?_ (ix2 r j) ?_
      · refine ⟨?_, ?_, ?_, ?_, ?_, ?_, ?_, ?_, ?_, ?_, ?_, trivial⟩
        all_goals dsimp only
        all_goals refine piece_eq _ _ _ (by omega) _ _ (fun r c => ?_)
        all_goals pointwise [k0_pay2, k0_pay3, k0_pay4, k0_pay5, k0_pay6, k0_pay7, k0_pay8, k0_pay9, k0_pay10, k0_pay11, k0_pay12, k0_pay13, k0_pay14, k0_pay15, k0_pay16, k0_pay17, k0_pay18]
        all_goals simp only [load2, load3, Nat.zero_add, Fin.eta]
        all_goals unfold hidRow modRow rmsRow
        all_goals simp only [← Nat.add_assoc, Nat.reduceAdd, Nat.zero_add]
        all_goals rfl
      · simp only [List.mem_cons, exists_eq_or_imp, List.not_mem_nil, false_and, exists_false, or_false, exists_eq_left, mem_cols]
        have hj := j.isLt
        omega
    · rw [load2]
      simp only [Nat.zero_add, Fin.eta]
  simp only [hY]
  refine congrArg₂ (· * ·) rfl ?_
  try sl_unfold_run_names
  rw [load2]
  simp only [Nat.zero_add, Fin.eta]

variable (m : (ℓ : Loc nD τ sig) → Buf (Elt Ideal) ℓ)

/-! ## The arrays the call is entered with -/

/-- The first weight. -/
theorem V_w1 (c : Dev nD) (k : Fin 1024) (j : Fin 5632) : (V m c main_v1 : FVec Ideal S1024x5632 .bf16) (ix2 k j)
    = (m (c, main_arg3) : FVec Ideal S1x1024x5632 .f32) (ix3 0 k j) := by
  show StableHlo.after hostOps0 _ _ _ = _
  after_results
  pointwise []

/-- The second weight. -/
theorem V_w2 (c : Dev nD) (k : Fin 2816) (j : Fin 1024) : (V m c main_v3 : FVec Ideal S2816x1024 .bf16) (ix2 k j)
    = (m (c, main_arg4) : FVec Ideal S1x2816x1024 .f32) (ix3 0 k j) := by
  show StableHlo.after hostOps0 _ _ _ = _
  after_results
  pointwise []

/-- The norm's weight. -/
theorem V_n (c : Dev nD) (j : Fin 1024) : (V m c main_v5 : FVec Ideal S1x1024 .f32) (ix2 0 j)
    = (m (c, main_arg2) : FVec Ideal S1x1024 .f32) (ix2 0 j) := by
  show StableHlo.after hostOps0 _ _ _ = _
  after_results
  pointwise []

/-- The last norm's weight. -/
theorem V_nf (c : Dev nD) (j : Fin 1024) : (V m c main_v7 : FVec Ideal S1x1024 .f32) (ix2 0 j)
    = (m (c, main_arg5) : FVec Ideal S1x1024 .f32) (ix2 0 j) := by
  show StableHlo.after hostOps0 _ _ _ = _
  after_results
  pointwise []

/-! ## The blocks a grid point is given -/

/-- There is one grid point. -/
theorem lt_N (t : Fin cfg0.N) : t.val < 1 := by
  have h := t.isLt
  have e : cfg0.N = 1 := N_0
  omega

/-- Point `t` is given token rows `512 t` to `512 t + 511`. -/
theorem blk_x (c : Dev nD) (t : Fin cfg0.N) (r : Fin 512) (k : Fin 1024) : (iblk m c 0 t : FVec Ideal S512x1024 .f32) (ix2 r k)
    = (m (c, main_arg0) : FVec Ideal S512x1024 .f32) (ix2 ⟨512 * t.val + r.val, by have := lt_N t; omega⟩ k) := by
  have e0 : win0_0.index t 0 * win0_0.size 0 = 512 * t.val := by revert t; decide +kernel
  have e1 : win0_0.index t 1 * win0_0.size 1 = 0 := by revert t; decide +kernel
  refine Eq.trans (congrArg (V m c main_arg0 : FVec Ideal S512x1024 .f32) ?_) (congrFun (V_main_arg0 m c) _)
  funext a
  match a with
  | ⟨0, _⟩ => exact Fin.ext (by show win0_0.index t 0 * win0_0.size 0 + 1 * r.val = 512 * t.val + r.val; rw [e0, Nat.one_mul])
  | ⟨1, _⟩ => exact Fin.ext (by show win0_0.index t 1 * win0_0.size 1 + 1 * k.val = k.val; rw [e1, Nat.one_mul, Nat.zero_add])

/-- Every point is given the modulation of all eight sequences. -/
theorem blk_mod (c : Dev nD) (t : Fin cfg0.N) (b : Fin 8) (p : Fin 9) (k : Fin 1024) : (iblk m c 1 t : FVec Ideal S8x9x1024 .f32) (ix3 b p k)
    = (m (c, main_arg1) : FVec Ideal S8x9x1024 .f32) (ix3 b p k) := by
  have e0 : win0_1.index t 0 * win0_1.size 0 = 0 := by revert t; decide +kernel
  have e1 : win0_1.index t 1 * win0_1.size 1 = 0 := by revert t; decide +kernel
  have e2 : win0_1.index t 2 * win0_1.size 2 = 0 := by revert t; decide +kernel
  refine Eq.trans (congrArg (V m c main_arg1 : FVec Ideal S8x9x1024 .f32) ?_) (congrFun (V_main_arg1 m c) _)
  funext a
  match a with
  | ⟨0, _⟩ => exact Fin.ext (by show win0_1.index t 0 * win0_1.size 0 + 1 * b.val = b.val; rw [e0, Nat.one_mul, Nat.zero_add])
  | ⟨1, _⟩ => exact Fin.ext (by show win0_1.index t 1 * win0_1.size 1 + 1 * p.val = p.val; rw [e1, Nat.one_mul, Nat.zero_add])
  | ⟨2, _⟩ => exact Fin.ext (by show win0_1.index t 2 * win0_1.size 2 + 1 * k.val = k.val; rw [e2, Nat.one_mul, Nat.zero_add])

/-- Every point is given the whole norm weight. -/
theorem blk_n (c : Dev nD) (t : Fin cfg0.N) (k : Fin 1024) : (iblk m c 2 t : FVec Ideal S1x1024 .f32) (ix2 0 k)
    = (m (c, main_arg2) : FVec Ideal S1x1024 .f32) (ix2 0 k) := by
  have e0 : win0_2.index t 0 * win0_2.size 0 = 0 := by revert t; decide +kernel
  have e1 : win0_2.index t 1 * win0_2.size 1 = 0 := by revert t; decide +kernel
  refine Eq.trans (congrArg (V m c main_v5 : FVec Ideal S1x1024 .f32) ?_) (V_n m c k)
  funext a
  match a with
  | ⟨0, _⟩ => exact Fin.ext (by show win0_2.index t 0 * win0_2.size 0 + 1 * 0 = 0; rw [e0])
  | ⟨1, _⟩ => exact Fin.ext (by show win0_2.index t 1 * win0_2.size 1 + 1 * k.val = k.val; rw [e1, Nat.one_mul, Nat.zero_add])

/-- Every point is given the whole first weight. -/
theorem blk_w1 (c : Dev nD) (t : Fin cfg0.N) (k : Fin 1024) (j : Fin 5632) : (iblk m c 3 t : FVec Ideal S1024x5632 .bf16) (ix2 k j)
    = (m (c, main_arg3) : FVec Ideal S1x1024x5632 .f32) (ix3 0 k j) := by
  have e0 : win0_3.index t 0 * win0_3.size 0 = 0 := by revert t; decide +kernel
  have e1 : win0_3.index t 1 * win0_3.size 1 = 0 := by revert t; decide +kernel
  refine Eq.trans (congrArg (V m c main_v1 : FVec Ideal S1024x5632 .bf16) ?_) (V_w1 m c k j)
  funext a
  match a with
  | ⟨0, _⟩ => exact Fin.ext (by show win0_3.index t 0 * win0_3.size 0 + 1 * k.val = k.val; rw [e0, Nat.one_mul, Nat.zero_add])
  | ⟨1, _⟩ => exact Fin.ext (by show win0_3.index t 1 * win0_3.size 1 + 1 * j.val = j.val; rw [e1, Nat.one_mul, Nat.zero_add])

/-- Every point is given the whole second weight. -/
theorem blk_w2 (c : Dev nD) (t : Fin cfg0.N) (k : Fin 2816) (j : Fin 1024) : (iblk m c 4 t : FVec Ideal S2816x1024 .bf16) (ix2 k j)
    = (m (c, main_arg4) : FVec Ideal S1x2816x1024 .f32) (ix3 0 k j) := by
  have e0 : win0_4.index t 0 * win0_4.size 0 = 0 := by revert t; decide +kernel
  have e1 : win0_4.index t 1 * win0_4.size 1 = 0 := by revert t; decide +kernel
  refine Eq.trans (congrArg (V m c main_v3 : FVec Ideal S2816x1024 .bf16) ?_) (V_w2 m c k j)
  funext a
  match a with
  | ⟨0, _⟩ => exact Fin.ext (by show win0_4.index t 0 * win0_4.size 0 + 1 * k.val = k.val; rw [e0, Nat.one_mul, Nat.zero_add])
  | ⟨1, _⟩ => exact Fin.ext (by show win0_4.index t 1 * win0_4.size 1 + 1 * j.val = j.val; rw [e1, Nat.one_mul, Nat.zero_add])

/-- Every point is given the whole weight of the last norm. -/
theorem blk_nf (c : Dev nD) (t : Fin cfg0.N) (k : Fin 1024) : (iblk m c 5 t : FVec Ideal S1x1024 .f32) (ix2 0 k)
    = (m (c, main_arg5) : FVec Ideal S1x1024 .f32) (ix2 0 k) := by
  have e0 : win0_5.index t 0 * win0_5.size 0 = 0 := by revert t; decide +kernel
  have e1 : win0_5.index t 1 * win0_5.size 1 = 0 := by revert t; decide +kernel
  refine Eq.trans (congrArg (V m c main_v7 : FVec Ideal S1x1024 .f32) ?_) (V_nf m c k)
  funext a
  match a with
  | ⟨0, _⟩ => exact Fin.ext (by show win0_5.index t 0 * win0_5.size 0 + 1 * 0 = 0; rw [e0])
  | ⟨1, _⟩ => exact Fin.ext (by show win0_5.index t 1 * win0_5.size 1 + 1 * k.val = k.val; rw [e1, Nat.one_mul, Nat.zero_add])

/-! ## The whole array after the run -/

/-- The half step's result of device `c`'s arguments, as the array it is written to. -/
def res (c : Dev nD) : FVec Ideal S512x1024 .f32 := fun i =>
  result (m (c, main_arg0)) (m (c, main_arg1)) (m (c, main_arg2)) (m (c, main_arg3)) (m (c, main_arg4)) (m (c, main_arg5)) (i 0) (i 1)

/-- Point `t` writes back its block of the half step's result. -/
theorem flushed_eq (c : Dev nD) (t : Fin cfg0.N) :
    (Cert.FfnSampleIdeal.Gen.dats m 0 c).flushed 6 t = (win0_6.blk t).view.read (Elt Ideal) (res m c) := by
  rw [Cert.FfnSampleIdeal.Value.flushed6_A]
  have e0 : win0_6.index t 0 * win0_6.size 0 = 512 * t.val := by revert t; decide +kernel
  have e1 : win0_6.index t 1 * win0_6.size 1 = 0 := by revert t; decide +kernel
  funext x
  obtain ⟨r, k, rfl⟩ : ∃ (r : Fin 512) (k : Fin 1024), x = (ix2 r k : S512x1024.Idx) :=
    ⟨x 0, x 1, by funext a; match a with | ⟨0, _⟩ => rfl | ⟨1, _⟩ => rfl⟩
  have ht := lt_N t
  refine Eq.trans (out_apply ..) ?_
  have e : (win0_6.blk t).view.emb (ix2 r k : S512x1024.Idx) = (ix2 ⟨512 * t.val + r.val, by omega⟩ k : S512x1024.Idx) := by
    funext a
    match a with
    | ⟨0, _⟩ => exact Fin.ext (by show win0_6.index t 0 * win0_6.size 0 + 1 * r.val = 512 * t.val + r.val; rw [e0, Nat.one_mul])
    | ⟨1, _⟩ => exact Fin.ext (by show win0_6.index t 1 * win0_6.size 1 + 1 * k.val = k.val; rw [e1, Nat.one_mul, Nat.zero_add])
  refine Eq.trans ?_ (congrArg (res m c) e).symm
  have hb : (512 * t.val + r.val) / 64 = r.val / 64 := by omega
  show _ = result _ _ _ _ _ _ (⟨512 * t.val + r.val, _⟩ : Fin 512) k
  unfold result
  simp only [blk_x, blk_mod, blk_n, blk_nf, blk_w1, blk_w2, hb]

/-- The blocks tile the array: row `R` lies in the block of point `R / 512`. -/
theorem cover (i : S512x1024.Idx) :
    ∃ t : Fin cfg0.N, (cfg0.win 6).flush t = true ∧ i ∈ ((cfg0.win 6).blk t).view.set := by
  have h0 : (i 0 : Nat) < 512 := (i 0).isLt
  have h1 : (i 1 : Nat) < 1024 := (i 1).isLt
  have hN : cfg0.N = 1 := N_0
  have e : ∀ t : Fin cfg0.N, win0_6.index t 0 * win0_6.size 0 = 512 * t.val ∧ win0_6.xsize (grid0.coords t) 0 = 512
      ∧ win0_6.index t 1 * win0_6.size 1 = 0 ∧ win0_6.xsize (grid0.coords t) 1 = 1024 := by decide +kernel
  obtain ⟨t, ht⟩ : ∃ t : Fin cfg0.N, t.val = (i 0).val / 512 := ⟨⟨(i 0).val / 512, by omega⟩, rfl⟩
  obtain ⟨e0, s0, e1, s1⟩ := e t
  refine ⟨t, flush0_6 t, ?_⟩
  show i ∈ ((View.whole main_v8).slice (win0_6.rect t)).set
  rw [View.set_slice_whole, Rect.mem_set_unit]
  intro a
  match a with
  | ⟨0, _⟩ =>
    show win0_6.index t 0 * win0_6.size 0 ≤ (i 0 : Nat) ∧ (i 0 : Nat) < win0_6.index t 0 * win0_6.size 0 + win0_6.xsize (grid0.coords t) 0
    rw [e0, s0]; omega
  | ⟨1, _⟩ =>
    show win0_6.index t 1 * win0_6.size 1 ≤ (i 1 : Nat) ∧ (i 1 : Nat) < win0_6.index t 1 * win0_6.size 1 + win0_6.xsize (grid0.coords t) 1
    rw [e1, s1]; omega

/-- The output array ends holding the half step's result. -/
theorem final (c : Dev nD) : (Cert.FfnSampleIdeal.Gen.dats m 0 c).arrAt 6 cfg0.N = res m c :=
  (Cert.FfnSampleIdeal.Gen.dats m 0 c).arrAt_eq_of_cover 6 (res m c) (fun t _ => flushed_eq m c t) cover

end Cert.FfnSampleVal.Kernel

namespace Cert.FfnSampleVal.Ref

open Cert.FfnSampleRefIdeal Cert.FfnSampleRefIdeal.Gen Cert.FfnSampleRefIdeal.Read Cert.FfnSampleVal

/-- The reference's modulated rows. -/
theorem mod_apply (x0) (x1) (x2) (b : Fin 8) (s : Fin 64) (k : Fin 1024) :
    val_main_v29 (F := Ideal) x0 x1 x2 (ix3 b s k)
      = modRow (fun k => x0 (ix2 ⟨b.val * 64 + s.val, by omega⟩ k)) (fun k => x2 (ix2 0 k)) (fun k => x1 (ix3 b 6 k)) (fun k => x1 (ix3 b 7 k)) k := by
  pointwise [val_main_v0, val_main_v1, val_main_v2, val_main_v3, val_main_v4, val_main_v5, val_main_v6, val_main_v7,
    val_main_v8, val_main_v9, val_main_v10, val_main_v11, val_main_v12, val_main_v13, val_main_v14, val_main_v15, val_main_v16,
    val_main_v17, val_main_v18, val_main_v19, val_main_v20, val_main_v21, val_main_v22, val_main_v23, val_main_v24, val_main_v25,
    val_main_v26, val_main_v27, val_main_v28, val_main_v29, val_main_cst_0, val_main_cst_1, val_main_cst_2, val_main_cst_3]
  rfl

/-- The reference's gated hidden rows. -/
theorem hid_apply (x0) (x1) (x2) (x3) (b : Fin 8) (s : Fin 64) (j : Fin 2816) :
    val_main_v36 (F := Ideal) x0 x1 x2 x3 (ix3 b s j)
      = hidRow (modRow (fun k => x0 (ix2 ⟨b.val * 64 + s.val, by omega⟩ k)) (fun k => x2 (ix2 0 k)) (fun k => x1 (ix3 b 6 k)) (fun k => x1 (ix3 b 7 k)))
          (fun k j => x3 (ix3 0 k j)) j := by
  pointwise [val_main_v30, val_main_v32, val_main_v33, val_main_v34, val_main_call0_v0, val_main_call0_v1, val_main_call0_cst,
    val_main_call0_v2, val_main_call0_v3, val_main_call0_cst_0, val_main_call0_v4, val_main_call0_v5, val_main_v35, val_main_v36]
  simp only [mod_apply]
  rfl

/-- The reference's residual rows. -/
theorem res_apply (x0) (x1) (x2) (x3) (x4) (b : Fin 8) (s : Fin 64) (k : Fin 1024) :
    val_main_v40 (F := Ideal) x0 x1 x2 x3 x4 (ix3 b s k)
      = outRow (fun k => x0 (ix2 ⟨b.val * 64 + s.val, by omega⟩ k)) (fun k => x2 (ix2 0 k)) (fun k => x1 (ix3 b 6 k))
          (fun k => x1 (ix3 b 7 k)) (fun k => x1 (ix3 b 8 k)) (fun k j => x3 (ix3 0 k j)) (fun j c => x4 (ix3 0 j c)) k := by
  pointwise [val_main_cst, val_main_v0, val_main_v1, val_main_v2, val_main_v3, val_main_v4, val_main_v5, val_main_v31, val_main_v37,
    val_main_v38, val_main_v39, val_main_v40]
  simp only [hid_apply]
  rfl

/-- The reference's result. -/
theorem out_apply (x0) (x1) (x2) (x3) (x4) (x5) (R : Fin 512) (k : Fin 1024) :
    val_main_v55 (F := Ideal) x0 x1 x2 x3 x4 x5 (ix2 R k) = result x0 x1 x2 x3 x4 x5 R k := by
  pointwise [val_main_v41, val_main_v42, val_main_cst_4, val_main_v43, val_main_v44, val_main_cst_5, val_main_v45, val_main_v46, val_main_cst_6,
    val_main_v47, val_main_v48, val_main_v49, val_main_v50, val_main_v51, val_main_v52, val_main_v53, val_main_v54, val_main_v55]
  simp only [res_apply]
  have e : (⟨R.val / 64 * 64 + R.val % 64, by omega⟩ : Fin 512) = R := Fin.ext (by show R.val / 64 * 64 + R.val % 64 = R.val; omega)
  simp only [e]
  rfl

end Cert.FfnSampleVal.Ref

namespace Cert.FfnSampleVal

/-- The kernel and the reference end with the same array. -/
theorem algebraic : Cert.algebraic_FfnSampleIdeal_FfnSampleRefIdeal := by
  intro m ρ m' ρ' _ hagree
  refine ⟨fun c => Kernel.res m c, ?_, ?_⟩
  · exact (θ_run Cert.FfnSampleIdeal.defs _ _).mono (fun _ h c => ⟨(h c).1.trans (Kernel.final m c), (h c).2⟩)
      (Cert.FfnSampleIdeal.Value.run_blocks (F := Ideal) m ρ)
  · refine (θ_run Cert.FfnSampleRefIdeal.defs _ _).mono (fun _ h c => ⟨(h c).1.trans ?_, (h c).2⟩)
      (Cert.FfnSampleRefIdeal.Value.run (F := Ideal) m' ρ')
    rw [Cert.FfnSampleRefIdeal.Read.val_main_v55_eq, (hagree c).1, (hagree c).2.1, (hagree c).2.2.1, (hagree c).2.2.2.1,
      (hagree c).2.2.2.2.1, (hagree c).2.2.2.2.2]
    funext i
    obtain ⟨R, k, rfl⟩ : ∃ (R : Fin 512) (k : Fin 1024), i = (ix2 R k : Cert.FfnSampleRefIdeal.S512x1024.Idx) :=
      ⟨i 0, i 1, by funext a; match a with | ⟨0, _⟩ => rfl | ⟨1, _⟩ => rfl⟩
    exact Ref.out_apply _ _ _ _ _ _ R k

/-- The reference's frame: its run keeps its arguments, and it declares no semaphore. -/
theorem frame_ref : Cert.quiescent_FfnSampleRefIdeal := fun m ρ _ =>
  (θ_run Cert.FfnSampleRefIdeal.defs _ _).mono (fun r h => ⟨fun c => (h c).2,
      Idealize.ShloMosaic.sem_eq_zero_of_no_sems (by decide) r.2⟩)
    (Cert.FfnSampleRefIdeal.Value.run (F := Ideal) m ρ)

end Cert.FfnSampleVal

end
-- ==== Proof.MixerMath.lean ====
/-
  The keys and values of one token row of the mixer, over the extended reals: the projected row, the norm of a head,
  the rotation of its first sixteen lanes; which entries are real numbers; and the masked form in which the kernel
  computes the norm and the rotation of both heads at once.
-/
module

public import proofs.«01_k».proof.Proof.FfnMath

@[expose] public section

noncomputable section

namespace Cert.MixerMath

open Idealize.ShloMosaic Cert.FfnMath
open scoped BigOperators

/-! ## The mathematics of a row -/

/-- The small constant of the layer's norms. -/
abbrev eps : EReal := Ideal.ofBits .f32 0x358637BD#32

/-- Column `j` of the projected row. -/
def projRow (u : Fin 1024 → EReal) (w : Fin 1024 → Fin 3328 → EReal) (j : Fin 3328) : EReal := ∑ k, u k * w k j

/-- A head of 64 entries divided by its root mean square, times the norm's weight. -/
def headRow (y n : Fin 64 → EReal) (d : Fin 64) : EReal :=
  y d * Ideal.rsqrt (Ideal.div (∑ j, y j * y j) (Ideal.ofBits .f32 0x42800000#32) + eps) * n d

/-- The position of row `s` of a sequence: the rows follow 2048 earlier ones. -/
def pos (s : ℕ) : EReal := (((2048#32 + BitVec.ofNat 32 s : BitVec 32).toInt : ℝ) : EReal)

/-- The frequency of pair `i` of the rotation. -/
def freq (i : Fin 8) : EReal :=
  Ideal.pow (Ideal.ofBits .f32 0x48F42400#32) (Ideal.div (-(((BitVec.ofNat 32 i.val).toInt : ℝ) : EReal)) (Ideal.ofBits .f32 0x41000000#32))

/-- A head whose first sixteen entries are rotated: entries `d` and `d + 8` by the angle `p · g d`. -/
def ropeRow (p : EReal) (g : Fin 8 → EReal) (x : Fin 64 → EReal) (d : Fin 64) : EReal :=
  if h : d.val < 8 then x d * Ideal.cos (p * g ⟨d.val, h⟩) - x ⟨d.val + 8, by omega⟩ * Ideal.sin (p * g ⟨d.val, h⟩)
  else if h : d.val < 16 then
    x d * Ideal.cos (p * g ⟨d.val - 8, by omega⟩) + x ⟨d.val - 8, by omega⟩ * Ideal.sin (p * g ⟨d.val - 8, by omega⟩)
  else x d

/-! ## Real entries -/

/-- The extended real is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_one : IsReal 1 := ⟨1, rfl⟩

theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- A sum of squares of real numbers is a real number that is not negative. -/
theorem sum_sq {ι : Type} (s : Finset ι) (f : ι → EReal) (h : ∀ i, IsReal (f i)) :
    ∃ r : ℝ, 0 ≤ r ∧ (∑ i ∈ s, f i * f i) = (r : EReal) := by
  classical
  induction s using Finset.induction_on with
  | empty => exact ⟨0, le_refl _, by simp⟩
  | insert a s ha ih =>
    obtain ⟨r, hr, e⟩ := ih
    obtain ⟨b, hb⟩ := h a
    refine ⟨b * b + r, add_nonneg (mul_self_nonneg b) hr, ?_⟩
    rw [Finset.sum_insert ha, e, hb, EReal.coe_add, EReal.coe_mul]

theorem ofBits_1024 : Ideal.ofBits .f32 0x44800000#32 = ((1024 : ℝ) : EReal) := by
  simp [Ideal.ofBits, Ideal.ieee]
  rw [← EReal.coe_mul]
  norm_num

theorem ofBits_64 : Ideal.ofBits .f32 0x42800000#32 = ((64 : ℝ) : EReal) := by
  simp [Ideal.ofBits, Ideal.ieee]
  rw [← EReal.coe_mul]
  norm_num

theorem ofBits_64_inv : Ideal.ofBits .f32 0x3C800000#32 = ((1 / 64 : ℝ) : EReal) := by
  simp [Ideal.ofBits, Ideal.ieee]
  rw [← EReal.coe_mul]
  norm_num

theorem ofBits_neg_one : Ideal.ofBits .f32 0xBF800000#32 = -1 := by
  simp [Ideal.ofBits, Ideal.ieee]
  rw [← EReal.coe_mul]
  norm_num

theorem ofBits_one : Ideal.ofBits .f32 0x3F800000#32 = 1 := by
  simp [Ideal.ofBits, Ideal.ieee]
  rw [← EReal.coe_mul]
  norm_num

/-- The small constant is a positive real number. -/
theorem eps_pos : ∃ e : ℝ, 0 < e ∧ eps = (e : EReal) := by
  refine ⟨_, ?_, by simp only [eps, Ideal.ofBits, Ideal.ieee]; rw [if_neg (by decide), if_neg (by decide)]⟩
  simp

/-- A number whose absolute value is at most the largest single-precision number is a real number. -/
theorem isReal_of_abs_le {x : EReal} (h : max x (-x) ≤ Ideal.ofBits .f32 0x7F7FFFFF#32) : IsReal x := by
  have hb : ∃ b : ℝ, Ideal.ofBits .f32 0x7F7FFFFF#32 = (b : EReal) :=
    ⟨_, by simp only [Ideal.ofBits, Ideal.ieee]; rw [if_neg (by decide), if_neg (by decide)]⟩
  obtain ⟨b, hb⟩ := hb
  rw [hb] at h
  induction x using EReal.rec with
  | bot => exact absurd (le_trans (le_max_right _ _) h) (by simp)
  | top => exact absurd (le_trans (le_max_left _ _) h) (by simp)
  | coe r => exact ⟨r, rfl⟩

/-- A normed row of real numbers is one. -/
theorem isReal_rmsRow (x : Fin 1024 → EReal) (hx : ∀ k, IsReal (x k)) (k : Fin 1024) : IsReal (rmsRow x k) := by
  obtain ⟨S, hS, e⟩ := sum_sq Finset.univ x hx
  obtain ⟨q, hq, eq⟩ := eps_pos
  unfold rmsRow
  refine (hx k).mul ?_
  have eq' : Ideal.ofBits .f32 0x358637BD#32 = (q : EReal) := eq
  rw [e, ofBits_1024, eq']
  have h0 : ((1024 : ℝ) : EReal) ≠ 0 := by exact_mod_cast (by norm_num : (1024 : ℝ) ≠ 0)
  have hpos : 0 < S * (1024 : ℝ)⁻¹ + q := by positivity
  have e2 : Ideal.div (S : EReal) ((1024 : ℝ) : EReal) + (q : EReal) = ((S * (1024 : ℝ)⁻¹ + q : ℝ) : EReal) := by
    unfold Ideal.div
    rw [if_neg h0, ← EReal.coe_inv, ← EReal.coe_mul, ← EReal.coe_add]
  rw [e2]
  refine ⟨(Real.sqrt (S * (1024 : ℝ)⁻¹ + q))⁻¹, ?_⟩
  show (if _ then _ else _) = _
  rw [if_neg (not_lt.mpr hpos.le), if_neg hpos.ne']

/-- A modulated row of real numbers is one. -/
theorem isReal_modRow (x n shift scale : Fin 1024 → EReal) (hx : ∀ k, IsReal (x k)) (hn : ∀ k, IsReal (n k))
    (hs : ∀ k, IsReal (shift k)) (hc : ∀ k, IsReal (scale k)) (k : Fin 1024) : IsReal (modRow x n shift scale k) :=
  (((isReal_rmsRow x hx k).mul (hn k)).mul (isReal_one.add (hc k))).add (hs k)

/-- A projected row of real numbers is one. -/
theorem isReal_projRow (u : Fin 1024 → EReal) (w : Fin 1024 → Fin 3328 → EReal) (hu : ∀ k, IsReal (u k))
    (hw : ∀ k j, IsReal (w k j)) (j : Fin 3328) : IsReal (projRow u w j) :=
  isReal_sum _ _ fun k => (hu k).mul (hw k j)

/-! ## Both heads at once -/

/-- Entry `l` of the two heads lies in head `l / 64`. -/
def lane (h : Fin 2) (d : Fin 64) : Fin 128 := ⟨64 * h.val + d.val, by omega⟩

/-- A sum over the entries of both heads in which the other head is masked is the sum over one head. -/
theorem sum_mask (f : Fin 128 → EReal) (h : Fin 2) :
    (∑ m, f m * (if m.val / 64 = h.val then 1 else 0)) = ∑ j, f (lane h j) := by
  rw [← (finProdFinEquiv (m := 2) (n := 64)).sum_comp, Fintype.sum_prod_type]
  have e : ∀ (a : Fin 2) (b : Fin 64), (lane a b).val / 64 = a.val := by
    intro a b
    show (64 * a.val + b.val) / 64 = a.val
    omega
  have e2 : ∀ (a : Fin 2) (b : Fin 64), (finProdFinEquiv (a, b) : Fin 128) = lane a b := by
    intro a b
    refine Fin.ext ?_
    show b.val + 64 * a.val = 64 * a.val + b.val
    omega
  simp only [e2, e]
  rw [Fin.sum_univ_two]
  match h with
  | ⟨0, _⟩ => simp
  | ⟨1, _⟩ => simp

/-- The normed entry as the kernel computes it: the squares of both heads, each split into itself and its remainder
    after rounding (which keeps it, at exact arithmetic), summed under the mask of the entry's head. -/
def maskedRow (y n : Fin 128 → EReal) (mask : Fin 128 → Fin 128 → EReal) (l : Fin 128) : EReal :=
  y l * Ideal.rsqrt (((∑ m, (y m * y m) * mask m l) + ∑ m, (y m * y m - y m * y m) * mask m l)
    * Ideal.ofBits .f32 0x3C800000#32 + eps) * n l

/-- Of real entries, the masked form is the norm of the entry's head. -/
theorem maskedRow_eq (y n : Fin 128 → EReal) (mask : Fin 128 → Fin 128 → EReal) (hy : ∀ m, IsReal (y m))
    (hmask : ∀ m l : Fin 128, mask m l = if m.val / 64 = l.val / 64 then 1 else 0) (h : Fin 2) (d : Fin 64) :
    maskedRow y n mask (lane h d) = headRow (fun d => y (lane h d)) (fun d => n (lane h d)) d := by
  have hl : (lane h d).val / 64 = h.val := by show (64 * h.val + d.val) / 64 = h.val; omega
  have h0 : ∀ m, y m * y m - y m * y m = 0 := fun m => by
    obtain ⟨r, hr⟩ := (hy m).mul (hy m)
    rw [hr, ← EReal.coe_sub, sub_self, EReal.coe_zero]
  have h64 : ((64 : ℝ) : EReal) ≠ 0 := by exact_mod_cast (by norm_num : (64 : ℝ) ≠ 0)
  have hi : ((64 : ℝ) : EReal)⁻¹ = ((1 / 64 : ℝ) : EReal) := by rw [← EReal.coe_inv]; norm_num
  unfold maskedRow headRow
  simp only [hmask, hl, h0, zero_mul, Finset.sum_const_zero, add_zero]
  rw [sum_mask (fun m => y m * y m) h, ofBits_64_inv, ofBits_64]
  unfold Ideal.div
  rw [if_neg h64, hi]

/-- The rotated entry as the kernel computes it: the entry, the one eight places on and the one eight places back, each
    times a mask of its own. -/
def maskedRope (p : EReal) (f m1 m2 x : Fin 128 → EReal) (l : Fin 128) : EReal :=
  x l * Ideal.cos (p * f l) + x ⟨(l.val + 8) % 128, Nat.mod_lt _ (by decide)⟩ * (Ideal.sin (p * f l) * m1 l)
    + x ⟨(l.val + 120) % 128, Nat.mod_lt _ (by decide)⟩ * (Ideal.sin (p * f l) * m2 l)

/-- The masked form is the rotation of the entry's head. -/
theorem maskedRope_eq (p : EReal) (g : Fin 8 → EReal) (f m1 m2 x : Fin 128 → EReal)
    (hf : ∀ l : Fin 128, f l = if l.val % 64 < 16 then g ⟨l.val % 8, Nat.mod_lt _ (by decide)⟩ else 0)
    (hm1 : ∀ l : Fin 128, m1 l = if l.val % 64 < 8 then -1 else 0)
    (hm2 : ∀ l : Fin 128, m2 l = if 8 ≤ l.val % 64 ∧ l.val % 64 < 16 then 1 else 0) (h : Fin 2) (d : Fin 64) :
    maskedRope p f m1 m2 x (lane h d) = ropeRow p g (fun d => x (lane h d)) d := by
  have hl : (lane h d).val % 64 = d.val := by show (64 * h.val + d.val) % 64 = d.val; omega
  have hl8 : (lane h d).val % 8 = d.val % 8 := by show (64 * h.val + d.val) % 8 = d.val % 8; omega
  unfold maskedRope ropeRow
  simp only [hf, hm1, hm2, hl, hl8]
  by_cases h8 : d.val < 8
  · have e : (⟨d.val % 8, Nat.mod_lt _ (by decide)⟩ : Fin 8) = ⟨d.val, h8⟩ := Fin.ext (Nat.mod_eq_of_lt h8)
    have ex : (⟨((lane h d).val + 8) % 128, Nat.mod_lt _ (by decide)⟩ : Fin 128) = lane h ⟨d.val + 8, by omega⟩ :=
      Fin.ext (by show (64 * h.val + d.val + 8) % 128 = 64 * h.val + (d.val + 8); omega)
    rw [dif_pos h8, if_pos (by omega), if_pos h8, if_neg (by omega), e, ex, mul_zero, mul_zero, add_zero, mul_neg, mul_one,
      mul_neg, ← sub_eq_add_neg]
  · by_cases h16 : d.val < 16
    · have e : (⟨d.val % 8, Nat.mod_lt _ (by decide)⟩ : Fin 8) = ⟨d.val - 8, by omega⟩ :=
        Fin.ext (by show d.val % 8 = d.val - 8; omega)
      have ex : (⟨((lane h d).val + 120) % 128, Nat.mod_lt _ (by decide)⟩ : Fin 128) = lane h ⟨d.val - 8, by omega⟩ :=
        Fin.ext (by show (64 * h.val + d.val + 120) % 128 = 64 * h.val + (d.val - 8); omega)
      rw [dif_neg h8, dif_pos h16, if_pos h16, if_neg h8, if_pos ⟨by omega, h16⟩, e, ex, mul_zero, mul_zero, add_zero, mul_one]
    · have hc : Ideal.cos 0 = 1 := by
        show ((Real.cos 0 : ℝ) : EReal) = 1
        rw [Real.cos_zero]; rfl
      rw [dif_neg h8, dif_neg h16, if_neg h16, if_neg h8, if_neg (by omega)]
      simp only [mul_zero, add_zero, hc, mul_one]

end Cert.MixerMath

end
-- ==== Proof.MixerPay.lean ====
/-
  The stored keys and values of one grid point of the mixer, read at a row and a column.
-/
module

public import proofs.«01_k».proof.Proof.Gen.MixerIdeal.Skeleton
public import proofs.«01_k».proof.Proof.MixerMath

@[expose] public section

set_option maxRecDepth 512

noncomputable section

open Idealize.ShloMosaic Idealize.ShloMosaic.TcCoe Idealize.SL.Sem Idealize.ShloMosaic.Pointwise
open Cert.FfnMath Cert.MixerMath

namespace Cert.MixerVal.Kernel

open Cert.MixerIdeal Cert.MixerIdeal.Gen

/-- The modulated rows. -/
theorem pay_u (v0) (v1) (v3) (v7) (r : Fin 512) (k : Fin 1024) :
    k0_pay17 (F := Ideal) v0 v1 v3 v7 (ix2 r k)
      = modRow (fun k => v0 (ix2 r k)) (fun k => v7 (ix2 0 k)) (fun k => v1 (ix3 ⟨r.val / 64, by omega⟩ 0 k))
          (fun k => v3 (ix3 ⟨r.val / 64, by omega⟩ 0 k)) k := by
  pointwise [k0_pay17]
  rfl

/-- The keys' and values' products. -/
theorem pay_kv (v33) (v56) (r : Fin 512) (j : Fin 256) :
    k0_pay25 (F := Ideal) v33 v56 (ix2 r j) = ∑ k, v33 (ix2 r k) * v56 (ix2 k j) := by
  pointwise [k0_pay25]

/-- The stored values. -/
theorem pay_v (v33) (v56) (r : Fin 512) (l : Fin 128) :
    k0_pay27 (F := Ideal) v33 v56 (ix2 r l) = ∑ k, v33 (ix2 r k) * v56 (ix2 k ⟨128 + l.val, by omega⟩) := by
  pointwise [k0_pay27, k0_pay25]

/-- The keys before their norm. -/
theorem pay_k0 (v33) (v56) (r : Fin 512) (l : Fin 128) :
    k0_pay26 (F := Ideal) v33 v56 (ix2 r l) = ∑ k, v33 (ix2 r k) * v56 (ix2 k ⟨l.val, by omega⟩) := by
  pointwise [k0_pay26, k0_pay25]

/-- The angle of row `r` and lane `l`. -/
theorem pay_ang (f) (r : Fin 512) (l : Fin 128) :
    k0_pay28 (F := Ideal) f (ix2 r l) = pos (r.val % 64) * f (ix2 0 l) := by
  have e : ∀ r : Fin 512, IntOp.andi (BitVec.ofNat 32 r.val) 63#32 = BitVec.ofNat 32 (r.val % 64) := by decide +kernel
  pointwise [k0_pay28]
  rw [e r]
  rfl

theorem pay_cos (f) (r : Fin 512) (l : Fin 128) :
    k0_pay29 (F := Ideal) f (ix2 r l) = Ideal.cos (pos (r.val % 64) * f (ix2 0 l)) := by
  rw [← pay_ang]
  pointwise [k0_pay29]

theorem pay_sin (f) (r : Fin 512) (l : Fin 128) :
    k0_pay30 (F := Ideal) f (ix2 r l) = Ideal.sin (pos (r.val % 64) * f (ix2 0 l)) := by
  rw [← pay_ang]
  pointwise [k0_pay30]

theorem pay_sinA (f) (a) (r : Fin 512) (l : Fin 128) :
    k0_pay31 (F := Ideal) (k0_pay30 f) a (ix2 r l) = Ideal.sin (pos (r.val % 64) * f (ix2 0 l)) * a (ix2 0 l) := by
  rw [← pay_sin]
  pointwise [k0_pay31]

theorem pay_sinB (f) (b) (r : Fin 512) (l : Fin 128) :
    k0_pay32 (F := Ideal) (k0_pay30 f) b (ix2 r l) = Ideal.sin (pos (r.val % 64) * f (ix2 0 l)) * b (ix2 0 l) := by
  rw [← pay_sin]
  pointwise [k0_pay32]

theorem pay_scale (n) (l : Fin 128) : k0_pay34 (F := Ideal) n (ix2 0 l) = n (ix2 0 l) := by
  pointwise [k0_pay34]

/-- The masked sum of the squares, in two parts. -/
theorem pay_sumsq (y) (ones) (r : Fin 512) (l : Fin 128) :
    k0_pay35 (F := Ideal) y ones (ix2 r l)
      = (∑ m, (y (ix2 r m) * y (ix2 r m)) * ones (ix2 m l))
        + ∑ m, (y (ix2 r m) * y (ix2 r m) - y (ix2 r m) * y (ix2 r m)) * ones (ix2 m l) := by
  pointwise [k0_pay35]

/-- The normed keys before their rotation, as the program writes them. -/
def normed (y : FVec Ideal S512x128 .f32) (n : FVec Ideal S1x128 .f32) (q c : FVec Ideal S512x128 .f32) : FVec Ideal S512x128 .f32 :=
  fun i => y i * Ideal.rsqrt (q i * c i + eps) * n (ix2 0 (i 1))

theorem normed_eq (y : FVec Ideal S512x128 .f32) (n : FVec Ideal S1x128 .f32) (q c : FVec Ideal S512x128 .f32) :
    mulf (mulf y (rsqrt (addf (mulf q c) (broadcast S512x128 (Scalar.ofBits .f32 0x358637BD#32)))))
      (broadcastTo S512x128 n broadcasts_S1x128_S512x128) = normed y n q c := by
  funext i
  rw [eq_ix2 i]
  pointwise []
  rfl

/-- A row turned back by 120 lanes. -/
theorem rot120 (z : S512x128.Idx → EReal) (r : Fin 512) (l : Fin 128) :
    dynamicRotate 1 120#32 none z rotates_S512x128_d1 (ix2 r l) = z (ix2 r ⟨(l.val + 8) % 128, by omega⟩) := by
  have e : ∀ l : Fin 128, (l.val + 128 - 120 % 128) % 128 = (l.val + 8) % 128 := by decide +kernel
  rw [Pointwise.dynamicRotate_apply]
  congr 1
  funext a
  match a with
  | 0 => rfl
  | 1 => exact Fin.ext (e l)

/-- A row turned back by 8 lanes. -/
theorem rot8 (z : S512x128.Idx → EReal) (r : Fin 512) (l : Fin 128) :
    dynamicRotate 1 8#32 none z rotates_S512x128_d1 (ix2 r l) = z (ix2 r ⟨(l.val + 120) % 128, by omega⟩) := by
  have e : ∀ l : Fin 128, (l.val + 128 - 8 % 128) % 128 = (l.val + 120) % 128 := by decide +kernel
  rw [Pointwise.dynamicRotate_apply]
  congr 1
  funext a
  match a with
  | 0 => rfl
  | 1 => exact Fin.ext (e l)

theorem pay_rot (y) (x) (a) (b) (n) (q) (c) (r : Fin 512) (l : Fin 128) :
    k0_pay38 (F := Ideal) y x a b n q c (ix2 r l)
      = normed y n q c (ix2 r l) * x (ix2 r l)
        + normed y n q c (ix2 r ⟨(l.val + 8) % 128, by omega⟩) * a (ix2 r l)
        + normed y n q c (ix2 r ⟨(l.val + 120) % 128, by omega⟩) * b (ix2 r l) := by
  unfold k0_pay38
  dsimp only
  rw [normed_eq, addf_apply, addf_apply, mulf_apply, mulf_apply, mulf_apply, rot120, rot8]
  rfl

/-- The stored keys. -/
theorem pay_k (y) (f) (a) (b) (n) (ones) (r : Fin 512) (l : Fin 128) :
    k0_pay38 (F := Ideal) y (k0_pay29 f) (k0_pay31 (k0_pay30 f) a) (k0_pay32 (k0_pay30 f) b) (k0_pay34 n) (k0_pay35 y ones) k0_pay36 (ix2 r l)
      = maskedRope (pos (r.val % 64)) (fun l => f (ix2 0 l)) (fun l => a (ix2 0 l)) (fun l => b (ix2 0 l))
          (maskedRow (fun m => y (ix2 r m)) (fun l => n (ix2 0 l)) (fun m l => ones (ix2 m l))) l := by
  have e (l : Fin 128) : normed y (k0_pay34 n) (k0_pay35 y ones) k0_pay36 (ix2 r l)
      = maskedRow (fun m => y (ix2 r m)) (fun l => n (ix2 0 l)) (fun m l => ones (ix2 m l)) l := by
    unfold normed
    rw [pay_sumsq, show k0_pay36 (F := Ideal) (ix2 r l) = Ideal.ofBits .f32 0x3C800000#32 from rfl,
      show (ix2 r l : S512x128.Idx) 1 = l from rfl, pay_scale]
    rfl
  rw [pay_rot, e, e, e, pay_cos, pay_sinA, pay_sinB]
  rfl

end Cert.MixerVal.Kernel

end
-- ==== Proof.MixerHost.lean ====
/-
  The arrays the mixer's call is entered with, read at an index: the weights, and the tables of its rotation and of its norm.
-/
module

public import proofs.«01_k».proof.Proof.Gen.MixerIdeal.Launch
public import proofs.«01_k».proof.Proof.MixerMath
public import Idealize.ShloMosaic.Lib.StableHlo.ReadAt
public import Idealize.ShloMosaic.Lib.Pointwise.IndexBridge
public import Idealize.ShloMosaic.Lib.Routing.OpsSet

@[expose] public section

set_option maxRecDepth 16384

noncomputable section

open Idealize.ShloMosaic Idealize.ShloMosaic.TcCoe Idealize.SL.Sem Idealize.ShloMosaic.Pointwise
open Cert.FfnMath Cert.MixerMath

namespace Cert.MixerVal.Host

open Cert.MixerIdeal Cert.MixerIdeal.Gen

variable (m : (ℓ : Loc nD τ sig) → Buf (Elt Ideal) ℓ)

/-- A buffer's contents when the call is entered. -/
abbrev H (c : Dev nD) (b : Ref sig .tc) : Buf (Elt Ideal) ((c : Thread nD τ).loc b) :=
  StableHlo.after (List.flatten [hostOps0, hostOps0_1, hostOps0_2, hostOps0_3, hostOps0_4, hostOps0_5, hostOps0_6, hostOps0_7, hostOps0_8,
    hostOps0_9, hostOps0_10, hostOps0_11, hostOps0_12]) (fun b => m (c, b)) (Proc.devRef .tc b)

/-- The norm's weight. -/
theorem H_n (c : Dev nD) (j : Fin 1024) : (H m c main_v33 : FVec Ideal S1x1024 .f32) (ix2 0 j)
    = (m (c, main_arg6) : FVec Ideal S1x1024 .f32) (ix2 0 j) := by
  show StableHlo.after (List.flatten _) _ _ _ = _
  after_reads_at

/-- The large weight. -/
theorem H_w (c : Dev nD) (k : Fin 1024) (j : Fin 3328) : (H m c main_v35 : FVec Ideal S1024x3328 .bf16) (ix2 k j)
    = (m (c, main_arg7) : FVec Ideal S1x1024x3328 .f32) (ix3 0 k j) := by
  show StableHlo.after (List.flatten _) _ _ _ = _
  after_reads_at

/-- The keys' norm weight, one copy per head. -/
theorem H_kn (c : Dev nD) (l : Fin 128) : (H m c main_v45 : FVec Ideal S1x128 .f32) (ix2 0 l)
    = (m (c, main_arg19) : FVec Ideal S1x64 .f32) (ix2 0 ⟨l.val % 64, by omega⟩) := by
  show StableHlo.after (List.flatten _) _ _ _ = _
  after_reads_at

/-- Lane `l`'s place in its head. -/
theorem H_lane (c : Dev nD) (l : Fin 128) : (H m c main_v7 : IVec S128 32) (ix1 l) = BitVec.ofNat 32 (l.val % 64) := by
  show StableHlo.after (List.flatten _) _ _ _ = _
  after_reads_at
  revert l
  decide +kernel

/-- The ones of the norm: entries `p` and `l` of one head. -/
theorem H_ones (c : Dev nD) (p l : Fin 128) : (H m c main_v54 : FVec Ideal S512x512 .bf16) (ix2 ⟨p.val, by omega⟩ ⟨l.val, by omega⟩)
    = if p.val / 64 = l.val / 64 then (1 : EReal) else (0 : EReal) := by
  have e : ∀ a b : Fin 2, IntOp.cmpi .eq (IntOp.addi (BitVec.ofNat 32 a.val) 0#32) (BitVec.ofNat 32 b.val) = if a.val = b.val then 1#1 else 0#1 := by
    decide +kernel
  show StableHlo.after (List.flatten _) _ _ _ = _
  after_reads_at
  have e' := e ⟨p.val / 64, by omega⟩ ⟨l.val / 64, by omega⟩
  dsimp only at e'
  rw [e']
  split
  · show ((((1#1 : BitVec 1).toNat : ℕ) : ℝ) : EReal) = 1
    norm_num
  · show ((((0#1 : BitVec 1).toNat : ℕ) : ℝ) : EReal) = 0
    norm_num

/-- A choice between two numbers by a bit that says whether `p`. -/
theorem sel_if {b : BitVec 1} {p : Prop} [Decidable p] {x y u v : EReal} (hb : b = if p then 1#1 else 0#1) (hx : x = u) (hy : y = v) :
    Scalar.select b x y = if p then u else v := by
  subst hb hx hy
  split <;> rfl

/-- The rotation's first mask. -/
theorem H_m1 (c : Dev nD) (l : Fin 128) : (H m c main_v71 : FVec Ideal S1x128 .f32) (ix2 0 l)
    = if l.val % 64 < 8 then (-1 : EReal) else (0 : EReal) := by
  show StableHlo.after (List.flatten _) _ _ _ = _
  after_reads_at
  simp only [id_eq]
  pointwise []
  refine sel_if ?_ ofBits_neg_one rfl
  revert l
  decide +kernel

/-- The frequencies. -/
theorem H_freq (c : Dev nD) (i : Fin 8) : (H m c main_v13 : FVec Ideal S8 .f32) (ix1 i) = freq i := by
  show StableHlo.after (List.flatten _) _ _ _ = _
  after_reads_at
  rfl

/-- The rotation's frequencies by lane. -/
theorem H_f (c : Dev nD) (l : Fin 128) : (H m c main_v66 : FVec Ideal S1x128 .f32) (ix2 0 l)
    = if l.val % 64 < 16 then freq ⟨l.val % 8, by omega⟩ else (0 : EReal) := by
  show StableHlo.after (List.flatten _) _ _ _ = _
  after_reads_at
  simp only [id_eq]
  pointwise []
  refine sel_if ?_ ?_ rfl
  · revert l
    decide +kernel
  · rw [ix1_eq_valueIdx]
    refine Eq.trans (Routing.gather_take1 (N := 8) (n := 128) _ rfl rfl rfl rfl _ _ l ⟨l.val % 8, by omega⟩ ?_ (by decide)) rfl
    rw [← ix2_eq_valueIdx]
    revert l
    decide +kernel

/-- The rotation's second mask. -/
theorem H_m2 (c : Dev nD) (l : Fin 128) : (H m c main_v79 : FVec Ideal S1x128 .f32) (ix2 0 l)
    = if 8 ≤ l.val % 64 ∧ l.val % 64 < 16 then (1 : EReal) else (0 : EReal) := by
  show StableHlo.after (List.flatten _) _ _ _ = _
  after_reads_at
  simp only [id_eq]
  pointwise []
  refine sel_if ?_ rfl rfl
  revert l
  decide +kernel

end Cert.MixerVal.Host

end
-- ==== Proof.MixerBlk.lean ====
/-
  The mixer's blocks and results: what its one grid point is given, which entries of its outputs that point writes, and what the
  lines after it make of them.
-/
module

public import proofs.«01_k».proof.Proof.Gen.MixerIdeal.Frame.Runs
public import proofs.«01_k».proof.Proof.MixerHost

@[expose] public section

set_option maxRecDepth 16384

noncomputable section

open Idealize.ShloMosaic Idealize.ShloMosaic.TcCoe Idealize.SL.Sem Idealize.ShloMosaic.Pointwise
open Cert.FfnMath Cert.MixerMath

namespace Cert.MixerVal.Blk

open Cert.MixerIdeal Cert.MixerIdeal.Gen

variable (m : (ℓ : Loc nD τ sig) → Buf (Elt Ideal) ℓ)

/-- An index of a matrix whose coordinates are offset by nothing. -/
theorem at2 {n k : ℕ} (i : (⟨2, ![n, k]⟩ : Shape).Idx) (r : Fin n) (l : Fin k) (o0 o1 : ℕ) (h0 : (i 0).val = o0 + 1 * r.val) (e0 : o0 = 0)
    (h1 : (i 1).val = o1 + 1 * l.val) (e1 : o1 = 0) : i = ix2 r l := by
  funext a
  match a with
  | ⟨0, _⟩ => exact Fin.ext (by rw [show (i ⟨0, _⟩).val = o0 + 1 * r.val from h0, e0, Nat.one_mul, Nat.zero_add]; rfl)
  | ⟨1, _⟩ => exact Fin.ext (by rw [show (i ⟨1, _⟩).val = o1 + 1 * l.val from h1, e1, Nat.one_mul, Nat.zero_add]; rfl)

/-- An index of an array of rank three whose coordinates are offset by nothing. -/
theorem at3 {n k q : ℕ} (i : (⟨3, ![n, k, q]⟩ : Shape).Idx) (r : Fin n) (l : Fin k) (u : Fin q) (o0 o1 o2 : ℕ) (h0 : (i 0).val = o0 + 1 * r.val) (e0 : o0 = 0)
    (h1 : (i 1).val = o1 + 1 * l.val) (e1 : o1 = 0) (h2 : (i 2).val = o2 + 1 * u.val) (e2 : o2 = 0) : i = ix3 r l u := by
  funext a
  match a with
  | ⟨0, _⟩ => exact Fin.ext (by rw [show (i ⟨0, _⟩).val = o0 + 1 * r.val from h0, e0, Nat.one_mul, Nat.zero_add]; rfl)
  | ⟨1, _⟩ => exact Fin.ext (by rw [show (i ⟨1, _⟩).val = o1 + 1 * l.val from h1, e1, Nat.one_mul, Nat.zero_add]; rfl)
  | ⟨2, _⟩ => exact Fin.ext (by rw [show (i ⟨2, _⟩).val = o2 + 1 * u.val from h2, e2, Nat.one_mul, Nat.zero_add]; rfl)

/-- The activations. -/
theorem blk_h (c : Dev nD) (t : Fin cfg0.N) (r : Fin 512) (k : Fin 1024) : (iblk m c 0 t : FVec Ideal S512x1024 .f32) (ix2 r k)
    = (m (c, main_arg0) : FVec Ideal S512x1024 .f32) (ix2 r k) :=
  Eq.trans (congrArg (V m c main_arg0 : FVec Ideal S512x1024 .f32) (at2 _ r k (win0_0.index t 0 * win0_0.size 0) (win0_0.index t 1 * win0_0.size 1)
    rfl (by revert t; decide +kernel) rfl (by revert t; decide +kernel))) (congrFun (V_main_arg0 m c) _)

/-- The modulation. -/
theorem blk_mod (c : Dev nD) (t : Fin cfg0.N) (b : Fin 8) (p : Fin 9) (k : Fin 1024) : (iblk m c 1 t : FVec Ideal S8x9x1024 .f32) (ix3 b p k)
    = (m (c, main_arg1) : FVec Ideal S8x9x1024 .f32) (ix3 b p k) :=
  Eq.trans (congrArg (V m c main_arg1 : FVec Ideal S8x9x1024 .f32) (at3 _ b p k (win0_1.index t 0 * win0_1.size 0) (win0_1.index t 1 * win0_1.size 1)
    (win0_1.index t 2 * win0_1.size 2) rfl (by revert t; decide +kernel) rfl (by revert t; decide +kernel) rfl (by revert t; decide +kernel)))
    (congrFun (V_main_arg1 m c) _)

/-- The norm's weight. -/
theorem blk_n (c : Dev nD) (t : Fin cfg0.N) (k : Fin 1024) : (iblk m c 2 t : FVec Ideal S1x1024 .f32) (ix2 0 k)
    = (m (c, main_arg6) : FVec Ideal S1x1024 .f32) (ix2 0 k) :=
  Eq.trans (congrArg (V m c main_v33 : FVec Ideal S1x1024 .f32) (at2 _ 0 k (win0_2.index t 0 * win0_2.size 0) (win0_2.index t 1 * win0_2.size 1)
    rfl (by revert t; decide +kernel) rfl (by revert t; decide +kernel))) (Host.H_n m c k)

/-- The large weight. -/
theorem blk_w (c : Dev nD) (t : Fin cfg0.N) (k : Fin 1024) (j : Fin 3328) : (iblk m c 3 t : FVec Ideal S1024x3328 .bf16) (ix2 k j)
    = (m (c, main_arg7) : FVec Ideal S1x1024x3328 .f32) (ix3 0 k j) :=
  Eq.trans (congrArg (V m c main_v35 : FVec Ideal S1024x3328 .bf16) (at2 _ k j (win0_3.index t 0 * win0_3.size 0) (win0_3.index t 1 * win0_3.size 1)
    rfl (by revert t; decide +kernel) rfl (by revert t; decide +kernel))) (Host.H_w m c k j)

/-- The weight of the keys' norm. -/
theorem blk_kn (c : Dev nD) (t : Fin cfg0.N) (l : Fin 128) : (iblk m c 5 t : FVec Ideal S1x128 .f32) (ix2 0 l)
    = (m (c, main_arg19) : FVec Ideal S1x64 .f32) (ix2 0 ⟨l.val % 64, by omega⟩) :=
  Eq.trans (congrArg (V m c main_v45 : FVec Ideal S1x128 .f32) (at2 _ 0 l (win0_5.index t 0 * win0_5.size 0) (win0_5.index t 1 * win0_5.size 1)
    rfl (by revert t; decide +kernel) rfl (by revert t; decide +kernel))) (Host.H_kn m c l)

/-- The ones of the norm. -/
theorem blk_ones (c : Dev nD) (t : Fin cfg0.N) (p l : Fin 128) : (iblk m c 6 t : FVec Ideal S512x512 .bf16) (ix2 ⟨p.val, by omega⟩ ⟨l.val, by omega⟩)
    = if p.val / 64 = l.val / 64 then (1 : EReal) else (0 : EReal) :=
  Eq.trans (congrArg (V m c main_v54 : FVec Ideal S512x512 .bf16) (at2 _ ⟨p.val, by omega⟩ ⟨l.val, by omega⟩ (win0_6.index t 0 * win0_6.size 0)
    (win0_6.index t 1 * win0_6.size 1) rfl (by revert t; decide +kernel) rfl (by revert t; decide +kernel))) (Host.H_ones m c p l)

/-- The frequencies by lane. -/
theorem blk_f (c : Dev nD) (t : Fin cfg0.N) (l : Fin 128) : (iblk m c 7 t : FVec Ideal S1x128 .f32) (ix2 0 l)
    = if l.val % 64 < 16 then freq ⟨l.val % 8, by omega⟩ else (0 : EReal) :=
  Eq.trans (congrArg (V m c main_v66 : FVec Ideal S1x128 .f32) (at2 _ 0 l (win0_7.index t 0 * win0_7.size 0) (win0_7.index t 1 * win0_7.size 1)
    rfl (by revert t; decide +kernel) rfl (by revert t; decide +kernel))) (Host.H_f m c l)

/-- The rotation's first mask. -/
theorem blk_m1 (c : Dev nD) (t : Fin cfg0.N) (l : Fin 128) : (iblk m c 8 t : FVec Ideal S1x128 .f32) (ix2 0 l)
    = if l.val % 64 < 8 then (-1 : EReal) else (0 : EReal) :=
  Eq.trans (congrArg (V m c main_v71 : FVec Ideal S1x128 .f32) (at2 _ 0 l (win0_8.index t 0 * win0_8.size 0) (win0_8.index t 1 * win0_8.size 1)
    rfl (by revert t; decide +kernel) rfl (by revert t; decide +kernel))) (Host.H_m1 m c l)

/-- The rotation's second mask. -/
theorem blk_m2 (c : Dev nD) (t : Fin cfg0.N) (l : Fin 128) : (iblk m c 9 t : FVec Ideal S1x128 .f32) (ix2 0 l)
    = if 8 ≤ l.val % 64 ∧ l.val % 64 < 16 then (1 : EReal) else (0 : EReal) :=
  Eq.trans (congrArg (V m c main_v79 : FVec Ideal S1x128 .f32) (at2 _ 0 l (win0_9.index t 0 * win0_9.size 0) (win0_9.index t 1 * win0_9.size 1)
    rfl (by revert t; decide +kernel) rfl (by revert t; decide +kernel))) (Host.H_m2 m c l)

/-! ## What the point writes -/

/-- The keys' window is the whole array. -/
theorem emb_k (t : Fin cfg0.N) (r : Fin 512) (l : Fin 128) : (win0_25.blk t).view.emb (ix2 r l : S512x128.Idx) = (ix2 r l : S512x128.Idx) :=
  at2 _ r l (win0_25.index t 0 * win0_25.size 0) (win0_25.index t 1 * win0_25.size 1) rfl (by revert t; decide +kernel) rfl (by revert t; decide +kernel)

/-- The values' window is the whole array. -/
theorem emb_v (t : Fin cfg0.N) (r : Fin 512) (l : Fin 128) : (win0_26.blk t).view.emb (ix2 r l : S512x128.Idx) = (ix2 r l : S512x128.Idx) :=
  at2 _ r l (win0_26.index t 0 * win0_26.size 0) (win0_26.index t 1 * win0_26.size 1) rfl (by revert t; decide +kernel) rfl (by revert t; decide +kernel)

/-- Every entry of the keys' array is written. -/
theorem cover_k (i : S512x128.Idx) : ∃ t : Fin cfg0.N, (cfg0.win 25).flush t = true ∧ i ∈ ((cfg0.win 25).blk t).view.set := by
  have h0 : (i 0 : Nat) < 512 := (i 0).isLt
  have h1 : (i 1 : Nat) < 128 := (i 1).isLt
  have hN : cfg0.N = 1 := N_0
  have e : ∀ t : Fin cfg0.N, win0_25.index t 0 * win0_25.size 0 = 0 ∧ win0_25.xsize (grid0.coords t) 0 = 512
      ∧ win0_25.index t 1 * win0_25.size 1 = 0 ∧ win0_25.xsize (grid0.coords t) 1 = 128 ∧ (cfg0.win 25).flush t = true := by decide +kernel
  obtain ⟨t⟩ : Nonempty (Fin cfg0.N) := ⟨⟨0, by omega⟩⟩
  obtain ⟨e0, s0, e1, s1, hf⟩ := e t
  refine ⟨t, hf, ?_⟩
  show i ∈ ((View.whole main_v150_1).slice (win0_25.rect t)).set
  rw [View.set_slice_whole, Rect.mem_set_unit]
  intro a
  match a with
  | ⟨0, _⟩ =>
    show win0_25.index t 0 * win0_25.size 0 ≤ (i 0 : Nat) ∧ (i 0 : Nat) < win0_25.index t 0 * win0_25.size 0 + win0_25.xsize (grid0.coords t) 0
    rw [e0, s0]; omega
  | ⟨1, _⟩ =>
    show win0_25.index t 1 * win0_25.size 1 ≤ (i 1 : Nat) ∧ (i 1 : Nat) < win0_25.index t 1 * win0_25.size 1 + win0_25.xsize (grid0.coords t) 1
    rw [e1, s1]; omega

/-- Every entry of the values' array is written. -/
theorem cover_v (i : S512x128.Idx) : ∃ t : Fin cfg0.N, (cfg0.win 26).flush t = true ∧ i ∈ ((cfg0.win 26).blk t).view.set := by
  have h0 : (i 0 : Nat) < 512 := (i 0).isLt
  have h1 : (i 1 : Nat) < 128 := (i 1).isLt
  have hN : cfg0.N = 1 := N_0
  have e : ∀ t : Fin cfg0.N, win0_26.index t 0 * win0_26.size 0 = 0 ∧ win0_26.xsize (grid0.coords t) 0 = 512
      ∧ win0_26.index t 1 * win0_26.size 1 = 0 ∧ win0_26.xsize (grid0.coords t) 1 = 128 ∧ (cfg0.win 26).flush t = true := by decide +kernel
  obtain ⟨t⟩ : Nonempty (Fin cfg0.N) := ⟨⟨0, by omega⟩⟩
  obtain ⟨e0, s0, e1, s1, hf⟩ := e t
  refine ⟨t, hf, ?_⟩
  show i ∈ ((View.whole main_v150_2).slice (win0_26.rect t)).set
  rw [View.set_slice_whole, Rect.mem_set_unit]
  intro a
  match a with
  | ⟨0, _⟩ =>
    show win0_26.index t 0 * win0_26.size 0 ≤ (i 0 : Nat) ∧ (i 0 : Nat) < win0_26.index t 0 * win0_26.size 0 + win0_26.xsize (grid0.coords t) 0
    rw [e0, s0]; omega
  | ⟨1, _⟩ =>
    show win0_26.index t 1 * win0_26.size 1 ≤ (i 1 : Nat) ∧ (i 1 : Nat) < win0_26.index t 1 * win0_26.size 1 + win0_26.xsize (grid0.coords t) 1
    rw [e1, s1]; omega

/-! ## The lines after the call -/

/-- The keys a sequence is left with: the later half of its cache, then the new keys. -/
theorem tail_k (W : Valuation τ sig (Elt Ideal)) (b : Fin 8) (p : Fin 128) (h : Fin 2) (d : Fin 64) :
    (StableHlo.after (List.flatten [hostOps1]) W (Proc.devRef .tc main_v155) : FVec Ideal S1x8x128x2x64 .f32) (ix5 0 b p h d)
      = if hp : 64 + p.val < 128 then (W (Proc.devRef .tc main_arg2) : FVec Ideal S1x8x128x2x64 .f32) (ix5 0 b ⟨64 + p.val, hp⟩ h d)
        else (W (Proc.devRef .tc main_v150_1) : FVec Ideal S512x128 .f32) (ix2 ⟨b.val * 64 + (64 + p.val - 128), by omega⟩ ⟨64 * h.val + d.val, by omega⟩) := by
  by_cases hp : p.val < 64
  · rw [dif_pos (show 64 + p.val < 128 by omega)]
    after_reads_at
    rw [dif_pos hp]
    after_reads_at
  · rw [dif_neg (show ¬ 64 + p.val < 128 by omega)]
    after_reads_at
    rw [dif_neg hp]
    after_reads_at
    exact congrArg (W (Proc.devRef .tc main_v150_1) : FVec Ideal S512x128 .f32) (congrArg₂ ix2
      (Fin.ext (by show b.val * 64 + (p.val - 64) = b.val * 64 + (64 + p.val - 128); omega))
      (Fin.ext (by show h.val * 64 + d.val = 64 * h.val + d.val; omega)))

/-- The values a sequence is left with. -/
theorem tail_v (W : Valuation τ sig (Elt Ideal)) (b : Fin 8) (p : Fin 128) (h : Fin 2) (d : Fin 64) :
    (StableHlo.after (List.flatten [hostOps1]) W (Proc.devRef .tc main_v160) : FVec Ideal S1x8x128x2x64 .f32) (ix5 0 b p h d)
      = if hp : 64 + p.val < 128 then (W (Proc.devRef .tc main_arg3) : FVec Ideal S1x8x128x2x64 .f32) (ix5 0 b ⟨64 + p.val, hp⟩ h d)
        else (W (Proc.devRef .tc main_v150_2) : FVec Ideal S512x128 .f32) (ix2 ⟨b.val * 64 + (64 + p.val - 128), by omega⟩ ⟨64 * h.val + d.val, by omega⟩) := by
  by_cases hp : p.val < 64
  · rw [dif_pos (show 64 + p.val < 128 by omega)]
    after_reads_at
    rw [dif_pos hp]
    after_reads_at
  · rw [dif_neg (show ¬ 64 + p.val < 128 by omega)]
    after_reads_at
    rw [dif_neg hp]
    after_reads_at
    exact congrArg (W (Proc.devRef .tc main_v150_2) : FVec Ideal S512x128 .f32) (congrArg₂ ix2
      (Fin.ext (by show b.val * 64 + (p.val - 64) = b.val * 64 + (64 + p.val - 128); omega))
      (Fin.ext (by show h.val * 64 + d.val = 64 * h.val + d.val; omega)))

end Cert.MixerVal.Blk

end
-- ==== Proof.MixerOut.lean ====
/-
  What the mixer's one grid point stores in the keys' and the values' blocks.
-/
module

public import proofs.«01_k».proof.Proof.Gen.MixerIdeal.Frame
public import proofs.«01_k».proof.Proof.MixerPay
public import proofs.«01_k».proof.Proof.MixerBlk

@[expose] public section

set_option maxRecDepth 16384

noncomputable section

open Idealize.ShloMosaic Idealize.ShloMosaic.TcCoe Idealize.SL.Sem Idealize.ShloMosaic.Pointwise
open Cert.FfnMath Cert.MixerMath

namespace Cert.MixerVal.Kernel

open Cert.MixerIdeal Cert.MixerIdeal.Gen

variable (m : (ℓ : Loc nD τ sig) → Buf (Elt Ideal) ℓ)

/-- Row `r` of the activations, normed and modulated by its sequence's rows 3 (shift) and 4 (scale). -/
def urow (c : Dev nD) (r : Fin 512) : Fin 1024 → EReal :=
  modRow (fun k => (m (c, main_arg0) : FVec Ideal S512x1024 .f32) (ix2 r k)) (fun k => (m (c, main_arg6) : FVec Ideal S1x1024 .f32) (ix2 0 k))
    (fun k => (m (c, main_arg1) : FVec Ideal S8x9x1024 .f32) (ix3 ⟨r.val / 64, by omega⟩ 3 k))
    (fun k => (m (c, main_arg1) : FVec Ideal S8x9x1024 .f32) (ix3 ⟨r.val / 64, by omega⟩ 4 k))

/-- The large weight as a matrix. -/
def wmat (c : Dev nD) (k : Fin 1024) (j : Fin 3328) : EReal := (m (c, main_arg7) : FVec Ideal S1x1024x3328 .f32) (ix3 0 k j)

/-- The inputs the keys are computed from are numbers. -/
def Finite (c : Dev nD) : Prop :=
  (∀ r k, IsReal ((m (c, main_arg0) : FVec Ideal S512x1024 .f32) (ix2 r k)))
  ∧ (∀ b p k, IsReal ((m (c, main_arg1) : FVec Ideal S8x9x1024 .f32) (ix3 b p k)))
  ∧ (∀ k, IsReal ((m (c, main_arg6) : FVec Ideal S1x1024 .f32) (ix2 0 k)))
  ∧ (∀ k j, IsReal (wmat m c k j))

/-- The new keys. -/
def kres (c : Dev nD) : FVec Ideal S512x128 .f32 := fun i =>
  ropeRow (pos ((i 0).val % 64)) freq (headRow (fun d => projRow (urow m c (i 0)) (wmat m c)
      ⟨1024 + (64 * ((i 1).val / 64) + d.val), by have h : (i 1).val < 128 := (i 1).isLt; omega⟩)
    (fun d => (m (c, main_arg19) : FVec Ideal S1x64 .f32) (ix2 0 d))) ⟨(i 1).val % 64, Nat.mod_lt _ (by decide)⟩

/-- The new values. -/
def vres (c : Dev nD) : FVec Ideal S512x128 .f32 := fun i =>
  projRow (urow m c (i 0)) (wmat m c) ⟨1152 + (i 1).val, by have h : (i 1).val < 128 := (i 1).isLt; omega⟩

/-- The modulated rows at the point. -/
theorem u_apply (c : Dev nD) (t : Fin cfg0.N) (a0 : (ms0_0 t).IsWhole) (a1 a1' : (ms0_1 t).IsWhole) (a2 : (ms0_2 t).IsWhole) (r : Fin 512) (k : Fin 1024) :
    k0_pay17 (F := Ideal)
        (View.readAt (Elt Ideal) (ms0_0 t).view (Rect.unit ![0, 0] S512x1024.size inb_S512x1024_S512x1024_0_0).toLoadRect (a0.unread (iblk m c 0 t)))
        (View.readAt (Elt Ideal) (ms0_1 t).view (Rect.unit (s := S8x9x1024) ![0, 3, 0] S8x1x1024.size inb_S8x9x1024_S8x1x1024_0_3_0).toLoadRect (a1.unread (iblk m c 1 t)))
        (View.readAt (Elt Ideal) (ms0_1 t).view (Rect.unit (s := S8x9x1024) ![0, 4, 0] S8x1x1024.size inb_S8x9x1024_S8x1x1024_0_4_0).toLoadRect (a1'.unread (iblk m c 1 t)))
        (View.readAt (Elt Ideal) (ms0_2 t).view (Rect.unit ![0, 0] S1x1024.size inb_S1x1024_S1x1024_0_0).toLoadRect (a2.unread (iblk m c 2 t)))
        (ix2 r k) = urow m c r k := by
  rw [pay_u]
  simp only [load2, load3, Nat.zero_add, Fin.eta]
  unfold urow
  congr 1
  · funext k
    exact Blk.blk_h m c t r k
  · funext k
    exact Blk.blk_n m c t k
  · funext k
    exact Blk.blk_mod m c t _ 3 k
  · funext k
    exact Blk.blk_mod m c t _ 4 k

/-- The columns of the weight the keys and values take, at the point. -/
theorem w_apply (c : Dev nD) (t : Fin cfg0.N) (a3 : (ms0_3 t).IsWhole) (k : Fin 1024) (j : Fin 256) :
    View.readAt (Elt Ideal) (ms0_3 t).view (Rect.unit (s := S1024x3328) ![0, 1024] S1024x256.size inb_S1024x3328_S1024x256_0_1024).toLoadRect (a3.unread (iblk m c 3 t))
      (ix2 k j) = wmat m c k ⟨1024 + j.val, by omega⟩ := by
  rw [load2]
  simp only [Nat.zero_add, Fin.eta]
  exact Blk.blk_w m c t k ⟨1024 + j.val, by omega⟩

/-- The keys before their norm, at the point. -/
theorem k_apply (c : Dev nD) (t : Fin cfg0.N) (a0 : (ms0_0 t).IsWhole) (a1 a1' : (ms0_1 t).IsWhole) (a2 : (ms0_2 t).IsWhole) (a3 : (ms0_3 t).IsWhole)
    (r : Fin 512) (q : Fin 128) :
    k0_pay26 (F := Ideal) (k0_pay17 (F := Ideal)
        (View.readAt (Elt Ideal) (ms0_0 t).view (Rect.unit ![0, 0] S512x1024.size inb_S512x1024_S512x1024_0_0).toLoadRect (a0.unread (iblk m c 0 t)))
        (View.readAt (Elt Ideal) (ms0_1 t).view (Rect.unit (s := S8x9x1024) ![0, 3, 0] S8x1x1024.size inb_S8x9x1024_S8x1x1024_0_3_0).toLoadRect (a1.unread (iblk m c 1 t)))
        (View.readAt (Elt Ideal) (ms0_1 t).view (Rect.unit (s := S8x9x1024) ![0, 4, 0] S8x1x1024.size inb_S8x9x1024_S8x1x1024_0_4_0).toLoadRect (a1'.unread (iblk m c 1 t)))
        (View.readAt (Elt Ideal) (ms0_2 t).view (Rect.unit ![0, 0] S1x1024.size inb_S1x1024_S1x1024_0_0).toLoadRect (a2.unread (iblk m c 2 t))))
        (View.readAt (Elt Ideal) (ms0_3 t).view (Rect.unit (s := S1024x3328) ![0, 1024] S1024x256.size inb_S1024x3328_S1024x256_0_1024).toLoadRect (a3.unread (iblk m c 3 t)))
        (ix2 r q) = projRow (urow m c r) (wmat m c) ⟨1024 + q.val, by omega⟩ :=
  (pay_k0 _ _ r q).trans (Finset.sum_congr rfl fun k _ => congrArg₂ (· * ·) (u_apply m c t _ _ _ _ r k) (w_apply m c t _ k _))

/-- The point stores the new values. -/
theorem out_v (c : Dev nD) (t : Fin cfg0.N) (r : Fin 512) (l : Fin 128) : (outsAt0 m c t).2.2.1 (ix2 r l) = vres m c (ix2 r l) := by
  unfold outsAt0
  dsimp only
  unfold out0_A_26 kernelRun0_A
  dsimp only
  rw [View.read_writes_junk_eq_canon]
  unfold kernelRun0_A.sl.H26_1
  rw [View.canon_cons_unit_lit _ _ _ (by decide)]
  sl_unfold_run_names
  rw [pay_v]
  show _ = ∑ k, urow m c r k * wmat m c k ⟨1152 + l.val, _⟩
  refine Finset.sum_congr rfl fun k _ => congrArg₂ (· * ·) (u_apply m c t _ _ _ _ r k) ?_
  refine (w_apply m c t _ k _).trans (congrArg (wmat m c k) (Fin.ext ?_))
  show 1024 + (128 + l.val) = 1152 + l.val
  omega

/-- The point stores the new keys. -/
theorem out_k (c : Dev nD) (hf : Finite m c) (t : Fin cfg0.N) (r : Fin 512) (l : Fin 128) : (outsAt0 m c t).2.1 (ix2 r l) = kres m c (ix2 r l) := by
  obtain ⟨h0, h1, h6, h7⟩ := hf
  have hu : ∀ k, IsReal (urow m c r k) := isReal_modRow _ _ _ _ (h0 r) h6 (h1 _ _) (h1 _ _)
  unfold outsAt0
  dsimp only
  unfold out0_A_25 kernelRun0_A
  dsimp only
  rw [View.read_writes_junk_eq_canon]
  unfold kernelRun0_A.sl.H25_1
  rw [View.canon_cons_unit_lit _ _ _ (by decide)]
  sl_unfold_run_names
  rw [pay_k]
  obtain ⟨h, d, rfl⟩ : ∃ h d, l = lane h d := ⟨⟨l.val / 64, by omega⟩, ⟨l.val % 64, by omega⟩, Fin.ext (by show l.val = 64 * (l.val / 64) + l.val % 64; omega)⟩
  rw [maskedRope_eq _ freq]
  · simp only [k_apply m c t _ _ _ _ _ r]
    have hl : (lane h d).val / 64 = h.val := by show (64 * h.val + d.val) / 64 = h.val; omega
    have hm : (lane h d).val % 64 = d.val := by show (64 * h.val + d.val) % 64 = d.val; omega
    show _ = ropeRow (pos (r.val % 64)) freq (headRow (fun d' => projRow (urow m c r) (wmat m c) ⟨1024 + (64 * ((lane h d).val / 64) + d'.val), _⟩) _) ⟨(lane h d).val % 64, _⟩
    simp only [hl, hm, Fin.eta]
    congr 1
    funext d
    rw [maskedRow_eq]
    · congr 1
      funext d
      rw [load2]
      simp only [Nat.zero_add]
      refine (Blk.blk_kn m c t (lane h d)).trans ?_
      have hm : (lane h d).val % 64 = d.val := by show (64 * h.val + d.val) % 64 = d.val; omega
      simp only [hm, Fin.eta]
    · intro q
      exact isReal_projRow _ _ hu h7 _
    · intro p l
      rw [load2]
      simp only [Nat.zero_add]
      exact Blk.blk_ones m c t p l
  · intro l
    rw [load2]
    simp only [Nat.zero_add]
    exact Blk.blk_f m c t l
  · intro l
    rw [load2]
    simp only [Nat.zero_add]
    exact Blk.blk_m1 m c t l
  · intro l
    rw [load2]
    simp only [Nat.zero_add]
    exact Blk.blk_m2 m c t l

/-! ## The whole arrays after the run -/

/-- The keys' array ends holding the new keys. -/
theorem final_k (c : Dev nD) (hf : Finite m c) : (Cert.MixerIdeal.Gen.dats m 0 c).arrAt 25 cfg0.N = kres m c :=
  (Cert.MixerIdeal.Gen.dats m 0 c).arrAt_eq_of_cover 25 (kres m c) (fun t _ => by
    show (cfg0.win 25).cut (grid0.coords t) ((Cert.MixerIdeal.Gen.dats m 0 c).after 25 t) = (win0_25.blk t).view.read (Elt Ideal) (kres m c)
    rw [after0_25]
    funext x
    obtain ⟨r, l, rfl⟩ : ∃ (r : Fin 512) (l : Fin 128), x = (ix2 r l : S512x128.Idx) :=
      ⟨x 0, x 1, by funext a; match a with | ⟨0, _⟩ => rfl | ⟨1, _⟩ => rfl⟩
    exact (out_k m c hf t r l).trans (congrArg (kres m c) (Blk.emb_k t r l)).symm) Blk.cover_k

/-- The values' array ends holding the new values. -/
theorem final_v (c : Dev nD) : (Cert.MixerIdeal.Gen.dats m 0 c).arrAt 26 cfg0.N = vres m c :=
  (Cert.MixerIdeal.Gen.dats m 0 c).arrAt_eq_of_cover 26 (vres m c) (fun t _ => by
    show (cfg0.win 26).cut (grid0.coords t) ((Cert.MixerIdeal.Gen.dats m 0 c).after 26 t) = (win0_26.blk t).view.read (Elt Ideal) (vres m c)
    rw [after0_26]
    funext x
    obtain ⟨r, l, rfl⟩ : ∃ (r : Fin 512) (l : Fin 128), x = (ix2 r l : S512x128.Idx) :=
      ⟨x 0, x 1, by funext a; match a with | ⟨0, _⟩ => rfl | ⟨1, _⟩ => rfl⟩
    exact (out_v m c t r l).trans (congrArg (vres m c) (Blk.emb_v t r l)).symm) Blk.cover_v

end Cert.MixerVal.Kernel

end
-- ==== Proof.MixerRef.lean ====
/-
  The mixer's reference read at an index: the keys and the values of the sample rows, joined with the last 64 rows of the cache.
-/
module

public import proofs.«01_k».proof.Proof.Gen.MixerRefIdeal.Read
public import proofs.«01_k».proof.Proof.MixerMath

@[expose] public section

set_option maxRecDepth 16384

noncomputable section

open Idealize.ShloMosaic Idealize.ShloMosaic.TcCoe Idealize.SL.Sem Idealize.ShloMosaic.Pointwise
open Cert.FfnMath Cert.MixerMath

namespace Cert.MixerVal.Ref

open Cert.MixerRefIdeal Cert.MixerRefIdeal.Gen Cert.MixerRefIdeal.Read

/-- The reference's modulated rows. -/
theorem mod_apply (x0) (x1) (x6) (b : Fin 8) (s : Fin 64) (k : Fin 1024) :
    val_main_v28 (F := Ideal) x0 x1 x6 (ix3 b s k)
      = modRow (fun k => x0 (ix2 ⟨b.val * 64 + s.val, by omega⟩ k)) (fun k => x6 (ix2 0 k)) (fun k => x1 (ix3 b 3 k)) (fun k => x1 (ix3 b 4 k)) k := by
  pointwise [val_main_v3, val_main_v4, val_main_v5, val_main_v6, val_main_v7,
    val_main_v8, val_main_v9, val_main_v10, val_main_v11, val_main_v12, val_main_v13, val_main_v14, val_main_v15, val_main_v16,
    val_main_v17, val_main_v18, val_main_v19, val_main_v20, val_main_v21, val_main_v22, val_main_v23, val_main_v24, val_main_v25,
    val_main_v26, val_main_v27, val_main_v28, val_main_cst, val_main_cst_0, val_main_cst_1, val_main_cst_2]
  rfl

/-- The modulated rows' products with the large weight. -/
theorem proj_apply (x0) (x1) (x6) (x7) (b : Fin 8) (s : Fin 64) (j : Fin 3328) :
    val_main_v30 (F := Ideal) x0 x1 x6 x7 (ix3 b s j)
      = projRow (modRow (fun k => x0 (ix2 ⟨b.val * 64 + s.val, by omega⟩ k)) (fun k => x6 (ix2 0 k)) (fun k => x1 (ix3 b 3 k)) (fun k => x1 (ix3 b 4 k)))
          (fun k j => x7 (ix3 0 k j)) j := by
  pointwise [val_main_v29, val_main_v30]
  simp only [mod_apply]
  rfl

/-- The values of head `h`. -/
theorem v_apply (x0) (x1) (x6) (x7) (b : Fin 8) (s : Fin 64) (h : Fin 2) (d : Fin 64) :
    val_main_v34 (F := Ideal) x0 x1 x6 x7 (ix4 b s h d) = val_main_v30 (F := Ideal) x0 x1 x6 x7 (ix3 b s ⟨1152 + (64 * h.val + d.val), by omega⟩) := by
  pointwise [val_main_v34, val_main_v33]
  simp only [Nat.mul_comm]

/-- The keys of head `h`, before their norm. -/
theorem k_apply (x0) (x1) (x6) (x7) (b : Fin 8) (s : Fin 64) (h : Fin 2) (d : Fin 64) :
    val_main_v32 (F := Ideal) x0 x1 x6 x7 (ix4 b s h d) = val_main_v30 (F := Ideal) x0 x1 x6 x7 (ix3 b s ⟨1024 + (64 * h.val + d.val), by omega⟩) := by
  pointwise [val_main_v32, val_main_v31]
  simp only [Nat.mul_comm]

/-- The normed keys. -/
theorem norm_apply (x0) (x1) (x6) (x7) (x19) (b : Fin 8) (s : Fin 64) (h : Fin 2) (d : Fin 64) :
    val_main_v48 (F := Ideal) x0 x1 x6 x7 x19 (ix4 b s h d)
      = headRow (fun d => val_main_v32 (F := Ideal) x0 x1 x6 x7 (ix4 b s h d)) (fun d => x19 (ix2 0 d)) d := by
  pointwise [val_main_v35, val_main_v36, val_main_v37, val_main_v38, val_main_v39, val_main_v40, val_main_v41, val_main_v42, val_main_v43, val_main_v44,
    val_main_v45, val_main_v46, val_main_v47, val_main_v48, val_main_cst_3, val_main_cst_4, val_main_cst_5]
  rfl

/-- The frequencies. -/
theorem freq_apply (i : Fin 8) : val_main_v54 (F := Ideal) (ix1 i) = freq i := by
  pointwise [val_main_v49, val_main_v50, val_main_v51, val_main_v52, val_main_v53, val_main_v54, val_main_cst_6, val_main_cst_7]
  rfl

/-- The angles. -/
theorem ang_apply (s : Fin 64) (i : Fin 8) : val_main_v60 (F := Ideal) (ix2 s i) = pos s.val * freq i := by
  pointwise [val_main_v0, val_main_v1, val_main_v2, val_main_c, val_main_v55, val_main_v56, val_main_v57, val_main_v58, val_main_v59, val_main_v60]
  rw [freq_apply]
  rfl

/-- The rotated keys. -/
theorem rope_apply (x0) (x1) (x6) (x7) (x19) (b : Fin 8) (s : Fin 64) (h : Fin 2) (d : Fin 64) :
    val_main_v80 (F := Ideal) x0 x1 x6 x7 x19 (ix4 b s h d)
      = ropeRow (pos s.val) freq (fun d => val_main_v48 (F := Ideal) x0 x1 x6 x7 x19 (ix4 b s h d)) d := by
  pointwise [val_main_v80, val_main_v79, val_main_v78, val_main_v77, val_main_v76, val_main_v75, val_main_v74, val_main_v73, val_main_v72,
   val_main_v71, val_main_v70, val_main_v69, val_main_v68, val_main_v67, val_main_v66, val_main_v65, val_main_v64, val_main_v63, val_main_v62, val_main_v61]
  simp only [ang_apply]
  unfold ropeRow
  by_cases h8 : d.val < 8
  · rw [dif_pos (show d.val < 16 by omega), dif_pos h8, dif_pos h8]
    simp only [Nat.add_comm]
  · by_cases h16 : d.val < 16
    · rw [dif_pos h16, dif_neg h8, dif_neg h8, dif_pos h16]
      simp only [show 8 + (d.val - 8) = d.val by omega, Fin.eta]
    · rw [dif_neg h16, dif_neg h8, dif_neg h16]
      simp only [show 16 + (d.val - 16) = d.val by omega, Fin.eta]

/-- The keys a sequence is left with, at place `p` of its window: the later half of the cache, then the new keys. -/
theorem kout_apply (x0) (x1) (x2) (x6) (x7) (x19) (b : Fin 8) (p : Fin 128) (h : Fin 2) (d : Fin 64) :
    val_main_v86 (F := Ideal) x0 x1 x2 x6 x7 x19 (ix5 0 b p h d)
      = if hp : 64 + p.val < 128 then x2 (ix5 0 b ⟨64 + p.val, hp⟩ h d)
        else ropeRow (pos (64 + p.val - 128)) freq (headRow (fun d => projRow (modRow (fun k => x0 (ix2 ⟨b.val * 64 + (64 + p.val - 128), by omega⟩ k))
          (fun k => x6 (ix2 0 k)) (fun k => x1 (ix3 b 3 k)) (fun k => x1 (ix3 b 4 k))) (fun k j => x7 (ix3 0 k j)) ⟨1024 + (64 * h.val + d.val), by omega⟩)
            (fun d => x19 (ix2 0 d))) d := by
  pointwise [val_main_v86, val_main_v85, val_main_v82, val_main_v81]
  simp only [rope_apply, norm_apply, k_apply, proj_apply]

/-- The values a sequence is left with, at place `p` of its window. -/
theorem vout_apply (x0) (x1) (x3) (x6) (x7) (b : Fin 8) (p : Fin 128) (h : Fin 2) (d : Fin 64) :
    val_main_v88 (F := Ideal) x0 x1 x3 x6 x7 (ix5 0 b p h d)
      = if hp : 64 + p.val < 128 then x3 (ix5 0 b ⟨64 + p.val, hp⟩ h d)
        else projRow (modRow (fun k => x0 (ix2 ⟨b.val * 64 + (64 + p.val - 128), by omega⟩ k))
          (fun k => x6 (ix2 0 k)) (fun k => x1 (ix3 b 3 k)) (fun k => x1 (ix3 b 4 k))) (fun k j => x7 (ix3 0 k j)) ⟨1152 + (64 * h.val + d.val), by omega⟩ := by
  pointwise [val_main_v88, val_main_v87, val_main_v84, val_main_v83]
  simp only [v_apply, proj_apply]

end Cert.MixerVal.Ref

end
-- ==== Proof.MixerVal.lean ====
/-
  The mixer of the sample batch: the windows of keys and values it leaves are the ones the reference defines. What the kernel
  stores is in `Proof/MixerOut.lean`, what the reference says at an index in `Proof/MixerRef.lean`.
-/
module

public import proofs.«01_k».proof.Defs
public import proofs.«01_k».proof.Proof.Gen.MixerIdeal.Frame
public import proofs.«01_k».proof.Proof.Gen.MixerRefIdeal.Run
public import proofs.«01_k».proof.Proof.Gen.MixerRefIdeal.Read
public import proofs.«01_k».proof.Proof.Gen.Pre_finite_inputs
public import proofs.«01_k».proof.Proof.MixerOut
public import proofs.«01_k».proof.Proof.MixerRef
public import Idealize.ShloMosaic.Lib.Quiescent

@[expose] public section

set_option maxRecDepth 16384

noncomputable section

open Idealize.ShloMosaic Idealize.ShloMosaic.TcCoe Idealize.SL.Sem Idealize.ShloMosaic.Pointwise
open Cert.FfnMath Cert.MixerMath

namespace Cert.MixerVal

namespace Kernel

open Cert.MixerIdeal Cert.MixerIdeal.Gen

variable (m : (ℓ : Loc nD τ sig) → Buf (Elt Ideal) ℓ)

/-- The window of keys the reference defines, of the kernel's inputs. -/
def keys (c : Dev nD) : FVec Ideal S1x8x128x2x64 .f32 :=
  Cert.MixerRefIdeal.Read.val_main_v86 (F := Ideal) (m (c, main_arg0)) (m (c, main_arg1)) (m (c, main_arg2)) (m (c, main_arg6)) (m (c, main_arg7)) (m (c, main_arg19))

/-- The window of values the reference defines, of the kernel's inputs. -/
def vals (c : Dev nD) : FVec Ideal S1x8x128x2x64 .f32 :=
  Cert.MixerRefIdeal.Read.val_main_v88 (F := Ideal) (m (c, main_arg0)) (m (c, main_arg1)) (m (c, main_arg3)) (m (c, main_arg6)) (m (c, main_arg7))

/-- An index of the window is five coordinates, the first of them 0. -/
theorem idx5 (i : S1x8x128x2x64.Idx) :
    ∃ (b : Fin 8) (p : Fin 128) (h : Fin 2) (d : Fin 64), i = (ix5 0 b p h d : S1x8x128x2x64.Idx) :=
  ⟨i 1, i 2, i 3, i 4, by
    funext a
    match a with
    | ⟨0, _⟩ => exact Subsingleton.elim (α := Fin 1) _ _
    | ⟨1, _⟩ => rfl
    | ⟨2, _⟩ => rfl
    | ⟨3, _⟩ => rfl
    | ⟨4, _⟩ => rfl⟩

/-- The keys' window after the run. -/
theorem end_k (c : Dev nD) (hf : Finite m c) :
    Pipeline.afterTail₀ cfgs (Cert.MixerIdeal.Gen.dats m) 0 (V0 m) [hostOps1] c main_v155 = keys m c := by
  funext i
  obtain ⟨b, p, h, d, rfl⟩ := idx5 i
  unfold Pipeline.afterTail₀
  refine (Blk.tail_k _ b p h d).trans (Eq.trans ?_ (Ref.kout_apply _ _ _ _ _ _ b p h d).symm)
  split
  · next hp =>
    rw [Pipeline.withArrays_of_ne _ c (V0 m c) _ main_arg2 (by exact (by decide : ∀ w, Pipeline.arrRef spec0 w ≠ main_arg2))]
    exact congrFun (V_main_arg2 m c) _
  · next hp =>
    have hw := Pipeline.withArrays_arr (cfgs 0).spec winFacts0.arr_inj c (V0 m c) (fun w => (Cert.MixerIdeal.Gen.dats m 0 c).arrAt w (cfgs 0).N) 25
    refine (congrFun (hw.trans (final_k m c hf)) (ix2 ⟨b.val * 64 + (64 + p.val - 128), by omega⟩ ⟨64 * h.val + d.val, by omega⟩)).trans ?_
    have e1 : (b.val * 64 + (64 + p.val - 128)) / 64 = b.val := by omega
    have e2 : (b.val * 64 + (64 + p.val - 128)) % 64 = 64 + p.val - 128 := by omega
    have e3 : (64 * h.val + d.val) / 64 = h.val := by omega
    have e4 : (64 * h.val + d.val) % 64 = d.val := by omega
    show ropeRow (pos ((b.val * 64 + (64 + p.val - 128)) % 64)) freq (headRow (fun d' => projRow (modRow _ _
        (fun k => (m (c, main_arg1) : FVec Ideal S8x9x1024 .f32) (ix3 ⟨(b.val * 64 + (64 + p.val - 128)) / 64, _⟩ 3 k))
        (fun k => (m (c, main_arg1) : FVec Ideal S8x9x1024 .f32) (ix3 ⟨(b.val * 64 + (64 + p.val - 128)) / 64, _⟩ 4 k))) _
        ⟨1024 + (64 * ((64 * h.val + d.val) / 64) + d'.val), _⟩) _) ⟨(64 * h.val + d.val) % 64, _⟩ = _
    simp only [e1, e2, e3, e4, Fin.eta]
    rfl

/-- The values' window after the run. -/
theorem end_v (c : Dev nD) :
    Pipeline.afterTail₀ cfgs (Cert.MixerIdeal.Gen.dats m) 0 (V0 m) [hostOps1] c main_v160 = vals m c := by
  funext i
  obtain ⟨b, p, h, d, rfl⟩ := idx5 i
  unfold Pipeline.afterTail₀
  refine (Blk.tail_v _ b p h d).trans (Eq.trans ?_ (Ref.vout_apply _ _ _ _ _ b p h d).symm)
  split
  · next hp =>
    rw [Pipeline.withArrays_of_ne _ c (V0 m c) _ main_arg3 (by exact (by decide : ∀ w, Pipeline.arrRef spec0 w ≠ main_arg3))]
    exact congrFun (V_main_arg3 m c) _
  · next hp =>
    have hw := Pipeline.withArrays_arr (cfgs 0).spec winFacts0.arr_inj c (V0 m c) (fun w => (Cert.MixerIdeal.Gen.dats m 0 c).arrAt w (cfgs 0).N) 26
    refine (congrFun (hw.trans (final_v m c)) (ix2 ⟨b.val * 64 + (64 + p.val - 128), by omega⟩ ⟨64 * h.val + d.val, by omega⟩)).trans ?_
    have e1 : (b.val * 64 + (64 + p.val - 128)) / 64 = b.val := by omega
    show projRow (modRow _ _
        (fun k => (m (c, main_arg1) : FVec Ideal S8x9x1024 .f32) (ix3 ⟨(b.val * 64 + (64 + p.val - 128)) / 64, _⟩ 3 k))
        (fun k => (m (c, main_arg1) : FVec Ideal S8x9x1024 .f32) (ix3 ⟨(b.val * 64 + (64 + p.val - 128)) / 64, _⟩ 4 k))) _
        ⟨1152 + (64 * h.val + d.val), _⟩ = _
    simp only [e1, Fin.eta]
    rfl

/-- An entry whose comparison with the largest 32-bit number came out 1 is a number. -/
theorem isReal_of_cmp {s : Shape} (x : FVec Ideal s .f32) (M : FVec Ideal s .f32) (hM : ∀ i, M i = Ideal.ofBits .f32 0x7F7FFFFF#32)
    (h : cmpf (F := Ideal) .ole (Host.absf (F := Ideal) x) M = fun _ => 1#1) (i : s.Idx) : IsReal (x i) := by
  have h1 := congrFun h i
  refine isReal_of_abs_le ?_
  by_contra hn
  have h2 : cmpf (F := Ideal) .ole (Host.absf (F := Ideal) x) M i = BitVec.ofBool (decide (max (x i) (-(x i)) ≤ M i)) := rfl
  rw [h2, hM, decide_eq_false hn] at h1
  exact absurd h1 (by decide)

/-- The precondition says the inputs the keys are computed from are numbers. -/
theorem finite_of_pre (hpre : Cert.Pre_MixerIdeal_finite_inputs m) (c : Dev nD) : Finite m c := by
  obtain ⟨h0, h1, h6, h7⟩ := hpre c
  exact ⟨fun r k => isReal_of_cmp _ _ (fun _ => rfl) h0 _, fun b p k => isReal_of_cmp _ _ (fun _ => rfl) h1 _,
    fun k => isReal_of_cmp _ _ (fun _ => rfl) h6 _, fun k j => isReal_of_cmp _ _ (fun _ => rfl) h7 _⟩

/-- The kernel ends with the two windows, its arguments unchanged. -/
theorem run (ρ : Dev nD → PrngReg) (hf : ∀ c, Finite m c) :
    θ_run (defs (F := Ideal)) (onTc (τ := τ) (main (F := Ideal))) ⟨m, fun _ => 0, ρ⟩ (fun r => ∀ c : Dev nD,
      r.2.mem ((c.tc : Thread nD τ).loc main_v155) = keys m c ∧ r.2.mem ((c.tc : Thread nD τ).loc main_v160) = vals m c) :=
  (θ_run defs _ _).mono (fun _ h c =>
      ⟨((h c).2 main_v155 (Pipeline.mem_restRefs_of main_v155 (by decide) (by decide))).trans (end_k m c (hf c)),
        ((h c).2 main_v160 (Pipeline.mem_restRefs_of main_v160 (by decide) (by decide))).trans (end_v m c)⟩)
    (run_main m ρ)

end Kernel

/-- With numbers for inputs, the kernel and the reference end with the same windows of keys and values. -/
theorem algebraic : Cert.algebraic_MixerIdeal_MixerRefIdeal_pre_finite_inputs := by
  intro m ρ m' ρ' hpre hagree
  refine ⟨fun c => Kernel.keys m c, fun c => Kernel.vals m c, ?_, ?_⟩
  · exact (θ_run Cert.MixerIdeal.defs _ _).mono (fun _ h c => ⟨(h.1 c).1, (h.1 c).2, h.2 c⟩)
      (θ_run_and (Kernel.run m ρ fun c => Kernel.finite_of_pre m hpre c) (Cert.MixerIdeal.Gen.unchanged (F := Ideal) m ρ))
  · refine (θ_run Cert.MixerRefIdeal.defs _ _).mono (fun _ h c => ⟨(h c).1.trans ?_, (h c).2.1.trans ?_, (h c).2.2⟩)
      (Cert.MixerRefIdeal.Value.run (F := Ideal) m' ρ')
    · rw [Cert.MixerRefIdeal.Read.val_main_v86_eq, (hagree c).1, (hagree c).2.1, (hagree c).2.2.1, (hagree c).2.2.2.2.2.2.1, (hagree c).2.2.2.2.2.2.2.1, (hagree c).2.2.2.2.2.2.2.2.2.2.2.2.2.2.2.2.2.2.2.1]
      rfl
    · refine (Cert.MixerRefIdeal.Read.val_main_v88_eq _ _ _ _ _).trans ?_
      rw [(hagree c).1, (hagree c).2.1, (hagree c).2.2.2.1, (hagree c).2.2.2.2.2.2.1, (hagree c).2.2.2.2.2.2.2.1]
      rfl

/-- The reference's frame: its run keeps its arguments, and it declares no semaphore. -/
theorem frame_ref : Cert.quiescent_MixerRefIdeal := fun m ρ _ =>
  (θ_run Cert.MixerRefIdeal.defs _ _).mono (fun r h => ⟨fun c => (h c).2.2,
      Idealize.ShloMosaic.sem_eq_zero_of_no_sems (by decide) r.2⟩)
    (Cert.MixerRefIdeal.Value.run (F := Ideal) m ρ)

/-- The same, from the memories the precondition allows. -/
theorem frame_ref_pre : Cert.quiescent_MixerRefIdeal_pre_finite_inputs := fun m ρ _ => frame_ref m ρ trivial

end Cert.MixerVal

end
-- ==== Proof.AdaVal.lean ====
/-
  The adaptive modulation (`Ada`): what the pipelined kernel writes at a grid point, the whole array after its run, the two
  slices of it that the call returns, the host reference read at an index, and the equality of the two.
-/
module

public import proofs.«01_k».proof.Defs
public import proofs.«01_k».proof.Proof.Gen.AdaIdeal.Frame
public import proofs.«01_k».proof.Proof.Gen.AdaRefIdeal.Run
public import proofs.«01_k».proof.Proof.Gen.AdaRefIdeal.Read
public import Idealize.ShloMosaic.Lib.StableHlo.ReadAt
public import Idealize.ShloMosaic.Lib.Pointwise.IndexBridge
public import Idealize.ShloMosaic.Lib.Pointwise
public import Idealize.ShloMosaic.Lib.Pipeline.ReadBack
public import Idealize.ShloMosaic.Lib.Pipeline.Value
public import Idealize.ShloMosaic.Lib.WholeRead
public import Idealize.ShloMosaic.Lib.Quiescent

@[expose] public section

set_option maxRecDepth 16384

noncomputable section

open Idealize.ShloMosaic Idealize.ShloMosaic.TcCoe Idealize.SL.Sem Idealize.ShloMosaic.Pointwise

namespace Cert.AdaVal

/-- Entry `C` of a condition vector's modulation: the vector times its logistic, times column `C` of the weight, plus the bias. -/
def adaRow (v : Fin 1024 → EReal) (w : (⟨3, ![1, 1024, 9216]⟩ : Shape).Idx → EReal) (b : (⟨2, ![1, 9216]⟩ : Shape).Idx → EReal)
    (C : Fin 9216) : EReal :=
  (∑ j, v j * Ideal.logistic (v j) * w (ix3 0 j C)) + b (ix2 0 C)

end Cert.AdaVal

namespace Cert.AdaVal.Kernel

open Cert.AdaIdeal Cert.AdaIdeal.Gen Cert.AdaVal

/-- What one grid point stores, at row `r` and column `k`, of its input blocks. -/
theorem out_apply (x0) (x1) (x2) (r : Fin 16) (k : Fin 1024) :
    out0_3 (F := Ideal) x0 x1 x2 (ix2 r k)
      = (∑ j, x0 (ix2 r j) * Ideal.logistic (x0 (ix2 r j)) * x1 (ix2 j k)) + x2 (ix2 0 k) := by
  unfold out0_3
  rw [View.canon_cons_unit_lit _ _ _ (by decide)]
  pointwise [k0_pay1]

variable (m : (ℓ : Loc nD τ sig) → Buf (Elt Ideal) ℓ)

/-! ## The arrays the grid is given -/

/-- The first two rows are the prompt's condition vectors. -/
theorem V_p (c : Dev nD) (b : Fin 2) (j : Fin 1024) : (V m c main_v1 : FVec Ideal S16x1024 .f32) (ix2 ⟨b.val, by omega⟩ j)
    = (m (c, main_arg0) : FVec Ideal S2x1024 .f32) (ix2 b j) := by
  show StableHlo.after (List.flatten _) _ _ _ = _
  after_reads_at
  rw [dif_pos (show b.val < 10 by omega)]
  after_reads_at

/-- The next eight rows are the sample's condition vectors. -/
theorem V_s (c : Dev nD) (b : Fin 8) (j : Fin 1024) : (V m c main_v1 : FVec Ideal S16x1024 .f32) (ix2 ⟨2 + b.val, by omega⟩ j)
    = (m (c, main_arg1) : FVec Ideal S8x1024 .f32) (ix2 b j) := by
  show StableHlo.after (List.flatten _) _ _ _ = _
  after_reads_at
  rw [dif_pos (show 2 + b.val < 10 by omega)]
  after_reads_at

/-- The weight. -/
theorem V_w (c : Dev nD) (j : Fin 1024) (C : Fin 9216) : (V m c main_v2 : FVec Ideal S1024x9216 .f32) (ix2 j C)
    = (m (c, main_arg2) : FVec Ideal S1x1024x9216 .f32) (ix3 0 j C) := by
  show StableHlo.after (List.flatten _) _ _ _ = _
  after_reads_at

/-- The bias. -/
theorem V_b (c : Dev nD) (C : Fin 9216) : (V m c main_v4 : FVec Ideal S1x9216 .f32) (ix2 0 C)
    = (m (c, main_arg3) : FVec Ideal S1x9216 .f32) (ix2 0 C) := by
  show StableHlo.after (List.flatten _) _ _ _ = _
  after_reads_at

/-! ## The blocks a grid point is given -/

/-- There are nine grid points. -/
theorem lt_N (t : Fin cfg0.N) : t.val < 9 := by
  have h := t.isLt
  have e : cfg0.N = 9 := N_0
  omega

/-- Every point is given all the condition vectors. -/
theorem blk_c (c : Dev nD) (t : Fin cfg0.N) (r : Fin 16) (j : Fin 1024) : (iblk m c 0 t : FVec Ideal S16x1024 .f32) (ix2 r j)
    = (V m c main_v1 : FVec Ideal S16x1024 .f32) (ix2 r j) := by
  have e0 : win0_0.index t 0 * win0_0.size 0 = 0 := by revert t; decide +kernel
  have e1 : win0_0.index t 1 * win0_0.size 1 = 0 := by revert t; decide +kernel
  refine congrArg (V m c main_v1 : FVec Ideal S16x1024 .f32) ?_
  funext a
  match a with
  | ⟨0, _⟩ => exact Fin.ext (by show win0_0.index t 0 * win0_0.size 0 + 1 * r.val = r.val; rw [e0, Nat.one_mul, Nat.zero_add])
  | ⟨1, _⟩ => exact Fin.ext (by show win0_0.index t 1 * win0_0.size 1 + 1 * j.val = j.val; rw [e1, Nat.one_mul, Nat.zero_add])

/-- Point `t` is given columns `1024 t` to `1024 t + 1023` of the weight. -/
theorem blk_w (c : Dev nD) (t : Fin cfg0.N) (j : Fin 1024) (k : Fin 1024) : (iblk m c 1 t : FVec Ideal S1024x1024 .f32) (ix2 j k)
    = (m (c, main_arg2) : FVec Ideal S1x1024x9216 .f32) (ix3 0 j ⟨1024 * t.val + k.val, by have := lt_N t; omega⟩) := by
  have e0 : win0_1.index t 0 * win0_1.size 0 = 0 := by revert t; decide +kernel
  have e1 : win0_1.index t 1 * win0_1.size 1 = 1024 * t.val := by revert t; decide +kernel
  refine Eq.trans (congrArg (V m c main_v2 : FVec Ideal S1024x9216 .f32) ?_) (V_w m c j _)
  funext a
  match a with
  | ⟨0, _⟩ => exact Fin.ext (by show win0_1.index t 0 * win0_1.size 0 + 1 * j.val = j.val; rw [e0, Nat.one_mul, Nat.zero_add])
  | ⟨1, _⟩ => exact Fin.ext (by show win0_1.index t 1 * win0_1.size 1 + 1 * k.val = 1024 * t.val + k.val; rw [e1, Nat.one_mul])

/-- Point `t` is given the same columns of the bias. -/
theorem blk_b (c : Dev nD) (t : Fin cfg0.N) (k : Fin 1024) : (iblk m c 2 t : FVec Ideal S1x1024 .f32) (ix2 0 k)
    = (m (c, main_arg3) : FVec Ideal S1x9216 .f32) (ix2 0 ⟨1024 * t.val + k.val, by have := lt_N t; omega⟩) := by
  have e0 : win0_2.index t 0 * win0_2.size 0 = 0 := by revert t; decide +kernel
  have e1 : win0_2.index t 1 * win0_2.size 1 = 1024 * t.val := by revert t; decide +kernel
  refine Eq.trans (congrArg (V m c main_v4 : FVec Ideal S1x9216 .f32) ?_) (V_b m c _)
  funext a
  match a with
  | ⟨0, _⟩ => exact Fin.ext (by show win0_2.index t 0 * win0_2.size 0 + 1 * 0 = 0; rw [e0])
  | ⟨1, _⟩ => exact Fin.ext (by show win0_2.index t 1 * win0_2.size 1 + 1 * k.val = 1024 * t.val + k.val; rw [e1, Nat.one_mul])

/-! ## The whole array after the run -/

/-- The modulation of every row of the padded array. -/
def res (c : Dev nD) : FVec Ideal S16x9216 .f32 := fun i =>
  adaRow (fun j => (V m c main_v1 : FVec Ideal S16x1024 .f32) (ix2 (i 0) j)) (m (c, main_arg2)) (m (c, main_arg3)) (i 1)

/-- Column `C` lies in the block of point `C / 1024`. -/
theorem cover (i : S16x9216.Idx) : ∃ t : Fin cfg0.N, (cfg0.win 3).flush t = true ∧ i ∈ ((cfg0.win 3).blk t).view.set := by
  have h0 : (i 0 : Nat) < 16 := (i 0).isLt
  have h1 : (i 1 : Nat) < 9216 := (i 1).isLt
  have hN : cfg0.N = 9 := N_0
  have e : ∀ t : Fin cfg0.N, (cfg0.win 3).flush t = true ∧ win0_3.index t 0 * win0_3.size 0 = 0 ∧ win0_3.xsize (grid0.coords t) 0 = 16
      ∧ win0_3.index t 1 * win0_3.size 1 = 1024 * t.val ∧ win0_3.xsize (grid0.coords t) 1 = 1024 := by decide +kernel
  obtain ⟨t, ht⟩ : ∃ t : Fin cfg0.N, t.val = (i 1).val / 1024 := ⟨⟨(i 1).val / 1024, by omega⟩, rfl⟩
  obtain ⟨hf, e0, s0, e1, s1⟩ := e t
  refine ⟨t, hf, ?_⟩
  show i ∈ ((View.whole main_v5).slice (win0_3.rect t)).set
  rw [View.set_slice_whole, Rect.mem_set_unit]
  intro a
  match a with
  | ⟨0, _⟩ =>
    show win0_3.index t 0 * win0_3.size 0 ≤ (i 0 : Nat) ∧ (i 0 : Nat) < win0_3.index t 0 * win0_3.size 0 + win0_3.xsize (grid0.coords t) 0
    rw [e0, s0]; omega
  | ⟨1, _⟩ =>
    show win0_3.index t 1 * win0_3.size 1 ≤ (i 1 : Nat) ∧ (i 1 : Nat) < win0_3.index t 1 * win0_3.size 1 + win0_3.xsize (grid0.coords t) 1
    rw [e1, s1]; omega

/-- The array ends holding the modulation. -/
theorem final (c : Dev nD) : (Cert.AdaIdeal.Gen.dats m 0 c).arrAt 3 cfg0.N = res m c :=
  (Cert.AdaIdeal.Gen.dats m 0 c).arrAt_eq_of_cover 3 (res m c) (fun t _ => by
    show (cfg0.win 3).cut (grid0.coords t) ((Cert.AdaIdeal.Gen.dats m 0 c).after 3 t) = (win0_3.blk t).view.read (Elt Ideal) (res m c)
    rw [after0_3]
    funext x
    obtain ⟨r, k, rfl⟩ : ∃ (r : Fin 16) (k : Fin 1024), x = (ix2 r k : S16x1024.Idx) :=
      ⟨x 0, x 1, by funext a; match a with | ⟨0, _⟩ => rfl | ⟨1, _⟩ => rfl⟩
    have e0 : win0_3.index t 0 * win0_3.size 0 = 0 := by revert t; decide +kernel
    have e1 : win0_3.index t 1 * win0_3.size 1 = 1024 * t.val := by revert t; decide +kernel
    have ht := lt_N t
    have e : (win0_3.blk t).view.emb (ix2 r k : S16x1024.Idx) = (ix2 r ⟨1024 * t.val + k.val, by omega⟩ : S16x9216.Idx) := by
      funext a
      match a with
      | ⟨0, _⟩ => exact Fin.ext (by show win0_3.index t 0 * win0_3.size 0 + 1 * r.val = r.val; rw [e0, Nat.one_mul, Nat.zero_add])
      | ⟨1, _⟩ => exact Fin.ext (by show win0_3.index t 1 * win0_3.size 1 + 1 * k.val = 1024 * t.val + k.val; rw [e1, Nat.one_mul])
    refine Eq.trans (out_apply _ _ _ r k) (Eq.trans ?_ (congrArg (res m c) e).symm)
    simp only [blk_c, blk_w, blk_b]
    rfl) cover

/-! ## The two slices returned -/

/-- The prompt's slice, read in the array before it is cut. -/
theorem tail_p (W : Valuation τ sig (Elt Ideal)) (b : Fin 2) (p : Fin 9) (k : Fin 1024) :
    (StableHlo.after (List.flatten [hostOps1]) W (Proc.devRef .tc main_v7) : FVec Ideal S2x9x1024 .f32) (ix3 b p k)
      = (W (Proc.devRef .tc main_v5) : FVec Ideal S16x9216 .f32) (ix2 ⟨b.val, by omega⟩ ⟨p.val * 1024 + k.val, by omega⟩) := by
  after_reads_at

/-- The sample's slice. -/
theorem tail_s (W : Valuation τ sig (Elt Ideal)) (b : Fin 8) (p : Fin 9) (k : Fin 1024) :
    (StableHlo.after (List.flatten [hostOps1]) W (Proc.devRef .tc main_v8) : FVec Ideal S8x9x1024 .f32) (ix3 b p k)
      = (W (Proc.devRef .tc main_v5) : FVec Ideal S16x9216 .f32) (ix2 ⟨2 + b.val, by omega⟩ ⟨p.val * 1024 + k.val, by omega⟩) := by
  after_reads_at

/-- The prompt's modulation, of device `c`'s arguments. -/
def modP (c : Dev nD) : FVec Ideal S2x9x1024 .f32 := fun i =>
  adaRow (fun j => (m (c, main_arg0) : FVec Ideal S2x1024 .f32) (ix2 (i 0) j)) (m (c, main_arg2)) (m (c, main_arg3))
    ⟨(i 1).val * 1024 + (i 2).val, by have h1 : (i 1).val < 9 := (i 1).isLt; have h2 : (i 2).val < 1024 := (i 2).isLt; omega⟩

/-- The sample's modulation. -/
def modS (c : Dev nD) : FVec Ideal S8x9x1024 .f32 := fun i =>
  adaRow (fun j => (m (c, main_arg1) : FVec Ideal S8x1024 .f32) (ix2 (i 0) j)) (m (c, main_arg2)) (m (c, main_arg3))
    ⟨(i 1).val * 1024 + (i 2).val, by have h1 : (i 1).val < 9 := (i 1).isLt; have h2 : (i 2).val < 1024 := (i 2).isLt; omega⟩

/-- The prompt's slice after the run. -/
theorem end_p (c : Dev nD) :
    Pipeline.afterTail₀ cfgs (Cert.AdaIdeal.Gen.dats m) 0 (V0 m) [hostOps1] c main_v7 = modP m c := by
  funext i
  obtain ⟨b, p, k, rfl⟩ : ∃ (b : Fin 2) (p : Fin 9) (k : Fin 1024), i = (ix3 b p k : S2x9x1024.Idx) :=
    ⟨i 0, i 1, i 2, by funext a; match a with | ⟨0, _⟩ => rfl | ⟨1, _⟩ => rfl | ⟨2, _⟩ => rfl⟩
  unfold Pipeline.afterTail₀
  have hw := Pipeline.withArrays_arr (cfgs 0).spec winFacts0.arr_inj c (V0 m c) (fun w => (Cert.AdaIdeal.Gen.dats m 0 c).arrAt w (cfgs 0).N) 3
  refine (tail_p _ b p k).trans ((congrFun (hw.trans (final m c)) _).trans ?_)
  exact congrArg (fun v => adaRow v _ _ _) (funext fun j => V_p m c b j)

/-- The sample's slice after the run. -/
theorem end_s (c : Dev nD) :
    Pipeline.afterTail₀ cfgs (Cert.AdaIdeal.Gen.dats m) 0 (V0 m) [hostOps1] c main_v8 = modS m c := by
  funext i
  obtain ⟨b, p, k, rfl⟩ : ∃ (b : Fin 8) (p : Fin 9) (k : Fin 1024), i = (ix3 b p k : S8x9x1024.Idx) :=
    ⟨i 0, i 1, i 2, by funext a; match a with | ⟨0, _⟩ => rfl | ⟨1, _⟩ => rfl | ⟨2, _⟩ => rfl⟩
  unfold Pipeline.afterTail₀
  have hw := Pipeline.withArrays_arr (cfgs 0).spec winFacts0.arr_inj c (V0 m c) (fun w => (Cert.AdaIdeal.Gen.dats m 0 c).arrAt w (cfgs 0).N) 3
  refine (tail_s _ b p k).trans ((congrFun (hw.trans (final m c)) _).trans ?_)
  exact congrArg (fun v => adaRow v _ _ _) (funext fun j => V_s m c b j)

/-- The kernel ends with the two modulations. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = modP m c ∧ r.2.mem ((c.tc : Thread nD τ).loc main_v8) = modS m c) :=
  (θ_run defs _ _).mono (fun _ h c =>
      ⟨((h c).2 main_v7 (Pipeline.mem_restRefs_of main_v7 (by decide) (by decide))).trans (end_p m c),
        ((h c).2 main_v8 (Pipeline.mem_restRefs_of main_v8 (by decide) (by decide))).trans (end_s m c)⟩)
    (run_main m ρ)

end Cert.AdaVal.Kernel

namespace Cert.AdaVal.Ref

open Cert.AdaRefIdeal Cert.AdaRefIdeal.Gen Cert.AdaRefIdeal.Read Cert.AdaVal

/-- The reference's modulation of the prompt. -/
theorem p_apply (x0) (x2) (x3) (b : Fin 2) (p : Fin 9) (k : Fin 1024) : val_main_v14 (F := Ideal) x0 x2 x3 (ix3 b p k)
    = adaRow (fun j => x0 (ix2 b j)) x2 x3 ⟨p.val * 1024 + k.val, by omega⟩ := by
  pointwise [val_main_call0_v0, val_main_call0_v1, val_main_call0_cst, val_main_call0_v2, val_main_call0_v3, val_main_call0_cst_0,
    val_main_call0_v4, val_main_call0_v5, val_main_v0, val_main_v1, val_main_v2, val_main_v3, val_main_v4, val_main_v5, val_main_v6, val_main_v14]
  rfl

/-- The reference's modulation of the sample. -/
theorem s_apply (x1) (x2) (x3) (b : Fin 8) (p : Fin 9) (k : Fin 1024) : val_main_v15 (F := Ideal) x1 x2 x3 (ix3 b p k)
    = adaRow (fun j => x1 (ix2 b j)) x2 x3 ⟨p.val * 1024 + k.val, by omega⟩ := by
  pointwise [val_main_call1_v0, val_main_call1_v1, val_main_call1_cst, val_main_call1_v2, val_main_call1_v3, val_main_call1_cst_0,
    val_main_call1_v4, val_main_call1_v5, val_main_v7, val_main_v8, val_main_v9, val_main_v10, val_main_v11, val_main_v12, val_main_v13, val_main_v15]
  rfl

end Cert.AdaVal.Ref

namespace Cert.AdaVal

/-- The kernel and the reference end with the same two modulations. -/
theorem algebraic : Cert.algebraic_AdaIdeal_AdaRefIdeal := by
  intro m ρ m' ρ' _ hagree
  refine ⟨fun c => Kernel.modP m c, fun c => Kernel.modS m c, ?_, ?_⟩
  · exact (θ_run Cert.AdaIdeal.defs _ _).mono (fun _ h c => ⟨(h.1 c).1, (h.1 c).2, h.2 c⟩)
      (θ_run_and (Kernel.run m ρ) (Cert.AdaIdeal.Gen.unchanged (F := Ideal) m ρ))
  · refine (θ_run Cert.AdaRefIdeal.defs _ _).mono (fun _ h c => ⟨(h c).1.trans ?_, (h c).2.1.trans ?_, (h c).2.2⟩)
      (Cert.AdaRefIdeal.Value.run (F := Ideal) m' ρ')
    · rw [Cert.AdaRefIdeal.Read.val_main_v14_eq, (hagree c).1, (hagree c).2.2.1, (hagree c).2.2.2]
      funext i
      obtain ⟨b, p, k, rfl⟩ : ∃ (b : Fin 2) (p : Fin 9) (k : Fin 1024), i = (ix3 b p k : Cert.AdaRefIdeal.S2x9x1024.Idx) :=
        ⟨i 0, i 1, i 2, by funext a; match a with | ⟨0, _⟩ => rfl | ⟨1, _⟩ => rfl | ⟨2, _⟩ => rfl⟩
      exact Ref.p_apply _ _ _ b p k
    · refine (Cert.AdaRefIdeal.Read.val_main_v15_eq _ _ _).trans ?_
      rw [(hagree c).2.1, (hagree c).2.2.1, (hagree c).2.2.2]
      funext i
      obtain ⟨b, p, k, rfl⟩ : ∃ (b : Fin 8) (p : Fin 9) (k : Fin 1024), i = (ix3 b p k : Cert.AdaRefIdeal.S8x9x1024.Idx) :=
        ⟨i 0, i 1, i 2, by funext a; match a with | ⟨0, _⟩ => rfl | ⟨1, _⟩ => rfl | ⟨2, _⟩ => rfl⟩
      exact Ref.s_apply _ _ _ b p k

/-- The reference's frame: its run keeps its arguments, and it declares no semaphore. -/
theorem frame_ref : Cert.quiescent_AdaRefIdeal := fun m ρ _ =>
  (θ_run Cert.AdaRefIdeal.defs _ _).mono (fun r h => ⟨fun c => (h c).2.2,
      Idealize.ShloMosaic.sem_eq_zero_of_no_sems (by decide) r.2⟩)
    (Cert.AdaRefIdeal.Value.run (F := Ideal) m ρ)

end Cert.AdaVal

end
-- ==== Proof.FfnSampleOneVal.lean ====
/-
  The first feed-forward half step of the sample batch (`FfnSampleOne`): what the pipelined kernel writes at a grid point, the
  whole array after its run, the host reference read at an index, and the equality of the two.
-/
module

public import proofs.«01_k».proof.Defs
public import proofs.«01_k».proof.Proof.Gen.FfnSampleOneIdeal.Value
public import proofs.«01_k».proof.Proof.Gen.FfnSampleOneRefIdeal.Run
public import proofs.«01_k».proof.Proof.Gen.FfnSampleOneRefIdeal.Read
public import proofs.«01_k».proof.Proof.FfnMath
public import Idealize.ShloMosaic.Lib.Quiescent

@[expose] public section

set_option maxRecDepth 512

noncomputable section

open Idealize.ShloMosaic Idealize.ShloMosaic.TcCoe Idealize.SL.Sem Idealize.ShloMosaic.Pointwise
open Cert.FfnMath

namespace Cert.FfnSampleOneVal

/-- The half step's result as an array of 512 rows: row `R` is position `R % 64` of sequence `R / 64`. The three rows
    of the modulation it uses are rows 0 (shift), 1 (scale) and 2 (gate). -/
def result (x : (⟨3, ![8, 64, 1024]⟩ : Shape).Idx → EReal) (mod : (⟨3, ![8, 9, 1024]⟩ : Shape).Idx → EReal)
    (n : (⟨2, ![1, 1024]⟩ : Shape).Idx → EReal) (w1 : (⟨3, ![1, 1024, 5632]⟩ : Shape).Idx → EReal)
    (w2 : (⟨3, ![1, 2816, 1024]⟩ : Shape).Idx → EReal) (R : Fin 512) (k : Fin 1024) : EReal :=
  outRow (fun k => x (ix3 ⟨R.val / 64, by omega⟩ ⟨R.val % 64, by omega⟩ k)) (fun k => n (ix2 0 k))
    (fun k => mod (ix3 ⟨R.val / 64, by omega⟩ 0 k)) (fun k => mod (ix3 ⟨R.val / 64, by omega⟩ 1 k))
    (fun k => mod (ix3 ⟨R.val / 64, by omega⟩ 2 k)) (fun k j => w1 (ix3 0 k j)) (fun j c => w2 (ix3 0 j c)) k

end Cert.FfnSampleOneVal

namespace Cert.FfnSampleOneVal.Kernel

open Cert.FfnSampleOneIdeal Cert.FfnSampleOneIdeal.Gen Cert.FfnSampleOneVal

/-- What one grid point stores, at row `r` and column `k`: the half step's row of its input blocks. -/
theorem out_apply (c) (i) (arg1) (h1) (arg2) (h2) (arg3) (h3) (arg4) (h4) (arg5) (h5) (arg6) (h6) (arg7) (h7)
    (x0) (x1) (x2) (x3) (x4) (r : Fin 512) (k : Fin 1024) :
    out0_A_5 (F := Ideal) c i arg1 h1 arg2 h2 arg3 h3 arg4 h4 arg5 h5 arg6 h6 arg7 h7 x0 x1 x2 x3 x4 (ix2 r k)
      = outRow (fun k => x0 (ix2 r k)) (fun k => x2 (ix2 0 k)) (fun k => x1 (ix3 ⟨r.val / 64, by omega⟩ 0 k)) (fun k => x1 (ix3 ⟨r.val / 64, by omega⟩ 1 k))
          (fun k => x1 (ix3 ⟨r.val / 64, by omega⟩ 2 k)) (fun k j => x3 (ix2 k j)) (fun j c => x4 (ix2 j c)) k := by
  unfold out0_A_5 kernelRun0_A
  dsimp only
  rw [View.read_writes_junk_eq_canon, View.canon_cons_unit_lit _ _ _ (by decide)]
  pointwise [k0_pay1]
  sl_unfold_run_names
  pointwise [k0_pay2, k0_pay3]
  refine congrArg₂ (· + ·) ?_ (congrArg₂ (· * ·) (congrArg₂ (· * ·) rfl ?_) (Finset.sum_congr rfl fun j _ => congrArg₂ (· * ·) ?_ ?_))
  · rw [load2]
    simp only [Nat.zero_add, Fin.eta]
  · rw [load3]
    simp only [Nat.zero_add, Fin.eta]
    rfl
  · rw [View.readCov_eq_canon']
    refine Eq.trans (congrArg _ (idx2 _ r j)) ?_
    simp only [Nat.zero_add, Fin.eta]
    refine canon_of_piecesOf (Val := Elt Ideal) (e := .bf16) (hidArr (fun r => modRow (fun k => x0 (ix2 r k)) (fun k => x2 (ix2 0 k)) (fun k => x1 (ix3 ⟨r.val / 64, by omega⟩ 0 k)) (fun k => x1 (ix3 ⟨r.val / 64, by omega⟩ 1 k))) (fun k j => x3 (ix2 k j))) _ ?_ (ix2 r j) ?_
    · refine ⟨?_, ?_, ?_, ?_, ?_, ?_, ?_, ?_, ?_, ?_, ?_, trivial⟩
      all_goals dsimp only
      all_goals refine piece_eq _ _ _ (by omega) _ _ (fun r c => ?_)
      all_goals pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
      all_goals simp only [load2, load3, Nat.zero_add, Fin.eta]
      all_goals unfold hidRow modRow rmsRow
      all_goals simp only [← Nat.add_assoc, Nat.reduceAdd, Nat.zero_add]
      all_goals rfl
    · simp only [List.mem_cons, exists_eq_or_imp, List.not_mem_nil, false_and, exists_false, or_false, exists_eq_left, mem_cols]
      have hj := j.isLt
      omega
  · rw [load2]
    simp only [Nat.zero_add, Fin.eta]

variable (m : (ℓ : Loc nD τ sig) → Buf (Elt Ideal) ℓ)

/-! ## The arrays the call is entered with -/

/-- The token rows: the eight sequences, one after the other. -/
theorem V_x (c : Dev nD) (R : Fin 512) (k : Fin 1024) : (V m c main_v6 : FVec Ideal S512x1024 .f32) (ix2 R k)
    = (m (c, main_arg0) : FVec Ideal S8x64x1024 .f32) (ix3 ⟨R.val / 64, by omega⟩ ⟨R.val % 64, by omega⟩ k) := by
  show StableHlo.after hostOps0 _ _ _ = _
  after_results
  pointwise []

/-- The first weight. -/
theorem V_w1 (c : Dev nD) (k : Fin 1024) (j : Fin 5632) : (V m c main_v1 : FVec Ideal S1024x5632 .bf16) (ix2 k j)
    = (m (c, main_arg3) : FVec Ideal S1x1024x5632 .f32) (ix3 0 k j) := by
  show StableHlo.after hostOps0 _ _ _ = _
  after_results
  pointwise []

/-- The second weight. -/
theorem V_w2 (c : Dev nD) (k : Fin 2816) (j : Fin 1024) : (V m c main_v3 : FVec Ideal S2816x1024 .bf16) (ix2 k j)
    = (m (c, main_arg4) : FVec Ideal S1x2816x1024 .f32) (ix3 0 k j) := by
  show StableHlo.after hostOps0 _ _ _ = _
  after_results
  pointwise []

/-- The norm's weight. -/
theorem V_n (c : Dev nD) (j : Fin 1024) : (V m c main_v5 : FVec Ideal S1x1024 .f32) (ix2 0 j)
    = (m (c, main_arg2) : FVec Ideal S1x1024 .f32) (ix2 0 j) := by
  show StableHlo.after hostOps0 _ _ _ = _
  after_results
  pointwise []

/-! ## The blocks a grid point is given -/

/-- There is one grid point. -/
theorem lt_N (t : Fin cfg0.N) : t.val < 1 := by
  have h := t.isLt
  have e : cfg0.N = 1 := N_0
  omega

/-- Point `t` is given token rows `512 t` to `512 t + 511`. -/
theorem blk_x (c : Dev nD) (t : Fin cfg0.N) (r : Fin 512) (k : Fin 1024) : (iblk m c 0 t : FVec Ideal S512x1024 .f32) (ix2 r k)
    = (m (c, main_arg0) : FVec Ideal S8x64x1024 .f32) (ix3 ⟨r.val / 64, by omega⟩
        ⟨(512 * t.val + r.val) % 64, by omega⟩ k) := by
  have e0 : win0_0.index t 0 * win0_0.size 0 = 512 * t.val := by revert t; decide +kernel
  have e1 : win0_0.index t 1 * win0_0.size 1 = 0 := by revert t; decide +kernel
  have hb : (512 * t.val + r.val) / 64 = r.val / 64 := by have := lt_N t; omega
  have hV := V_x m c ⟨512 * t.val + r.val, by have := lt_N t; omega⟩ k
  simp only [hb] at hV
  refine Eq.trans (congrArg (V m c main_v6 : FVec Ideal S512x1024 .f32) ?_) hV
  funext a
  match a with
  | ⟨0, _⟩ => exact Fin.ext (by show win0_0.index t 0 * win0_0.size 0 + 1 * r.val = 512 * t.val + r.val; rw [e0, Nat.one_mul])
  | ⟨1, _⟩ => exact Fin.ext (by show win0_0.index t 1 * win0_0.size 1 + 1 * k.val = k.val; rw [e1, Nat.one_mul, Nat.zero_add])

/-- Every point is given the modulation of all eight sequences. -/
theorem blk_mod (c : Dev nD) (t : Fin cfg0.N) (b : Fin 8) (p : Fin 9) (k : Fin 1024) : (iblk m c 1 t : FVec Ideal S8x9x1024 .f32) (ix3 b p k)
    = (m (c, main_arg1) : FVec Ideal S8x9x1024 .f32) (ix3 b p k) := by
  have e0 : win0_1.index t 0 * win0_1.size 0 = 0 := by revert t; decide +kernel
  have e1 : win0_1.index t 1 * win0_1.size 1 = 0 := by revert t; decide +kernel
  have e2 : win0_1.index t 2 * win0_1.size 2 = 0 := by revert t; decide +kernel
  refine Eq.trans (congrArg (V m c main_arg1 : FVec Ideal S8x9x1024 .f32) ?_) (congrFun (V_main_arg1 m c) _)
  funext a
  match a with
  | ⟨0, _⟩ => exact Fin.ext (by show win0_1.index t 0 * win0_1.size 0 + 1 * b.val = b.val; rw [e0, Nat.one_mul, Nat.zero_add])
  | ⟨1, _⟩ => exact Fin.ext (by show win0_1.index t 1 * win0_1.size 1 + 1 * p.val = p.val; rw [e1, Nat.one_mul, Nat.zero_add])
  | ⟨2, _⟩ => exact Fin.ext (by show win0_1.index t 2 * win0_1.size 2 + 1 * k.val = k.val; rw [e2, Nat.one_mul, Nat.zero_add])

/-- Every point is given the whole norm weight. -/
theorem blk_n (c : Dev nD) (t : Fin cfg0.N) (k : Fin 1024) : (iblk m c 2 t : FVec Ideal S1x1024 .f32) (ix2 0 k)
    = (m (c, main_arg2) : FVec Ideal S1x1024 .f32) (ix2 0 k) := by
  have e0 : win0_2.index t 0 * win0_2.size 0 = 0 := by revert t; decide +kernel
  have e1 : win0_2.index t 1 * win0_2.size 1 = 0 := by revert t; decide +kernel
  refine Eq.trans (congrArg (V m c main_v5 : FVec Ideal S1x1024 .f32) ?_) (V_n m c k)
  funext a
  match a with
  | ⟨0, _⟩ => exact Fin.ext (by show win0_2.index t 0 * win0_2.size 0 + 1 * 0 = 0; rw [e0])
  | ⟨1, _⟩ => exact Fin.ext (by show win0_2.index t 1 * win0_2.size 1 + 1 * k.val = k.val; rw [e1, Nat.one_mul, Nat.zero_add])

/-- Every point is given the whole first weight. -/
theorem blk_w1 (c : Dev nD) (t : Fin cfg0.N) (k : Fin 1024) (j : Fin 5632) : (iblk m c 3 t : FVec Ideal S1024x5632 .bf16) (ix2 k j)
    = (m (c, main_arg3) : FVec Ideal S1x1024x5632 .f32) (ix3 0 k j) := by
  have e0 : win0_3.index t 0 * win0_3.size 0 = 0 := by revert t; decide +kernel
  have e1 : win0_3.index t 1 * win0_3.size 1 = 0 := by revert t; decide +kernel
  refine Eq.trans (congrArg (V m c main_v1 : FVec Ideal S1024x5632 .bf16) ?_) (V_w1 m c k j)
  funext a
  match a with
  | ⟨0, _⟩ => exact Fin.ext (by show win0_3.index t 0 * win0_3.size 0 + 1 * k.val = k.val; rw [e0, Nat.one_mul, Nat.zero_add])
  | ⟨1, _⟩ => exact Fin.ext (by show win0_3.index t 1 * win0_3.size 1 + 1 * j.val = j.val; rw [e1, Nat.one_mul, Nat.zero_add])

/-- Every point is given the whole second weight. -/
theorem blk_w2 (c : Dev nD) (t : Fin cfg0.N) (k : Fin 2816) (j : Fin 1024) : (iblk m c 4 t : FVec Ideal S2816x1024 .bf16) (ix2 k j)
    = (m (c, main_arg4) : FVec Ideal S1x2816x1024 .f32) (ix3 0 k j) := by
  have e0 : win0_4.index t 0 * win0_4.size 0 = 0 := by revert t; decide +kernel
  have e1 : win0_4.index t 1 * win0_4.size 1 = 0 := by revert t; decide +kernel
  refine Eq.trans (congrArg (V m c main_v3 : FVec Ideal S2816x1024 .bf16) ?_) (V_w2 m c k j)
  funext a
  match a with
  | ⟨0, _⟩ => exact Fin.ext (by show win0_4.index t 0 * win0_4.size 0 + 1 * k.val = k.val; rw [e0, Nat.one_mul, Nat.zero_add])
  | ⟨1, _⟩ => exact Fin.ext (by show win0_4.index t 1 * win0_4.size 1 + 1 * j.val = j.val; rw [e1, Nat.one_mul, Nat.zero_add])

/-! ## The whole array after the run -/

/-- The half step's result of device `c`'s arguments, as the array it is written to. -/
def res (c : Dev nD) : FVec Ideal S512x1024 .f32 := fun i =>
  result (m (c, main_arg0)) (m (c, main_arg1)) (m (c, main_arg2)) (m (c, main_arg3)) (m (c, main_arg4)) (i 0) (i 1)

/-- Point `t` writes back its block of the half step's result. -/
theorem flushed_eq (c : Dev nD) (t : Fin cfg0.N) :
    (Cert.FfnSampleOneIdeal.Gen.dats m 0 c).flushed 5 t = (win0_5.blk t).view.read (Elt Ideal) (res m c) := by
  rw [Cert.FfnSampleOneIdeal.Value.flushed5_A]
  have e0 : win0_5.index t 0 * win0_5.size 0 = 512 * t.val := by revert t; decide +kernel
  have e1 : win0_5.index t 1 * win0_5.size 1 = 0 := by revert t; decide +kernel
  funext x
  obtain ⟨r, k, rfl⟩ : ∃ (r : Fin 512) (k : Fin 1024), x = (ix2 r k : S512x1024.Idx) :=
    ⟨x 0, x 1, by funext a; match a with | ⟨0, _⟩ => rfl | ⟨1, _⟩ => rfl⟩
  have ht := lt_N t
  refine Eq.trans (out_apply ..) ?_
  have e : (win0_5.blk t).view.emb (ix2 r k : S512x1024.Idx) = (ix2 ⟨512 * t.val + r.val, by omega⟩ k : S512x1024.Idx) := by
    funext a
    match a with
    | ⟨0, _⟩ => exact Fin.ext (by show win0_5.index t 0 * win0_5.size 0 + 1 * r.val = 512 * t.val + r.val; rw [e0, Nat.one_mul])
    | ⟨1, _⟩ => exact Fin.ext (by show win0_5.index t 1 * win0_5.size 1 + 1 * k.val = k.val; rw [e1, Nat.one_mul, Nat.zero_add])
  refine Eq.trans ?_ (congrArg (res m c) e).symm
  have hb : (512 * t.val + r.val) / 64 = r.val / 64 := by omega
  show _ = result _ _ _ _ _ (⟨512 * t.val + r.val, _⟩ : Fin 512) k
  unfold result
  simp only [blk_x, blk_mod, blk_n, blk_w1, blk_w2, hb]

/-- The blocks tile the array: row `R` lies in the block of point `R / 512`. -/
theorem cover (i : S512x1024.Idx) :
    ∃ t : Fin cfg0.N, (cfg0.win 5).flush t = true ∧ i ∈ ((cfg0.win 5).blk t).view.set := by
  have h0 : (i 0 : Nat) < 512 := (i 0).isLt
  have h1 : (i 1 : Nat) < 1024 := (i 1).isLt
  have hN : cfg0.N = 1 := N_0
  have e : ∀ t : Fin cfg0.N, win0_5.index t 0 * win0_5.size 0 = 512 * t.val ∧ win0_5.xsize (grid0.coords t) 0 = 512
      ∧ win0_5.index t 1 * win0_5.size 1 = 0 ∧ win0_5.xsize (grid0.coords t) 1 = 1024 := by decide +kernel
  obtain ⟨t, ht⟩ : ∃ t : Fin cfg0.N, t.val = (i 0).val / 512 := ⟨⟨(i 0).val / 512, by omega⟩, rfl⟩
  obtain ⟨e0, s0, e1, s1⟩ := e t
  refine ⟨t, flush0_5 t, ?_⟩
  show i ∈ ((View.whole main_v7).slice (win0_5.rect t)).set
  rw [View.set_slice_whole, Rect.mem_set_unit]
  intro a
  match a with
  | ⟨0, _⟩ =>
    show win0_5.index t 0 * win0_5.size 0 ≤ (i 0 : Nat) ∧ (i 0 : Nat) < win0_5.index t 0 * win0_5.size 0 + win0_5.xsize (grid0.coords t) 0
    rw [e0, s0]; omega
  | ⟨1, _⟩ =>
    show win0_5.index t 1 * win0_5.size 1 ≤ (i 1 : Nat) ∧ (i 1 : Nat) < win0_5.index t 1 * win0_5.size 1 + win0_5.xsize (grid0.coords t) 1
    rw [e1, s1]; omega

/-- The output array ends holding the half step's result. -/
theorem final (c : Dev nD) : (Cert.FfnSampleOneIdeal.Gen.dats m 0 c).arrAt 5 cfg0.N = res m c :=
  (Cert.FfnSampleOneIdeal.Gen.dats m 0 c).arrAt_eq_of_cover 5 (res m c) (fun t _ => flushed_eq m c t) cover

end Cert.FfnSampleOneVal.Kernel

namespace Cert.FfnSampleOneVal.Ref

open Cert.FfnSampleOneRefIdeal Cert.FfnSampleOneRefIdeal.Gen Cert.FfnSampleOneRefIdeal.Read Cert.FfnSampleOneVal

/-- The reference's modulated rows. -/
theorem mod_apply (x0) (x1) (x2) (b : Fin 8) (s : Fin 64) (k : Fin 1024) :
    val_main_v28 (F := Ideal) x0 x1 x2 (ix3 b s k)
      = modRow (fun k => x0 (ix3 b s k)) (fun k => x2 (ix2 0 k)) (fun k => x1 (ix3 b 0 k)) (fun k => x1 (ix3 b 1 k)) k := by
  pointwise [val_main_v0, val_main_v1, val_main_v2, val_main_v3, val_main_v4, val_main_v5, val_main_v6, val_main_v7, val_main_v8,
    val_main_v9, val_main_v10, val_main_v11, val_main_v12, val_main_v13, val_main_v14, val_main_v15, val_main_v16, val_main_v17,
    val_main_v18, val_main_v19, val_main_v20, val_main_v21, val_main_v22, val_main_v23, val_main_v24, val_main_v25, val_main_v26,
    val_main_v27, val_main_v28, val_main_cst_0, val_main_cst_1, val_main_cst_2, val_main_cst_3]
  rfl

/-- The reference's gated hidden rows. -/
theorem hid_apply (x0) (x1) (x2) (x3) (b : Fin 8) (s : Fin 64) (j : Fin 2816) :
    val_main_v35 (F := Ideal) x0 x1 x2 x3 (ix3 b s j)
      = hidRow (modRow (fun k => x0 (ix3 b s k)) (fun k => x2 (ix2 0 k)) (fun k => x1 (ix3 b 0 k)) (fun k => x1 (ix3 b 1 k)))
          (fun k j => x3 (ix3 0 k j)) j := by
  pointwise [val_main_v29, val_main_v31, val_main_v32, val_main_v33, val_main_call0_v0, val_main_call0_v1, val_main_call0_cst,
    val_main_call0_v2, val_main_call0_v3, val_main_call0_cst_0, val_main_call0_v4, val_main_call0_v5, val_main_v34, val_main_v35]
  simp only [mod_apply]
  rfl

/-- The reference's result. -/
theorem out_apply (x0) (x1) (x2) (x3) (x4) (R : Fin 512) (k : Fin 1024) :
    val_main_v40 (F := Ideal) x0 x1 x2 x3 x4 (ix2 R k) = result x0 x1 x2 x3 x4 R k := by
  pointwise [val_main_cst, val_main_v0, val_main_v1, val_main_v2, val_main_v3, val_main_v4, val_main_v30, val_main_v36, val_main_v37, val_main_v38, val_main_v39, val_main_v40]
  simp only [hid_apply]
  rfl

end Cert.FfnSampleOneVal.Ref

namespace Cert.FfnSampleOneVal

/-- The kernel and the reference end with the same array. -/
theorem algebraic : Cert.algebraic_FfnSampleOneIdeal_FfnSampleOneRefIdeal := by
  intro m ρ m' ρ' _ hagree
  refine ⟨fun c => Kernel.res m c, ?_, ?_⟩
  · exact (θ_run Cert.FfnSampleOneIdeal.defs _ _).mono (fun _ h c => ⟨(h c).1.trans (Kernel.final m c), (h c).2⟩)
      (Cert.FfnSampleOneIdeal.Value.run_blocks (F := Ideal) m ρ)
  · refine (θ_run Cert.FfnSampleOneRefIdeal.defs _ _).mono (fun _ h c => ⟨(h c).1.trans ?_, (h c).2⟩)
      (Cert.FfnSampleOneRefIdeal.Value.run (F := Ideal) m' ρ')
    rw [Cert.FfnSampleOneRefIdeal.Read.val_main_v40_eq, (hagree c).1, (hagree c).2.1, (hagree c).2.2.1, (hagree c).2.2.2.1,
      (hagree c).2.2.2.2]
    funext i
    obtain ⟨R, k, rfl⟩ : ∃ (R : Fin 512) (k : Fin 1024), i = (ix2 R k : Cert.FfnSampleOneRefIdeal.S512x1024.Idx) :=
      ⟨i 0, i 1, by funext a; match a with | ⟨0, _⟩ => rfl | ⟨1, _⟩ => rfl⟩
    exact Ref.out_apply _ _ _ _ _ R k

/-- The reference's frame: its run keeps its arguments, and it declares no semaphore. -/
theorem frame_ref : Cert.quiescent_FfnSampleOneRefIdeal := fun m ρ _ =>
  (θ_run Cert.FfnSampleOneRefIdeal.defs _ _).mono (fun r h => ⟨fun c => (h c).2,
      Idealize.ShloMosaic.sem_eq_zero_of_no_sems (by decide) r.2⟩)
    (Cert.FfnSampleOneRefIdeal.Value.run (F := Ideal) m ρ)

end Cert.FfnSampleOneVal

end
-- ==== Proof.lean ====
/-
  The certificate of the four feed-forward half steps, of the modulation and of the sample batch's mixer. The feed-forward value
  proofs are in `Proof/FfnOneVal.lean`, `Proof/FfnTwoVal.lean`, `Proof/FfnSampleVal.lean` and `Proof/FfnSampleOneVal.lean`, over the
  row mathematics of `Proof/FfnMath.lean`; the mixer's is in `Proof/MixerVal.lean`, over that of `Proof/MixerMath.lean`; the
  modulation's is in `Proof/AdaVal.lean`. The kernels' frames are the generated ones.
-/
module

public import proofs.«01_k».proof.Defs
public import proofs.«01_k».proof.Proof.Gen.FfnOne
public import proofs.«01_k».proof.Proof.Gen.FfnOne.Frame
public import proofs.«01_k».proof.Proof.Gen.FfnOneIdeal
public import proofs.«01_k».proof.Proof.Gen.FfnOneIdeal.Frame
public import proofs.«01_k».proof.Proof.Gen.FfnOneIdeal.Value
public import proofs.«01_k».proof.Proof.Gen.FfnOneRefIdeal
public import proofs.«01_k».proof.Proof.Gen.FfnOneRefIdeal.Run
public import proofs.«01_k».proof.Proof.Gen.FfnOneRefIdeal.Read
public import proofs.«01_k».proof.Proof.Gen.FfnTwo
public import proofs.«01_k».proof.Proof.Gen.FfnTwo.Frame
public import proofs.«01_k».proof.Proof.Gen.FfnTwoIdeal
public import proofs.«01_k».proof.Proof.Gen.FfnTwoIdeal.Frame
public import proofs.«01_k».proof.Proof.Gen.FfnTwoIdeal.Value
public import proofs.«01_k».proof.Proof.Gen.FfnTwoRefIdeal
public import proofs.«01_k».proof.Proof.Gen.FfnTwoRefIdeal.Run
public import proofs.«01_k».proof.Proof.Gen.FfnTwoRefIdeal.Read
public import proofs.«01_k».proof.Proof.Gen.FfnSample
public import proofs.«01_k».proof.Proof.Gen.FfnSample.Frame
public import proofs.«01_k».proof.Proof.Gen.FfnSampleIdeal
public import proofs.«01_k».proof.Proof.Gen.FfnSampleIdeal.Frame
public import proofs.«01_k».proof.Proof.Gen.FfnSampleIdeal.Value
public import proofs.«01_k».proof.Proof.Gen.FfnSampleRefIdeal
public import proofs.«01_k».proof.Proof.Gen.FfnSampleRefIdeal.Run
public import proofs.«01_k».proof.Proof.Gen.FfnSampleRefIdeal.Read
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.MixerRefIdeal
public import proofs.«01_k».proof.Proof.Gen.MixerRefIdeal.Run
public import proofs.«01_k».proof.Proof.Gen.MixerRefIdeal.Read
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.FfnSampleOne
public import proofs.«01_k».proof.Proof.Gen.FfnSampleOne.Frame
public import proofs.«01_k».proof.Proof.Gen.FfnSampleOneIdeal
public import proofs.«01_k».proof.Proof.Gen.FfnSampleOneIdeal.Frame
public import proofs.«01_k».proof.Proof.Gen.FfnSampleOneIdeal.Value
public import proofs.«01_k».proof.Proof.Gen.FfnSampleOneRefIdeal
public import proofs.«01_k».proof.Proof.Gen.FfnSampleOneRefIdeal.Run
public import proofs.«01_k».proof.Proof.Gen.FfnSampleOneRefIdeal.Read
public import proofs.«01_k».proof.Proof.Gen.Pre_finite_inputs
public import proofs.«01_k».proof.Proof.FfnOneVal
public import proofs.«01_k».proof.Proof.FfnTwoVal
public import proofs.«01_k».proof.Proof.FfnSampleVal
public import proofs.«01_k».proof.Proof.MixerVal
public import proofs.«01_k».proof.Proof.AdaVal
public import proofs.«01_k».proof.Proof.FfnSampleOneVal

@[expose] public section

noncomputable section

namespace Cert.Proof

open Idealize.ShloMosaic Idealize.SL.Sem

/-- The four feed-forward calls, the modulation and the mixer end at rest, their idealizations rewrite nothing, and each computes the
    function its reference defines (the mixer: its two windows of keys and values, from inputs that are numbers). -/
theorem claim : Cert.Claim :=
  ⟨Cert.FfnOne.Gen.facts, Cert.FfnOneIdeal.Gen.facts, Cert.FfnOneRefIdeal.Gen.facts, Cert.FfnTwo.Gen.facts,
    Cert.FfnTwoIdeal.Gen.facts, Cert.FfnTwoRefIdeal.Gen.facts, Cert.FfnSample.Gen.facts, Cert.FfnSampleIdeal.Gen.facts,
    Cert.FfnSampleRefIdeal.Gen.facts, Cert.Mixer.Gen.facts, Cert.MixerIdeal.Gen.facts, Cert.MixerRefIdeal.Gen.facts,
    Cert.Ada.Gen.facts, Cert.AdaIdeal.Gen.facts, Cert.AdaRefIdeal.Gen.facts, Cert.FfnSampleOne.Gen.facts,
    Cert.FfnSampleOneIdeal.Gen.facts, Cert.FfnSampleOneRefIdeal.Gen.facts, Cert.Pre_finite_inputs.Gen.facts,
    fun m ρ _ => Cert.FfnOne.Gen.frame m ρ, fun m ρ _ => Cert.FfnOneIdeal.Gen.frame m ρ, Cert.FfnOneVal.frame_ref,
    fun m ρ _ => Cert.FfnTwo.Gen.frame m ρ, fun m ρ _ => Cert.FfnTwoIdeal.Gen.frame m ρ, Cert.FfnTwoVal.frame_ref,
    fun m ρ _ => Cert.FfnSample.Gen.frame m ρ, fun m ρ _ => Cert.FfnSampleIdeal.Gen.frame m ρ, Cert.FfnSampleVal.frame_ref,
    fun m ρ _ => Cert.Mixer.Gen.frame m ρ, fun m ρ _ => Cert.MixerIdeal.Gen.frame m ρ, fun m ρ _ => Cert.MixerIdeal.Gen.frame m ρ,
    Cert.MixerVal.frame_ref, Cert.MixerVal.frame_ref_pre,
    fun m ρ _ => Cert.Ada.Gen.frame m ρ, fun m ρ _ => Cert.AdaIdeal.Gen.frame m ρ, Cert.AdaVal.frame_ref,
    fun m ρ _ => Cert.FfnSampleOne.Gen.frame m ρ, fun m ρ _ => Cert.FfnSampleOneIdeal.Gen.frame m ρ, Cert.FfnSampleOneVal.frame_ref,
    trivial, Cert.FfnOneVal.algebraic, trivial, Cert.FfnTwoVal.algebraic, trivial, Cert.FfnSampleVal.algebraic,
    trivial, Cert.MixerVal.algebraic, trivial, Cert.AdaVal.algebraic, trivial, Cert.FfnSampleOneVal.algebraic⟩

end Cert.Proof

end
